-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v6) = v1 c
          ∧ r.2.mem ((c.tc : Thread Cert.Reference10Ideal.nD Cert.Reference10Ideal.τ).loc Cert.Reference10Ideal.main_v25) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v49) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v27) = v2 c
          ∧ r.2.mem ((c.tc : Thread Cert.Reference12Ideal.nD Cert.Reference12Ideal.τ).loc Cert.Reference12Ideal.main_v32) = v3 c
          ∧ r.2.mem ((c.tc : Thread Cert.Reference12Ideal.nD Cert.Reference12Ideal.τ).loc Cert.Reference12Ideal.main_v58) = v4 c
          ∧ r.2.mem ((c.tc : Thread Cert.Reference12Ideal.nD Cert.Reference12Ideal.τ).loc Cert.Reference12Ideal.main_v57) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v49) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v27) = v2 c
          ∧ r.2.mem ((c.tc : Thread Cert.Reference13Ideal.nD Cert.Reference13Ideal.τ).loc Cert.Reference13Ideal.main_v32) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v57) = v0 c
          ∧ r.2.mem ((c.tc : Thread Cert.Reference14Ideal.nD Cert.Reference14Ideal.τ).loc Cert.Reference14Ideal.main_v48) = v1 c
          ∧ r.2.mem ((c.tc : Thread Cert.Reference14Ideal.nD Cert.Reference14Ideal.τ).loc Cert.Reference14Ideal.main_v32) = v2 c
          ∧ r.2.mem ((c.tc : Thread Cert.Reference14Ideal.nD Cert.Reference14Ideal.τ).loc Cert.Reference14Ideal.main_v58) = v3 c
          ∧ r.2.mem ((c.tc : Thread Cert.Reference14Ideal.nD Cert.Reference14Ideal.τ).loc Cert.Reference14Ideal.main_v56) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  IdealRules.named_const.Statement Cert.Kernel19Ideal.κ "cubic" .f32 0x3D372713#32 ((8943 / 200000 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v65) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v37) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg1) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg1) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg1) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S4096x6144 : Shape := ⟨2, ![4096, 6144]⟩
abbrev S4096x2048 : Shape := ⟨2, ![4096, 2048]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v15 : IVec S_ 1) (main_v16 : FVec F S1x2048 .f32) (main_cst_4 : FVec F S_ .f32) : IVec S_ 1 :=
  let main_v17 : FVec F S1x2048 .f32 := broadcastInDim S1x2048 ![] bcast_S_S1x2048 main_cst_4
  let main_v18 : IVec S1x2048 1 := cmpf .olt main_v16 main_v17
  let main_c_5 : IVec S_ 1 := constantI S_ 1 1#1
  let main_v19 : IVec S_ 1 := (fun x v => Host.reduce IntOp.andi x v reducesTo_S1x2048_S_d0_1 h_S_) main_v18 main_c_5
  let main_v20 : IVec S_ 1 := andi main_v15 main_v19
  let main_v21 : FVec F S8x128x128 .f32 := Host.absf main_arg4
  let main_cst_6 : FVec F S_ .f32 := constant S_ .f32 0x7F800000#32
  let main_v22 : FVec F S8x128x128 .f32 := broadcastInDim S8x128x128 ![] bcast_S_S8x128x128 main_cst_6
  let main_v23 : IVec S8x128x128 1 := cmpf .olt main_v21 main_v22
  let main_c_7 : IVec S_ 1 := constantI S_ 1 1#1
  let main_v24 : IVec S_ 1 := (fun x v => Host.reduce IntOp.andi x v reducesTo_S8x128x128_S_d0_1_2 h_S_) main_v23 main_c_7
  let main_v25 : IVec S_ 1 := andi main_v20 main_v24
  let main_v26 : FVec F S8x128 .f32 := Host.absf main_arg5
  let main_cst_8 : FVec F S_ .f32 := constant S_ .f32 0x7F800000#32
  let main_v27 : FVec F S8x128 .f32 := broadcastInDim S8x128 ![] bcast_S_S8x128 main_cst_8
  let main_v28 : IVec S8x128 1 := cmpf .olt main_v26 main_v27
  let main_c_9 : IVec S_ 1 := constantI S_ 1 1#1
  let main_v29 : IVec S_ 1 := (fun x v => Host.reduce IntOp.andi x v reducesTo_S8x128_S_d0_1 h_S_) main_v28 main_c_9
  let main_v30 : IVec S_ 1 := andi main_v25 main_v29
  main_v30

def fn {F : FTy → Type} [FloatOps F] (main_arg0 : FVec F S4096x6144 .bf16) (main_arg1 : FVec F S4096x2048 .bf16) (main_arg2 : FVec F S1x2048 .f32) (main_arg3 : FVec F S1x2048 .f32) (main_arg4 : FVec F S8x128x128 .f32) (main_arg5 : FVec F S8x128 .f32) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S1x2048 .f32 := Host.absf main_arg2
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  let main_c_3 : IVec S_ 1 := constantI S_ 1 1#1
  let main_v14 : IVec S_ 1 := (fun x v => Host.reduce IntOp.andi x v reducesTo_S1x2048_S_d0_1 h_S_) main_v13 main_c_3
  let main_v15 : IVec S_ 1 := andi main_v10 main_v14
  let main_v16 : FVec F S1x2048 .f32 := Host.absf main_arg3
  let main_cst_4 : FVec F S_ .f32 := constant S_ .f32 0x7F800000#32
  fn_part1 (F := F) main_arg4 main_arg5 main_v15 main_v16 main_cst_4
-- ==== Kernel.lean ====
abbrev S4096x6144 : Shape := ⟨2, ![4096, 6144]⟩
abbrev S4096x2048 : Shape := ⟨2, ![4096, 2048]⟩
abbrev S1x2048 : Shape := ⟨2, ![1, 2048]⟩
abbrev S8x128x128 : Shape := ⟨3, ![8, 128, 128]⟩
abbrev S8x128 : Shape := ⟨2, ![8, 128]⟩
abbrev S8x128x1 : Shape := ⟨3, ![8, 128, 1]⟩
abbrev S256x2048 : Shape := ⟨2, ![256, 2048]⟩
abbrev S256x6144 : Shape := ⟨2, ![256, 6144]⟩
abbrev S256 : Shape := ⟨1, ![256]⟩
abbrev S256x1 : Shape := ⟨2, ![256, 1]⟩
abbrev S128x256 : Shape := ⟨2, ![128, 256]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S8x128x128, .bf16⟩
  | .hbm, ⟨7, _⟩ => ⟨S8x128x1, .f32⟩
  | .hbm, ⟨8, _⟩ => ⟨S4096x6144, .bf16⟩
  | .hbm, ⟨9, _⟩ => ⟨S8x128x128, .f32⟩
  | .hbm, ⟨10, _⟩ => ⟨S8x128x128, .f32⟩
  | .hbm, ⟨11, _⟩ => ⟨S1x2048, .f32⟩
  | .hbm, ⟨12, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S8x128x128, .bf16⟩
  | .local _ .vmem, ⟨11, _⟩ => ⟨S8x128x1, .f32⟩
  | .local _ .vmem, ⟨12, _⟩ => ⟨S256x6144, .bf16⟩
  | .local _ .vmem, ⟨13, _⟩ => ⟨S256x6144, .bf16⟩
  | .local _ .vmem, ⟨14, _⟩ => ⟨S8x128x128, .f32⟩
  | .local _ .vmem, ⟨15, _⟩ => ⟨S8x128x128, .f32⟩
  | .local _ .vmem, ⟨16, _⟩ => ⟨S1x2048, .f32⟩
  | .local _ .vmem, ⟨17, _⟩ => ⟨S1x2048, .f32⟩
  | .local _ .vmem, ⟨18, _⟩ => ⟨S256x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_815 : BitVec 32 := 0#32
  let v1532 : BitVec 1 := Scalar.cmpi .eq arg0 c0_i32_815
  let v1533 : BitVec 32 := Scalar.extui v1532
  let c0_i32_816 : BitVec 32 := 0#32
  let v1534 : BitVec 1 := Scalar.cmpi .ne v1533 c0_i32_816
  v1534

def k0_cond3 (i : grid0.Coords) : BitVec 1 :=
  let arg0 : BitVec 32 := BitVec.ofNat 32 (i 0).val
  let c0_i32_815 : BitVec 32 := 0#32
  let v1532 : BitVec 1 := Scalar.cmpi .eq arg0 c0_i32_815
  let v_true : BitVec 1 := 1#1
  let v1535 : BitVec 1 := Scalar.xori v1532 v_true
  let v1536 : BitVec 32 := Scalar.extui v1535
  let c0_i32_817 : BitVec 32 := 0#32
  let v1537 : BitVec 1 := Scalar.cmpi .ne v1536 c0_i32_817
  v1537

def k0_cond4 (i : grid0.Coords) : BitVec 1 :=
  let arg0 : BitVec 32 := BitVec.ofNat 32 (i 0).val
  let c0_i32_819 : BitVec 32 := 0#32
  let v1540 : BitVec 1 := Scalar.cmpi .eq arg0 c0_i32_819
  let v1541 : BitVec 32 := Scalar.extui v1540
  let c0_i32_820 : BitVec 32 := 0#32
  let v1542 : BitVec 1 := Scalar.cmpi .ne v1541 c0_i32_820
  v1542

def k0_cond5 (i : grid0.Coords) : BitVec 1 :=
  let arg0 : BitVec 32 := BitVec.ofNat 32 (i 0).val
  let c0_i32_819 : BitVec 32 := 0#32
  let v1540 : BitVec 1 := Scalar.cmpi .eq arg0 c0_i32_819
  let true_821 : BitVec 1 := 1#1
  let v1543 : BitVec 1 := Scalar.xori v1540 true_821
  let v1544 : BitVec 32 := Scalar.extui v1543
  let c0_i32_822 : BitVec 32 := 0#32
  let v1545 : BitVec 1 := Scalar.cmpi .ne v1544 c0_i32_822
  v1545

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S4096x6144 : Shape := ⟨2, ![4096, 6144]⟩
abbrev S4096x2048 : Shape := ⟨2, ![4096, 2048]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S32x128x8x256 : Shape := ⟨4, ![32, 128, 8, 256]⟩
abbrev S8x32x256x128 : Shape := ⟨4, ![8, 32, 256, 128]⟩
abbrev S128x8 : Shape := ⟨2, ![128, 8]⟩
abbrev S1x128x8x1 : Shape := ⟨4, ![1, 128, 8, 1]⟩
abbrev S2048 : Shape := ⟨1, ![2048]⟩
abbrev S8x128x1 : Shape := ⟨3, ![8, 128, 1]⟩

abbrev nBuf : Space → Nat
  | .hbm => 222
  | .vmem => 0
  | .smem => 0
  | _ => 0

abbrev hbmTy0_0 (i : Nat) : BufTy := match i % 128 with
  | 0 => ⟨S4096x6144, .bf16⟩
  | 1 => ⟨S4096x2048, .bf16⟩
  | 2 => ⟨S1x2048, .f32⟩
  | 3 => ⟨S1x2048, .f32⟩
  | 4 => ⟨S8x128x128, .f32⟩
  | 5 => ⟨S8x128, .f32⟩
  | 6 => ⟨S4096x6144, .f32⟩
  | 7 => ⟨S4096x2048, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S4096x2048, .f32⟩
  | 23 => ⟨S_, .f32⟩
  | 24 => ⟨S4096x2048, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S_, .f32⟩
  | 31 => ⟨S4096x2048, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S_, .f32⟩
  | 38 => ⟨S4096x2048, .f32⟩
  | 39 => ⟨S4096x2048, .f32⟩
  | 40 => ⟨S4096x2048, .f32⟩
  | 41 => ⟨S4096x2048, .f32⟩
  | 42 => ⟨S4096x2048, .f32⟩
  | 43 => ⟨S4096x2048, .f32⟩
  | 44 => ⟨S_, .f32⟩
  | 45 => ⟨S4096x2048, .f32⟩
  | 46 => ⟨S4096x2048, .f32⟩
  | 47 => ⟨S_, .f32⟩
  | 48 => ⟨S4096x2048, .f32⟩
  | 49 => ⟨S4096x2048, .f32⟩
  | 50 => ⟨S_, .f32⟩
  | 51 => ⟨S4096x2048, .f32⟩
  | 52 => ⟨S4096x2048, .f32⟩
  | 53 => ⟨S4096x2048, .f32⟩
  | 54 => ⟨S_, .f32⟩
  | 55 => ⟨S4096x2048, .f32⟩
  | 56 => ⟨S4096x2048, .f32⟩
  | 57 => ⟨S4096x2048, .f32⟩
  | 58 => ⟨S_, .f32⟩
  | 59 => ⟨S4096x2048, .f32⟩
  | 60 => ⟨S4096x2048, .f32⟩
  | 61 => ⟨S_, .f32⟩
  | 62 => ⟨S4096x2048, .f32⟩
  | 63 => ⟨S4096x2048, .f32⟩
  | 64 => ⟨S4096x2048, .f32⟩
  | 65 => ⟨S_, .f32⟩
  | 66 => ⟨S4096x2048, .f32⟩
  | 67 => ⟨S4096x2048, .f32⟩
  | 68 => ⟨S_, .f32⟩
  | 69 => ⟨S4096x2048, .f32⟩
  | 70 => ⟨S4096x2048, .f32⟩
  | 71 => ⟨S4096x2048, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S4096x2048, .f32⟩
  | 79 => ⟨S4096x2048, .f32⟩
  | 80 => ⟨S4096x2048, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1, .f32⟩
  | 91 => ⟨S4096x1, .f32⟩
  | 92 => ⟨S_, .f32⟩
  | 93 => ⟨S4096x1, .f32⟩
  | 94 => ⟨S4096x1, .f32⟩
  | 95 => ⟨S4096x2048, .f32⟩
  | 96 => ⟨S4096x2048, .f32⟩
  | 97 => ⟨S4096x2048, .f32⟩
  | 98 => ⟨S4096x2048, .f32⟩
  | 99 => ⟨S4096x2048, .f32⟩
  | 100 => ⟨S4096x2048, .f32⟩
  | 101 => ⟨S32x128x8x256, .f32⟩
  | 102 => ⟨S8x32x256x128, .f32⟩
  | 103 => ⟨S32x128x8x256, .f32⟩
  | 104 => ⟨S128x8, .f32⟩
  | 105 => ⟨S1x128x8x1, .f32⟩
  | 106 => ⟨S32x128x8x256, .f32⟩
  | 107 => ⟨S32x128x8x256, .f32⟩
  | 108 => ⟨S4096x2048, .f32⟩
  | 109 => ⟨S4096x2048, .f32⟩
  | 110 => ⟨S4096x2048, .f32⟩
  | 111 => ⟨S4096x2048, .f32⟩
  | 112 => ⟨S_, .f32⟩
  | 113 => ⟨S4096x2048, .f32⟩
  | 114 => ⟨S4096x2048, .f32⟩
  | 115 => ⟨S_, .f32⟩
  | 116 => ⟨S4096x2048, .f32⟩
  | 117 => ⟨S4096x2048, .f32⟩
  | 118 => ⟨S_, .f32⟩
  | 119 => ⟨S4096x2048, .f32⟩
  | 120 => ⟨S4096x2048, .f32⟩
  | 121 => ⟨S4096x2048, .f32⟩
  | 122 => ⟨S4096x2048, .f32⟩
  | 123 => ⟨S4096x2048, .f32⟩
  | 124 => ⟨S4096x2048, .f32⟩
  | 125 => ⟨S4096x2048, .f32⟩
  | 126 => ⟨S4096x2048, .f32⟩
  | 127 => ⟨S4096x2048, .f32⟩
  | _ => ⟨S4096x6144, .bf16⟩

abbrev hbmTy0_1 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S4096x2048, .f32⟩
  | 5 => ⟨S32x128x8x256, .f32⟩
  | 6 => ⟨S_, .f32⟩
  | 7 => ⟨S128x8, .f32⟩
  | 8 => ⟨S1x128x8x1, .f32⟩
  | 9 => ⟨S_, .f32⟩
  | 10 => ⟨S128x8, .f32⟩
  | 11 => ⟨S8x128, .f32⟩
  | 12 => ⟨S8x32x256x128, .f32⟩
  | 13 => ⟨S8x128x128, .f32⟩
  | 14 => ⟨S8x32x256x128, .f32⟩
  | 15 => ⟨S32x128x8x256, .f32⟩
  | 16 => ⟨S4096x2048, .f32⟩
  | 17 => ⟨S_, .f32⟩
  | 18 => ⟨S2048, .f32⟩
  | 19 => ⟨S1x2048, .f32⟩
  | 20 => ⟨S4096x2048, .f32⟩
  | 21 => ⟨S_, .f32⟩
  | 22 => ⟨S2048, .f32⟩
  | 23 => ⟨S1x2048, .f32⟩
  | 24 => ⟨S4096x2048, .f32⟩
  | 25 => ⟨S4096x2048, .f32⟩
  | 26 => ⟨S4096x2048, .f32⟩
  | 27 => ⟨S_, .f32⟩
  | 28 => ⟨S4096, .f32⟩
  | 29 => ⟨S4096x1, .f32⟩
  | 30 => ⟨S4096x2048, .f32⟩
  | 31 => ⟨S4096x2048, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096, .f32⟩
  | 38 => ⟨S4096x2048, .f32⟩
  | 39 => ⟨S4096x2048, .f32⟩
  | 40 => ⟨S4096x2048, .f32⟩
  | 41 => ⟨S4096x2048, .f32⟩
  | 42 => ⟨S4096x2048, .f32⟩
  | 43 => ⟨S4096x2048, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096, .f32⟩
  | 52 => ⟨S4096x2048, .f32⟩
  | 53 => ⟨S4096x2048, .f32⟩
  | 54 => ⟨S4096x2048, .f32⟩
  | 55 => ⟨S4096x2048, .f32⟩
  | 56 => ⟨S_, .f32⟩
  | 57 => ⟨S4096x2048, .f32⟩
  | 58 => ⟨S4096x2048, .f32⟩
  | 59 => ⟨S4096x2048, .f32⟩
  | 60 => ⟨S_, .f32⟩
  | 61 => ⟨S4096x2048, .f32⟩
  | 62 => ⟨S4096x2048, .f32⟩
  | 63 => ⟨S4096x2048, .f32⟩
  | 64 => ⟨S_, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S4096x2048, .f32⟩
  | 71 => ⟨S4096x2048, .f32⟩
  | 72 => ⟨S4096x2048, .f32⟩
  | 73 => ⟨S4096x2048, .f32⟩
  | 74 => ⟨S_, .f32⟩
  | 75 => ⟨S4096x2048, .f32⟩
  | 76 => ⟨S4096x2048, .f32⟩
  | 77 => ⟨S4096x2048, .f32⟩
  | 78 => ⟨S_, .f32⟩
  | 79 => ⟨S4096x2048, .f32⟩
  | 80 => ⟨S4096x2048, .f32⟩
  | 81 => ⟨S4096x2048, .f32⟩
  | 82 => ⟨S_, .f32⟩
  | 83 => ⟨S4096x2048, .f32⟩
  | 84 => ⟨S4096x2048, .f32⟩
  | 85 => ⟨S_, .f32⟩
  | 86 => ⟨S4096x2048, .f32⟩
  | 87 => ⟨S4096x2048, .f32⟩
  | 88 => ⟨S4096x2048, .f32⟩
  | 89 => ⟨S4096x2048, .f32⟩
  | 90 => ⟨S4096x6144, .f32⟩
  | 91 => ⟨S4096x6144, .bf16⟩
  | 92 => ⟨S8x128x1, .f32⟩
  | 93 => ⟨S8x128x128, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_cst_18 : Ref sig .tc := ⟨.hbm, 84, rfl⟩
abbrev main_v59 : Ref sig .tc := ⟨.hbm, 85, rfl⟩
abbrev main_v60 : Ref sig .tc := ⟨.hbm, 86, rfl⟩
abbrev main_cst_19 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_20 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call0_v0 : Ref sig .tc := ⟨.hbm, 110, rfl⟩
abbrev main_call0_v1 : Ref sig .tc := ⟨.hbm, 111, rfl⟩
abbrev main_call0_cst : Ref sig .tc := ⟨.hbm, 112, rfl⟩
abbrev main_call0_v2 : Ref sig .tc := ⟨.hbm, 113, rfl⟩
abbrev main_call0_v3 : Ref sig .tc := ⟨.hbm, 114, rfl⟩
abbrev main_call0_cst_0 : Ref sig .tc := ⟨.hbm, 115, rfl⟩
abbrev main_call0_v4 : Ref sig .tc := ⟨.hbm, 116, rfl⟩
abbrev main_v82_2 : Ref sig .tc := ⟨.hbm, 117, rfl⟩
abbrev main_call0_cst_1 : Ref sig .tc := ⟨.hbm, 118, rfl⟩
abbrev main_call0_v6 : Ref sig .tc := ⟨.hbm, 119, rfl⟩
abbrev main_call0_v7 : Ref sig .tc := ⟨.hbm, 120, rfl⟩
abbrev main_v82_1 : Ref sig .tc := ⟨.hbm, 121, rfl⟩
abbrev main_v82_0 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_21 : Ref sig .tc := ⟨.hbm, 134, rfl⟩
abbrev main_v91 : Ref sig .tc := ⟨.hbm, 135, rfl⟩
abbrev main_v92 : Ref sig .tc := ⟨.hbm, 136, rfl⟩
abbrev main_cst_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_23 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_24 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_25 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_26 : Ref sig .tc := ⟨.hbm, 161, rfl⟩
abbrev main_v113 : Ref sig .tc := ⟨.hbm, 162, rfl⟩
abbrev main_v114 : Ref sig .tc := ⟨.hbm, 163, rfl⟩
abbrev main_cst_27 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_28 : Ref sig .tc := ⟨.hbm, 172, rfl⟩
abbrev main_v122 : Ref sig .tc := ⟨.hbm, 173, rfl⟩
abbrev main_v123 : Ref sig .tc := ⟨.hbm, 174, rfl⟩
abbrev main_cst_29 : Ref sig .tc := ⟨.hbm, 175, rfl⟩
abbrev main_v124 : Ref sig .tc := ⟨.hbm, 176, rfl⟩
abbrev main_v125 : Ref sig .tc := ⟨.hbm, 177, rfl⟩
abbrev main_cst_30 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_31 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_32 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_33 : Ref sig .tc := ⟨.hbm, 192, rfl⟩
abbrev main_v137 : Ref sig .tc := ⟨.hbm, 193, rfl⟩
abbrev main_v138 : Ref sig .tc := ⟨.hbm, 194, rfl⟩
abbrev main_cst_34 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_35 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_36 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_37 : Ref sig .tc := ⟨.hbm, 210, rfl⟩
abbrev main_v151 : Ref sig .tc := ⟨.hbm, 211, rfl⟩
abbrev main_v152 : Ref sig .tc := ⟨.hbm, 212, rfl⟩
abbrev main_cst_38 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩

abbrev nD : Nat := 1
abbrev τ : Topo := Topo.v7x

variable {F : FTy → Type} [FloatOps F]
-- ==== Kernel2.lean ====
abbrev S4096x6144 : Shape := ⟨2, ![4096, 6144]⟩
abbrev S4x2048x1536 : Shape := ⟨3, ![4, 2048, 1536]⟩
abbrev S4096x2048 : Shape := ⟨2, ![4096, 2048]⟩
abbrev S512x6144 : Shape := ⟨2, ![512, 6144]⟩
abbrev S4x512x1536 : Shape := ⟨3, ![4, 512, 1536]⟩
abbrev S512x512 : Shape := ⟨2, ![512, 512]⟩
abbrev S512x1536 : Shape := ⟨2, ![512, 1536]⟩
abbrev S1x512x1536 : Shape := ⟨3, ![1, 512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S4096x2048, .bf16⟩
  | .local _ .vmem, ⟨0, _⟩ => ⟨S512x6144, .bf16⟩
  | .local _ .vmem, ⟨1, _⟩ => ⟨S512x6144, .bf16⟩
  | .local _ .vmem, ⟨2, _⟩ => ⟨S4x512x1536, .bf16⟩
  | .local _ .vmem, ⟨3, _⟩ => ⟨S4x512x1536, .bf16⟩
  | .local _ .vmem, ⟨4, _⟩ => ⟨S512x512, .bf16⟩
  | .local _ .vmem, ⟨5, _⟩ => ⟨S512x512, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
abbrev S4096x6144 : Shape := ⟨2, ![4096, 6144]⟩
abbrev S4x2048x1536 : Shape := ⟨3, ![4, 2048, 1536]⟩
abbrev S4096x2048 : Shape := ⟨2, ![4096, 2048]⟩
abbrev S512x6144 : Shape := ⟨2, ![512, 6144]⟩
abbrev S4x512x1536 : Shape := ⟨3, ![4, 512, 1536]⟩
abbrev S512x512 : Shape := ⟨2, ![512, 512]⟩
abbrev S512x1536 : Shape := ⟨2, ![512, 1536]⟩
abbrev S1x512x1536 : Shape := ⟨3, ![1, 512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S4096x2048, .bf16⟩
  | .local _ .vmem, ⟨0, _⟩ => ⟨S512x6144, .bf16⟩
  | .local _ .vmem, ⟨1, _⟩ => ⟨S512x6144, .bf16⟩
  | .local _ .vmem, ⟨2, _⟩ => ⟨S4x512x1536, .bf16⟩
  | .local _ .vmem, ⟨3, _⟩ => ⟨S4x512x1536, .bf16⟩
  | .local _ .vmem, ⟨4, _⟩ => ⟨S512x512, .bf16⟩
  | .local _ .vmem, ⟨5, _⟩ => ⟨S512x512, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x6144 : Shape := ⟨2, ![4096, 6144]⟩
abbrev S4x2048x1536 : Shape := ⟨3, ![4, 2048, 1536]⟩
abbrev S_ : Shape := ⟨0, ![]⟩
abbrev S4096x2048 : Shape := ⟨2, ![4096, 2048]⟩
abbrev S2048x4x1536 : Shape := ⟨3, ![2048, 4, 1536]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S4x2048x1536, .f32⟩
  | .hbm, ⟨3, _⟩ => ⟨S_, .f32⟩
  | .hbm, ⟨4, _⟩ => ⟨S4096x2048, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S4096x2048, .f32⟩
  | .hbm, ⟨10, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x2048 : Shape := ⟨2, ![4096, 2048]⟩
abbrev S4096x6144 : Shape := ⟨2, ![4096, 6144]⟩
abbrev S4x2048x1536 : Shape := ⟨3, ![4, 2048, 1536]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x2048x1536, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .bf16⟩
  | .local _ .vmem, ⟨5, _⟩ => ⟨S1x1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel3Ideal.lean ====
abbrev S4096x2048 : Shape := ⟨2, ![4096, 2048]⟩
abbrev S4096x6144 : Shape := ⟨2, ![4096, 6144]⟩
abbrev S4x2048x1536 : Shape := ⟨3, ![4, 2048, 1536]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x2048x1536, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .bf16⟩
  | .local _ .vmem, ⟨5, _⟩ => ⟨S1x1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2048 : Shape := ⟨2, ![4096, 2048]⟩
abbrev S4096x6144 : Shape := ⟨2, ![4096, 6144]⟩
abbrev S_ : Shape := ⟨0, ![]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S6144x2048 : Shape := ⟨2, ![6144, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S_, .f32⟩
  | .hbm, ⟨4, _⟩ => ⟨S4x2048x1536, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S2048x4x1536, .f32⟩
  | .hbm, ⟨12, _⟩ => ⟨S4x2048x1536, .f32⟩
  | .hbm, ⟨13, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4096x8192 : Shape := ⟨2, ![4096, 8192]⟩
abbrev S4x2048x2048 : Shape := ⟨3, ![4, 2048, 2048]⟩
abbrev S4096x2048 : Shape := ⟨2, ![4096, 2048]⟩
abbrev S512x8192 : Shape := ⟨2, ![512, 8192]⟩
abbrev S4x512x2048 : Shape := ⟨3, ![4, 512, 2048]⟩
abbrev S512x512 : Shape := ⟨2, ![512, 512]⟩
abbrev S512x2048 : Shape := ⟨2, ![512, 2048]⟩
abbrev S1x512x2048 : Shape := ⟨3, ![1, 512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .bf16⟩
  | .local _ .vmem, ⟨0, _⟩ => ⟨S512x8192, .bf16⟩
  | .local _ .vmem, ⟨1, _⟩ => ⟨S512x8192, .bf16⟩
  | .local _ .vmem, ⟨2, _⟩ => ⟨S4x512x2048, .bf16⟩
  | .local _ .vmem, ⟨3, _⟩ => ⟨S4x512x2048, .bf16⟩
  | .local _ .vmem, ⟨4, _⟩ => ⟨S512x512, .bf16⟩
  | .local _ .vmem, ⟨5, _⟩ => ⟨S512x512, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x8192 : Shape := ⟨2, ![4096, 8192]⟩
abbrev S4x2048x2048 : Shape := ⟨3, ![4, 2048, 2048]⟩
abbrev S_ : Shape := ⟨0, ![]⟩
abbrev S4096x2048 : Shape := ⟨2, ![4096, 2048]⟩
abbrev S2048x4x2048 : Shape := ⟨3, ![2048, 4, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4x2048x2048, .f32⟩
  | .hbm, ⟨3, _⟩ => ⟨S_, .f32⟩
  | .hbm, ⟨4, _⟩ => ⟨S4096x2048, .f32⟩
  | .hbm, ⟨5, _⟩ => ⟨S2048x4x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2048 : Shape := ⟨2, ![4096, 2048]⟩
abbrev S4096x8192 : Shape := ⟨2, ![4096, 8192]⟩
abbrev S_ : Shape := ⟨0, ![]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S_, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | .hbm, ⟨13, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S4x2048x1536 : Shape := ⟨3, ![4, 2048, 1536]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel8Ideal.lean ====
abbrev S4096x2048 : Shape := ⟨2, ![4096, 2048]⟩
abbrev S4x2048x1536 : Shape := ⟨3, ![4, 2048, 1536]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2048 : Shape := ⟨2, ![4096, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S4096x6144, .f32⟩
  | .hbm, ⟨7, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S4096x8192, .f32⟩
  | .hbm, ⟨7, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference10Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference11Ideal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S1x2048, .f32⟩
  | .hbm, ⟨7, _⟩ => ⟨S4096x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S4096x2048, .bf16⟩
  | .hbm, ⟨12, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_18 : BitVec 32 := 0#32
  let v41 : BitVec 1 := Scalar.cmpi .ne v40 c0_i32_18
  v41

def k0_cond3 (i : grid0.Coords) : BitVec 1 :=
  let arg0 : BitVec 32 := BitVec.ofNat 32 (i 0).val
  let c0_i32_20 : BitVec 32 := 0#32
  let v47 : BitVec 1 := Scalar.cmpi .eq arg0 c0_i32_20
  let v48 : BitVec 32 := Scalar.extui v47
  let c0_i32_21 : BitVec 32 := 0#32
  let v49 : BitVec 1 := Scalar.cmpi .ne v48 c0_i32_21
  v49

def k0_cond4 (i : grid0.Coords) : BitVec 1 :=
  let arg0 : BitVec 32 := BitVec.ofNat 32 (i 0).val
  let c0_i32_20 : BitVec 32 := 0#32
  let v47 : BitVec 1 := Scalar.cmpi .eq arg0 c0_i32_20
  let true_22 : BitVec 1 := 1#1
  let v50 : BitVec 1 := Scalar.xori v47 true_22
  let v51 : BitVec 32 := Scalar.extui v50
  let c0_i32_23 : BitVec 32 := 0#32
  let v52 : BitVec 1 := Scalar.cmpi .ne v51 c0_i32_23
  v52

def k0_cond5 (i : grid0.Coords) : BitVec 1 :=
  let arg0 : BitVec 32 := BitVec.ofNat 32 (i 0).val
  let c0_i32_25 : BitVec 32 := 0#32
  let v58 : BitVec 1 := Scalar.cmpi .eq arg0 c0_i32_25
  let v59 : BitVec 32 := Scalar.extui v58
  let c0_i32_26 : BitVec 32 := 0#32
  let v60 : BitVec 1 := Scalar.cmpi .ne v59 c0_i32_26
  v60

def k0_cond6 (i : grid0.Coords) : BitVec 1 :=
  let arg0 : BitVec 32 := BitVec.ofNat 32 (i 0).val
  let c0_i32_25 : BitVec 32 := 0#32
  let v58 : BitVec 1 := Scalar.cmpi .eq arg0 c0_i32_25
  let true_27 : BitVec 1 := 1#1
  let v61 : BitVec 1 := Scalar.xori v58 true_27
  let v62 : BitVec 32 := Scalar.extui v61
  let c0_i32_28 : BitVec 32 := 0#32
  let v63 : BitVec 1 := Scalar.cmpi .ne v62 c0_i32_28
  v63

def k0_cond7 (i : grid0.Coords) : BitVec 1 :=
  let arg0 : BitVec 32 := BitVec.ofNat 32 (i 0).val
  let c0_i32_36 : BitVec 32 := 0#32
  let v74 : BitVec 1 := Scalar.cmpi .eq arg0 c0_i32_36
  let v75 : BitVec 32 := Scalar.extui v74
  let c0_i32_37 : BitVec 32 := 0#32
  let v76 : BitVec 1 := Scalar.cmpi .ne v75 c0_i32_37
  v76

def k0_cond8 (i : grid0.Coords) : BitVec 1 :=
  let arg0 : BitVec 32 := BitVec.ofNat 32 (i 0).val
  let c0_i32_36 : BitVec 32 := 0#32
  let v74 : BitVec 1 := Scalar.cmpi .eq arg0 c0_i32_36
  let true_38 : BitVec 1 := 1#1
  let v77 : BitVec 1 := Scalar.xori v74 true_38
  let v78 : BitVec 32 := Scalar.extui v77
  let c0_i32_39 : BitVec 32 := 0#32
  let v79 : BitVec 1 := Scalar.cmpi .ne v78 c0_i32_39
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference12Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel13.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_18 : BitVec 32 := 0#32
  let v41 : BitVec 1 := Scalar.cmpi .ne v40 c0_i32_18
  v41

def k0_cond3 (i : grid0.Coords) : BitVec 1 :=
  let arg0 : BitVec 32 := BitVec.ofNat 32 (i 0).val
  let c0_i32_20 : BitVec 32 := 0#32
  let v47 : BitVec 1 := Scalar.cmpi .eq arg0 c0_i32_20
  let v48 : BitVec 32 := Scalar.extui v47
  let c0_i32_21 : BitVec 32 := 0#32
  let v49 : BitVec 1 := Scalar.cmpi .ne v48 c0_i32_21
  v49

def k0_cond4 (i : grid0.Coords) : BitVec 1 :=
  let arg0 : BitVec 32 := BitVec.ofNat 32 (i 0).val
  let c0_i32_20 : BitVec 32 := 0#32
  let v47 : BitVec 1 := Scalar.cmpi .eq arg0 c0_i32_20
  let true_22 : BitVec 1 := 1#1
  let v50 : BitVec 1 := Scalar.xori v47 true_22
  let v51 : BitVec 32 := Scalar.extui v50
  let c0_i32_23 : BitVec 32 := 0#32
  let v52 : BitVec 1 := Scalar.cmpi .ne v51 c0_i32_23
  v52

def k0_cond5 (i : grid0.Coords) : BitVec 1 :=
  let arg0 : BitVec 32 := BitVec.ofNat 32 (i 0).val
  let c0_i32_25 : BitVec 32 := 0#32
  let v58 : BitVec 1 := Scalar.cmpi .eq arg0 c0_i32_25
  let v59 : BitVec 32 := Scalar.extui v58
  let c0_i32_26 : BitVec 32 := 0#32
  let v60 : BitVec 1 := Scalar.cmpi .ne v59 c0_i32_26
  v60

def k0_cond6 (i : grid0.Coords) : BitVec 1 :=
  let arg0 : BitVec 32 := BitVec.ofNat 32 (i 0).val
  let c0_i32_25 : BitVec 32 := 0#32
  let v58 : BitVec 1 := Scalar.cmpi .eq arg0 c0_i32_25
  let true_27 : BitVec 1 := 1#1
  let v61 : BitVec 1 := Scalar.xori v58 true_27
  let v62 : BitVec 32 := Scalar.extui v61
  let c0_i32_28 : BitVec 32 := 0#32
  let v63 : BitVec 1 := Scalar.cmpi .ne v62 c0_i32_28
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference13Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel14.lean ====
abbrev S4096x2048 : Shape := ⟨2, ![4096, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S1x2048, .f32⟩
  | .hbm, ⟨5, _⟩ => ⟨S1x1, .f32⟩
  | .hbm, ⟨6, _⟩ => ⟨S4096x2048, .f32⟩
  | .hbm, ⟨7, _⟩ => ⟨S1x2048, .f32⟩
  | .hbm, ⟨8, _⟩ => ⟨S4096x2048, .bf16⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x1, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond7 (i : grid0.Coords) : BitVec 1 :=
  let arg0 : BitVec 32 := BitVec.ofNat 32 (i 0).val
  let c7_i32 : BitVec 32 := 7#32
  let v65 : BitVec 1 := Scalar.cmpi .eq arg0 c7_i32
  let v66 : BitVec 32 := Scalar.extui v65
  let c0_i32_31 : BitVec 32 := 0#32
  let v67 : BitVec 1 := Scalar.cmpi .ne v66 c0_i32_31
  v67

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_13 : BitVec 32 := 0#32
  let v36 : BitVec 1 := Scalar.cmpi .ne v35 c0_i32_13
  v36

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v37 : BitVec 1 := Scalar.xori v34 v_true
  let v38 : BitVec 32 := Scalar.extui v37
  let c0_i32_14 : BitVec 32 := 0#32
  let v39 : BitVec 1 := Scalar.cmpi .ne v38 c0_i32_14
  v39

def k0_cond5 (i : grid0.Coords) : BitVec 1 :=
  let arg0 : BitVec 32 := BitVec.ofNat 32 (i 0).val
  let c0_i32_27 : BitVec 32 := 0#32
  let v59 : BitVec 1 := Scalar.cmpi .eq arg0 c0_i32_27
  let v60 : BitVec 32 := Scalar.extui v59
  let c0_i32_28 : BitVec 32 := 0#32
  let v61 : BitVec 1 := Scalar.cmpi .ne v60 c0_i32_28
  v61

def k0_cond6 (i : grid0.Coords) : BitVec 1 :=
  let arg0 : BitVec 32 := BitVec.ofNat 32 (i 0).val
  let c0_i32_27 : BitVec 32 := 0#32
  let v59 : BitVec 1 := Scalar.cmpi .eq arg0 c0_i32_27
  let true_29 : BitVec 1 := 1#1
  let v62 : BitVec 1 := Scalar.xori v59 true_29
  let v63 : BitVec 32 := Scalar.extui v62
  let c0_i32_30 : BitVec 32 := 0#32
  let v64 : BitVec 1 := Scalar.cmpi .ne v63 c0_i32_30
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference14Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S1x1, .f32⟩
  | .hbm, ⟨80, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel15.lean ====
abbrev S8x2048 : Shape := ⟨2, ![8, 2048]⟩
abbrev S2x8x1536 : Shape := ⟨3, ![2, 8, 1536]⟩
abbrev S2x2048x1536 : Shape := ⟨3, ![2, 2048, 1536]⟩
abbrev S8x1024 : Shape := ⟨2, ![8, 1024]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S2x8x1536, .f32⟩
  | .hbm, ⟨2, _⟩ => ⟨S2x2048x1536, .f32⟩
  | .local _ .vmem, ⟨0, _⟩ => ⟨S8x1024, .f32⟩
  | .local _ .vmem, ⟨1, _⟩ => ⟨S8x1024, .f32⟩
  | .local _ .vmem, ⟨2, _⟩ => ⟨S1x8x768, .f32⟩
  | .local _ .vmem, ⟨3, _⟩ => ⟨S1x8x768, .f32⟩
  | .local _ .vmem, ⟨4, _⟩ => ⟨S1x1024x768, .f32⟩
  | .local _ .vmem, ⟨5, _⟩ => ⟨S1x1024x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference15Ideal.lean ====
abbrev S8x2048 : Shape := ⟨2, ![8, 2048]⟩
abbrev S2x8x1536 : Shape := ⟨3, ![2, 8, 1536]⟩
abbrev S_ : Shape := ⟨0, ![]⟩
abbrev S2x2048x1536 : Shape := ⟨3, ![2, 2048, 1536]⟩
abbrev S8x2x1536 : Shape := ⟨3, ![8, 2, 1536]⟩
abbrev S2x1536x2048 : Shape := ⟨3, ![2, 1536, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x8x1536, .f32⟩
  | .hbm, ⟨2, _⟩ => ⟨S_, .f32⟩
  | .hbm, ⟨3, _⟩ => ⟨S2x2048x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2x1536, .f32⟩
  | .hbm, ⟨14, _⟩ => ⟨S2x8x1536, .f32⟩
  | .hbm, ⟨15, _⟩ => ⟨S8x2x1536, .f32⟩
  | .hbm, ⟨16, _⟩ => ⟨S2x1536x2048, .f32⟩
  | .hbm, ⟨17, _⟩ => ⟨S2x2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel16.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel17.lean ====
abbrev S8x2048 : Shape := ⟨2, ![8, 2048]⟩
abbrev S2x2048x1536 : Shape := ⟨3, ![2, 2048, 1536]⟩
abbrev S1x1536 : Shape := ⟨2, ![1, 1536]⟩
abbrev S8x1536 : Shape := ⟨2, ![8, 1536]⟩
abbrev S1x2048x768 : Shape := ⟨3, ![1, 2048, 768]⟩
abbrev S1x768 : Shape := ⟨2, ![1, 768]⟩
abbrev S8x768 : Shape := ⟨2, ![8, 768]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference17Ideal.lean ====
abbrev S8x2048 : Shape := ⟨2, ![8, 2048]⟩
abbrev S2x2048x1536 : Shape := ⟨3, ![2, 2048, 1536]⟩
abbrev S1x1536 : Shape := ⟨2, ![1, 1536]⟩
abbrev S_ : Shape := ⟨0, ![]⟩
abbrev S1x2048x1536 : Shape := ⟨3, ![1, 2048, 1536]⟩
abbrev S2048x1536 : Shape := ⟨2, ![2048, 1536]⟩
abbrev S8x1536 : Shape := ⟨2, ![8, 1536]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x1536, .f32⟩
  | .hbm, ⟨13, _⟩ => ⟨S2048x1536, .f32⟩
  | .hbm, ⟨14, _⟩ => ⟨S8x1536, .f32⟩
  | .hbm, ⟨15, _⟩ => ⟨S8x1536, .f32⟩
  | .hbm, ⟨16, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel18.lean ====
abbrev S8x2048 : Shape := ⟨2, ![8, 2048]⟩
abbrev S2x2048x1536 : Shape := ⟨3, ![2, 2048, 1536]⟩
abbrev S1x1536 : Shape := ⟨2, ![1, 1536]⟩
abbrev S8x1536 : Shape := ⟨2, ![8, 1536]⟩
abbrev S1x2048x768 : Shape := ⟨3, ![1, 2048, 768]⟩
abbrev S1x768 : Shape := ⟨2, ![1, 768]⟩
abbrev S8x768 : Shape := ⟨2, ![8, 768]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference18Ideal.lean ====
abbrev S8x2048 : Shape := ⟨2, ![8, 2048]⟩
abbrev S2x2048x1536 : Shape := ⟨3, ![2, 2048, 1536]⟩
abbrev S1x1536 : Shape := ⟨2, ![1, 1536]⟩
abbrev S_ : Shape := ⟨0, ![]⟩
abbrev S1x2048x1536 : Shape := ⟨3, ![1, 2048, 1536]⟩
abbrev S2048x1536 : Shape := ⟨2, ![2048, 1536]⟩
abbrev S8x1536 : Shape := ⟨2, ![8, 1536]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x1536, .f32⟩
  | .hbm, ⟨13, _⟩ => ⟨S2048x1536, .f32⟩
  | .hbm, ⟨14, _⟩ => ⟨S8x1536, .f32⟩
  | .hbm, ⟨15, _⟩ => ⟨S8x1536, .f32⟩
  | .hbm, ⟨16, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel19.lean ====
abbrev S4096x6144 : Shape := ⟨2, ![4096, 6144]⟩
abbrev S1x2048 : Shape := ⟨2, ![1, 2048]⟩
abbrev S8x128x128 : Shape := ⟨3, ![8, 128, 128]⟩
abbrev S8x128 : Shape := ⟨2, ![8, 128]⟩
abbrev S8x128x1 : Shape := ⟨3, ![8, 128, 1]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x256 : Shape := ⟨2, ![128, 256]⟩
abbrev S1x128x1 : Shape := ⟨3, ![1, 128, 1]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x6144, .bf16⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128, .f32⟩
  | .hbm, ⟨5, _⟩ => ⟨S8x128x128, .bf16⟩
  | .hbm, ⟨6, _⟩ => ⟨S8x128x1, .f32⟩
  | .hbm, ⟨7, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S8x128x128, .bf16⟩
  | .local _ .vmem, ⟨9, _⟩ => ⟨S8x128x1, .f32⟩
  | .local _ .vmem, ⟨10, _⟩ => ⟨S256x2048, .bf16⟩
  | .local _ .vmem, ⟨11, _⟩ => ⟨S256x2048, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
variable {F : FTy → Type} [FloatOps F] [Named F]
def κ : String → Option EReal := fun
  | "cubic" => some ((8943 / 200000 : ℝ) : EReal)
  | _ => none
-- ==== Reference19Ideal.lean ====
abbrev S4096x6144 : Shape := ⟨2, ![4096, 6144]⟩
abbrev S1x2048 : Shape := ⟨2, ![1, 2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S32x128x8x256 : Shape := ⟨4, ![32, 128, 8, 256]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128, .f32⟩
  | .hbm, ⟨5, _⟩ => ⟨S4096x6144, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S32x128x8x256, .f32⟩
  | .hbm, ⟨75, _⟩ => ⟨S8x32x256x128, .f32⟩
  | .hbm, ⟨76, _⟩ => ⟨S32x128x8x256, .f32⟩
  | .hbm, ⟨77, _⟩ => ⟨S128x8, .f32⟩
  | .hbm, ⟨78, _⟩ => ⟨S1x128x8x1, .f32⟩
  | .hbm, ⟨79, _⟩ => ⟨S32x128x8x256, .f32⟩
  | .hbm, ⟨80, _⟩ => ⟨S32x128x8x256, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== Kernel20.lean ====
abbrev S4096x1024 : Shape := ⟨2, ![4096, 1024]⟩
abbrev S4096x8192 : Shape := ⟨2, ![4096, 8192]⟩
abbrev S3x1024 : Shape := ⟨2, ![3, 1024]⟩
abbrev S4096x2048 : Shape := ⟨2, ![4096, 2048]⟩
abbrev S4096x128 : Shape := ⟨2, ![4096, 128]⟩
abbrev S3x128 : Shape := ⟨2, ![3, 128]⟩
abbrev S528x128 : Shape := ⟨2, ![528, 128]⟩
abbrev S1x128 : Shape := ⟨2, ![1, 128]⟩
abbrev S512x128 : Shape := ⟨2, ![512, 128]⟩
abbrev S544x128 : Shape := ⟨2, ![544, 128]⟩

abbrev nBuf : Space → Nat
  | .hbm => 4
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S3x1024, .f32⟩
  | .hbm, ⟨3, _⟩ => ⟨S4096x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S3x128, .f32⟩
  | .local _ .vmem, ⟨13, _⟩ => ⟨S3x128, .f32⟩
  | .local _ .vmem, ⟨14, _⟩ => ⟨S4096x128, .bf16⟩
  | .local _ .vmem, ⟨15, _⟩ => ⟨S4096x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c24_i32 : BitVec 32 := 24#32
  let v1 : BitVec 32 := Scalar.addi c24_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c32_i32 : BitVec 32 := 32#32
  let v2 : BitVec 32 := Scalar.addi c32_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c40_i32 : BitVec 32 := 40#32
  let v2 : BitVec 32 := Scalar.addi c40_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c48_i32 : BitVec 32 := 48#32
  let v2 : BitVec 32 := Scalar.addi c48_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c56_i32 : BitVec 32 := 56#32
  let v2 : BitVec 32 := Scalar.addi c56_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4096x1024 : Shape := ⟨2, ![4096, 1024]⟩
abbrev S4096x8192 : Shape := ⟨2, ![4096, 8192]⟩
abbrev S3x1024 : Shape := ⟨2, ![3, 1024]⟩
abbrev S4096x5120 : Shape := ⟨2, ![4096, 5120]⟩
abbrev S_ : Shape := ⟨0, ![]⟩
abbrev S1x1024 : Shape := ⟨2, ![1, 1024]⟩
abbrev S4095x1024 : Shape := ⟨2, ![4095, 1024]⟩
abbrev S1024 : Shape := ⟨1, ![1024]⟩
abbrev S4096x2048 : Shape := ⟨2, ![4096, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S3x1024, .f32⟩
  | .hbm, ⟨3, _⟩ => ⟨S4096x8192, .f32⟩
  | .hbm, ⟨4, _⟩ => ⟨S4096x5120, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S4095x1024, .f32⟩
  | .hbm, ⟨25, _⟩ => ⟨S4096x1024, .f32⟩
  | .hbm, ⟨26, _⟩ => ⟨S4095x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x2048, .f32⟩
  | .hbm, ⟨57, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel21.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4096x2048 : Shape := ⟨2, ![4096, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel22Ideal.lean ====
abbrev S4096x2048 : Shape := ⟨2, ![4096, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S4096x2048 : Shape := ⟨2, ![4096, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4096x1536 : Shape := ⟨2, ![4096, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel23Ideal.lean ====
abbrev S4096x1536 : Shape := ⟨2, ![4096, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1024x2048 : Shape := ⟨2, ![1024, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Coe.lean ====
/-
  Extended reals that are real: how each operation of the two programs acts on them.
-/
module

public import Idealize.ShloMosaic.Lib.Pointwise
public import Idealize.ShloMosaic.PureOps.Ideal.Laws
public import Mathlib.Tactic.NormNum
public import Mathlib.Tactic.Ring
public import Mathlib.Tactic.FieldSimp
public import Mathlib.Tactic.Linarith
public import Mathlib.Tactic.Positivity

@[expose] public section

noncomputable section

namespace Cert.Sgu

open Idealize.ShloMosaic

/-- A sum of reals, summed as extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals. -/
theorem coe_div (x : ℝ) {y : ℝ} (h : y ≠ 0) : Ideal.div (x : EReal) (y : EReal) = ((x / y : ℝ) : EReal) := by
  rw [Ideal.div_coe h, ← EReal.coe_mul, mul_one_div]

/-- The quotient by the row length. -/
theorem coe_div_2048 (x : ℝ) : Ideal.div (x : EReal) ((2048 : ℝ) : EReal) = ((x / 2048 : ℝ) : EReal) :=
  coe_div x (by norm_num)

/-- The logistic function's quotient: its denominator is positive. -/
theorem coe_div_one_add_exp (x y : ℝ) :
    Ideal.div (x : EReal) ((1 + Real.exp y : ℝ) : EReal) = ((x / (1 + Real.exp y) : ℝ) : EReal) :=
  coe_div x (by positivity)

/-- The reciprocal root of a positive real. -/
theorem coe_rsqrt {x : ℝ} (h : 0 < x) : Ideal.rsqrt (x : EReal) = (((Real.sqrt x)⁻¹ : ℝ) : EReal) := by
  rw [Ideal.rsqrt_coe, if_neg (not_lt.mpr h.le), if_neg h.ne']

/-- An extended real of finite absolute value is a real. -/
theorem exists_real {x : EReal} (h : max x (-x) < ⊤) : ((x.toReal : ℝ) : EReal) = x := by
  refine EReal.coe_toReal ?_ ?_
  · rintro rfl; simp at h
  · rintro rfl; simp at h

/-- The single-precision number nearest the root of two over pi: what both programs multiply by inside the hyperbolic tangent. -/
def kk : ℝ := 13386282 / 16777216
/-- The constant added to the variance. -/
def eps : ℝ := 8796093 / 8796093022208

theorem eps_pos : 0 < eps := by unfold eps; norm_num

theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_2048 : Ideal.ofBits .f32 0x45000000#32 = ((2048 : ℝ) : EReal) := by
  simp [Ideal.ofBits, Ideal.ieee, -EReal.coe_mul]; norm_num
theorem bits_kk : Ideal.ofBits .f32 0x3F4C422A#32 = ((kk : ℝ) : EReal) := by
  unfold kk; simp [Ideal.ofBits, Ideal.ieee, -EReal.coe_mul]; norm_num
theorem bits_eps : Ideal.ofBits .f32 0x358637BD#32 = ((eps : ℝ) : EReal) := by
  unfold eps; simp [Ideal.ofBits, Ideal.ieee, -EReal.coe_mul]; norm_num
theorem bits_zero : Ideal.ofBits .f32 0x00000000#32 = ((0 : ℝ) : EReal) := by
  rw [Ideal.ofBits_zero_f32, EReal.coe_zero]

end Cert.Sgu

end
-- ==== Proof.Spec.lean ====
/-
  The gradients of the spatial gating unit, over the reals.

  `X` is the projection's 4096 × 6144 output (columns u, v, z), `D` the gradient of the gate's output, `g` and `b` the
  norm's scale and shift, `W` and `B` the spatial weights (group, target row, source row) and biases. Indices are
  natural numbers; an array is read only inside its bounds.
-/
module

public import proofs.«01_k».proof.Proof.Coe
public import Mathlib.Analysis.SpecialFunctions.Pow.Real

@[expose] public section

noncomputable section

namespace Cert.Sgu

/-- The inner argument of the tanh form of GELU. -/
def inner (x : ℝ) : ℝ := kk * (x + 8943 / 200000 * (x * x * x))
/-- The gate of GELU: the factor that multiplies its argument. -/
def gate (x : ℝ) : ℝ := 1 / 2 * (1 + Real.tanh (inner x))
/-- GELU in its tanh form. -/
def gelu (x : ℝ) : ℝ := x * gate x
/-- Its derivative. -/
def dgelu (x : ℝ) : ℝ :=
  gate x + 1 / 2 * x * (1 - Real.tanh (inner x) * Real.tanh (inner x)) * (kk * (1 + 3 * (8943 / 200000) * (x * x)))
/-- The logistic function. -/
def sgm (x : ℝ) : ℝ := 1 / (1 + Real.exp (-x))
/-- SiLU. -/
def silu (x : ℝ) : ℝ := x * sgm x
/-- Its derivative. -/
def dsilu (x : ℝ) : ℝ := sgm x * (1 + x * (1 - sgm x))

variable (X D : ℕ → ℕ → ℝ) (g b : ℕ → ℝ) (W : ℕ → ℕ → ℕ → ℝ) (B : ℕ → ℕ → ℝ)

/-- The activated value branch. -/
def gv (r c : ℕ) : ℝ := gelu (X r (2048 + c))
/-- The mean of a row of it. -/
def mu (r : ℕ) : ℝ := (∑ c : Fin 2048, gv X r c) / 2048
/-- The centred row. -/
def xc (r c : ℕ) : ℝ := gv X r c - mu X r
/-- The variance of a row, with the constant added to it. -/
def vare (r : ℕ) : ℝ := (∑ c : Fin 2048, xc X r c * xc X r c) / 2048 + eps
/-- The reciprocal standard deviation of a row. -/
def rs (r : ℕ) : ℝ := (Real.sqrt (vare X r))⁻¹
/-- The normalised row. -/
def vh (r c : ℕ) : ℝ := xc X r c * rs X r
/-- The norm's output. -/
def vn (r c : ℕ) : ℝ := vh X r c * g c + b c
/-- The spatial mix: inside each chunk of 128 rows, a product with the group's 128 × 128 matrix, plus a bias. -/
def mixed (r c : ℕ) : ℝ :=
  ∑ s : Fin 128, W (c / 256) (r % 128) s * vn X g b (r / 128 * 128 + s) c + B (c / 256) (r % 128)
/-- The gradient of u. -/
def du (r c : ℕ) : ℝ := D r c * mixed X g b W B r c * silu (X r (4096 + c)) * dgelu (X r c)
/-- The gradient of z. -/
def dz (r c : ℕ) : ℝ := D r c * gelu (X r c) * mixed X g b W B r c * dsilu (X r (4096 + c))
/-- The gradient of the mix. -/
def dm (r c : ℕ) : ℝ := D r c * gelu (X r c) * silu (X r (4096 + c))
/-- The gradient of the norm's output. -/
def dvn (r c : ℕ) : ℝ := ∑ t : Fin 128, W (c / 256) t (r % 128) * dm X D (r / 128 * 128 + t) c
/-- The gradient of the normalised row. -/
def dvh (r c : ℕ) : ℝ := dvn X D W r c * g c
/-- The gradient of the activated value branch. -/
def dgv (r c : ℕ) : ℝ :=
  rs X r * (dvh X D g W r c - (∑ k : Fin 2048, dvh X D g W r k) / 2048
    - vh X r c * ((∑ k : Fin 2048, dvh X D g W r k * vh X r k) / 2048))
/-- The gradient of v. -/
def dv (r c : ℕ) : ℝ := dgv X D g W r c * dgelu (X r (2048 + c))
/-- The gradient of the projection's output, the three column blocks side by side. -/
def duvz (r c : ℕ) : ℝ :=
  if c < 2048 then du X D g b W B r c else if c < 4096 then dv X D g W r (c - 2048) else dz X D g b W B r (c - 4096)
/-- The gradient of the spatial weights. -/
def dws (q t s : ℕ) : ℝ :=
  ∑ n : Fin 32, ∑ c : Fin 256, dm X D (n * 128 + t) (q * 256 + c) * vn X g b (n * 128 + s) (q * 256 + c)
/-- The gradient of the spatial biases. -/
def dbs (q t : ℕ) : ℝ := ∑ n : Fin 32, ∑ c : Fin 256, dm X D (n * 128 + t) (q * 256 + c)
/-- The gradient of the norm's scale. -/
def dg (c : ℕ) : ℝ := ∑ r : Fin 4096, dvn X D W r c * vh X r c
/-- The gradient of the norm's shift. -/
def db (c : ℕ) : ℝ := ∑ r : Fin 4096, dvn X D W r c

theorem vare_pos (r : ℕ) : 0 < vare X r :=
  add_pos_of_nonneg_of_pos (div_nonneg (Finset.sum_nonneg fun c _ => mul_self_nonneg _) (by norm_num)) eps_pos

/-- A centred row sums to zero. -/
theorem sum_xc (r : ℕ) : ∑ c : Fin 2048, xc X r c = 0 := by
  simp only [xc, Finset.sum_sub_distrib, Finset.sum_const, Finset.card_univ, Fintype.card_fin, nsmul_eq_mul]
  rw [mu]; push_cast; ring

/-- The reciprocal standard deviation squared. -/
theorem rs_mul_rs (r : ℕ) : rs X r * rs X r = (vare X r)⁻¹ := by
  rw [rs, ← mul_inv, Real.mul_self_sqrt (vare_pos X r).le]

end Cert.Sgu

end
-- ==== Proof.KerRow.lean ====
/-
  The kernel's values on one block of 256 rows that do not depend on the tile: the activated value branch, its
  normalisation, and the normalised row with gain and bias. `p` is the block's first row.
-/
module

public import proofs.«01_k».proof.Proof.Spec
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Sgu.Ker

open Cert.KernelIdeal Cert.KernelIdeal.Gen Idealize.ShloMosaic Idealize.ShloMosaic.TcCoe

theorem cubic : (Named.named κ "cubic" 0x3D372713#32 : Ideal .f32) = ((8943 / 200000 : ℝ) : EReal) :=
  IdealRules.named_const.ideal_named_scalar _ _ _ _ rfl

theorem cubic3 : (Named.named κ "cubic3" 0x3E095D4F#32 : Ideal .f32) = ((26829 / 200000 : ℝ) : EReal) :=
  IdealRules.named_const.ideal_named_scalar _ _ _ _ rfl

variable {X : ℕ → ℕ → ℝ} {g b : ℕ → ℝ} {p : ℕ}
variable {b1 : Vec Ideal S256x2048 .bf16} {b4 b5 : Vec Ideal S1x2048 .f32}
variable (h1 : ∀ y, b1 y = ((X (p + (y 0).val) (2048 + (y 1).val) : ℝ) : EReal))
  (h4 : ∀ y, b4 y = ((g (y 1).val : ℝ) : EReal)) (h5 : ∀ y, b5 y = ((b (y 1).val : ℝ) : EReal))

include h1

theorem tanh_at (y : S256x2048.Idx) :
    k0_pay4 (F := Ideal) b1 y = ((Real.tanh (inner (X (p + (y 0).val) (2048 + (y 1).val))) : ℝ) : EReal) := by
  pointwise [k0_pay4, k0_pay3]
  simp only [h1, cubic, bits_kk, ← EReal.coe_mul, ← EReal.coe_add, Ideal.tanh_coe]
  rw [inner]; congr 2; ring

theorem gate_at (y : S256x2048.Idx) :
    k0_pay5 (F := Ideal) b1 y = ((gate (X (p + (y 0).val) (2048 + (y 1).val)) : ℝ) : EReal) := by
  unfold k0_pay5
  pointwise
  simp only [tanh_at h1, bits_half, ← EReal.coe_one, ← EReal.coe_mul, ← EReal.coe_add]
  rfl

theorem dgelu_at (y : S256x2048.Idx) :
    k0_pay6 (F := Ideal) b1 y = ((dgelu (X (p + (y 0).val) (2048 + (y 1).val)) : ℝ) : EReal) := by
  unfold k0_pay6
  pointwise [k0_pay3]
  simp only [tanh_at h1, gate_at h1, h1, cubic3, bits_half, ← EReal.coe_one, bits_kk, ← EReal.coe_mul, ← EReal.coe_add, ← EReal.coe_sub]
  rw [dgelu]; congr 1; ring

theorem xc_at (y : S256x2048.Idx) :
    k0_pay7 (F := Ideal) b1 y = ((xc X (p + (y 0).val) (y 1).val : ℝ) : EReal) := by
  unfold k0_pay7
  pointwise [k0_pay3]
  simp only [gate_at h1, h1, bits_2048, ← EReal.coe_mul, coe_sum, coe_div_2048, ← EReal.coe_sub]
  rfl

theorem var_at (y : S256x1.Idx) :
    k0_pay8 (F := Ideal) b1 y
      = ((∑ k : Fin 2048, xc X (p + (y 0).val) k.val * xc X (p + (y 0).val) k.val : ℝ) : EReal) := by
  unfold k0_pay8
  pointwise
  simp only [xc_at h1, ← EReal.coe_mul, coe_sum]
  rfl

theorem rs_at (y : S256x1.Idx) :
    k0_pay9 (F := Ideal) (k0_pay8 (F := Ideal) b1) y = ((rs X (p + (y 0).val) : ℝ) : EReal) := by
  unfold k0_pay9
  pointwise
  simp only [var_at h1, bits_2048, bits_eps, coe_div_2048, ← EReal.coe_add]
  exact coe_rsqrt (vare_pos X _)

theorem vh_at (y : S256x2048.Idx) :
    k0_pay10 (F := Ideal) (k0_pay7 (F := Ideal) b1) (k0_pay8 (F := Ideal) b1) y
      = ((vh X (p + (y 0).val) (y 1).val : ℝ) : EReal) := by
  unfold k0_pay10
  pointwise
  simp only [xc_at h1, rs_at h1, ← EReal.coe_mul]
  rfl

include h4 h5

theorem vn_at (y : S256x2048.Idx) :
    k0_pay11 (F := Ideal) b4 b5 (k0_pay7 (F := Ideal) b1) (k0_pay8 (F := Ideal) b1) y
      = ((vn X g b (p + (y 0).val) (y 1).val : ℝ) : EReal) := by
  unfold k0_pay11
  pointwise
  simp only [vh_at h1, h4, h5, ← EReal.coe_mul, ← EReal.coe_add]
  rfl

omit h5
/-- The gradient of v on the block, from the scratch that holds the normalised row's gradient `E`. -/
theorem dv_at {E : ℕ → ℕ → ℝ} {S : Vec Ideal S256x2048 .f32} (hS : ∀ y, S y = ((E (y 0).val (y 1).val : ℝ) : EReal))
    (y : S256x2048.Idx) :
    k0_pay2 (F := Ideal) b4 (k0_pay6 (F := Ideal) b1) (k0_pay9 (F := Ideal) (k0_pay8 (F := Ideal) b1))
        (k0_pay10 (F := Ideal) (k0_pay7 (F := Ideal) b1) (k0_pay8 (F := Ideal) b1)) S y
      = ((rs X (p + (y 0).val) * (E (y 0).val (y 1).val * g (y 1).val
          - (∑ k : Fin 2048, E (y 0).val k.val * g k.val) / 2048
          - vh X (p + (y 0).val) (y 1).val
            * ((∑ k : Fin 2048, E (y 0).val k.val * g k.val * vh X (p + (y 0).val) k.val) / 2048))
        * dgelu (X (p + (y 0).val) (2048 + (y 1).val)) : ℝ) : EReal) := by
  unfold k0_pay2
  pointwise
  simp only [vh_at h1, rs_at h1, dgelu_at h1, h4, hS, bits_2048, ← EReal.coe_mul, ← EReal.coe_sub, coe_sum, coe_div_2048]
  rfl

end Cert.Sgu.Ker

end
-- ==== Proof.KerTile.lean ====
/-
  One tile of the kernel: 128 rows of one of the eight channel groups. The products the kernel forms on a tile, with the constants and the quotients as it
  writes them, are the functions of `Spec` at the tile's rows and columns.
-/
module

public import proofs.«01_k».proof.Proof.KerRow
public import Idealize.ShloMosaic.Lib.Pipeline.ReadBack

@[expose] public section

noncomputable section

namespace Cert.Sgu.Ker

open Idealize.ShloMosaic in
/-- Stores made after others, one on each of eight slices that cover the buffer, leave nothing of the earlier ones. -/
theorem canon_eight {S : Shape} {e : EltTy} {Val : EltTy → Type} [∀ e, Nonempty (Val e)] (p0 p1 p2 p3 p4 p5 p6 p7 : View.Piece Val S e) (L : List (View.Piece Val S e)) (y : S.Idx)
    (hc : ∃ p ∈ [p0, p1, p2, p3, p4, p5, p6, p7], y ∈ p.1.set) :
    View.canon (p0 :: p1 :: p2 :: p3 :: p4 :: p5 :: p6 :: p7 :: L) y = View.canon [p0, p1, p2, p3, p4, p5, p6, p7] y := by
  have key : ∀ (M : List (View.Piece Val S e)), (∃ p ∈ M, y ∈ p.1.set) → View.canon (M ++ L) y = View.canon M y := by
    intro M
    induction M with
    | nil => rintro ⟨p, hp, _⟩; simp at hp
    | cons q M ih =>
      rintro ⟨p, hp, hy⟩
      by_cases hm : y ∈ q.1.set
      · obtain ⟨x, rfl⟩ := q.1.exists_idx_of_mem hm
        rw [List.cons_append]
        exact (View.canon_cons_emb q.1 q.2 _ x).trans (View.canon_cons_emb q.1 q.2 _ x).symm
      · rw [List.cons_append, View.canon_cons_of_not_mem _ _ hm, View.canon_cons_of_not_mem _ _ hm]
        rcases List.mem_cons.mp hp with rfl | hp
        · exact absurd hy hm
        · exact ih ⟨p, hp, hy⟩
  exact key _ hc

variable {X D : ℕ → ℕ → ℝ} {g b : ℕ → ℝ} {W : ℕ → ℕ → ℕ → ℝ} {B : ℕ → ℕ → ℝ}

theorem inner_tile (x : ℝ) : kk * (x + 8943 / 200000 * x * x * x) = kk * (x + 8943 / 200000 * (x * x * x)) := by ring

/-- The cotangent of the mixed rows, as the kernel multiplies it. -/
theorem dm_tile {r n r' n' : ℕ} (hr : r = r') (hn : n = n') :
    D r n * (X r n * (1 / 2 * (1 + Real.tanh (kk * (X r n + 8943 / 200000 * X r n * X r n * X r n)))))
        * (X r (4096 + n) * (1 / (1 + Real.exp (0 - X r (4096 + n)))))
      = dm X D r' n' := by
  subst hr hn
  rw [dm, gelu, gate, inner, silu, sgm, zero_sub, inner_tile]

/-- One term of the cotangent of the normalised rows. -/
theorem dvn_tile {r n q x r' n' q' x' k : ℕ} (hq : q = q') (hx : x = x') (hr : r = r') (hn : n = n') :
    W q k x * (D r n * (X r n * (1 / 2 * (1 + Real.tanh (kk * (X r n + 8943 / 200000 * X r n * X r n * X r n)))))
        * (X r (4096 + n) * (1 / (1 + Real.exp (0 - X r (4096 + n))))))
      = W q' k x' * dm X D r' n' := by
  subst hq hx
  rw [dm_tile hr hn]

/-- One term of the cotangent of the mixing matrix. -/
theorem dws_tile {r n r' n' s c s' c' : ℕ} (hr : r = r') (hn : n = n') (hs : s = s') (hc : c = c') :
    D r n * (X r n * (1 / 2 * (1 + Real.tanh (kk * (X r n + 8943 / 200000 * X r n * X r n * X r n)))))
        * (X r (4096 + n) * (1 / (1 + Real.exp (0 - X r (4096 + n))))) * vn X g b s c
      = dm X D r' n' * vn X g b s' c' := by
  subst hs hc
  rw [dm_tile hr hn]

/-- The mixed row: the product with the group's matrix and the bias, at a tile's indices. -/
theorem mix_tile {r n q' t' : ℕ} {q t s r' n' : Fin 128 → ℕ} (hq : ∀ i, q i = n / 256) (ht : ∀ i, t i = r % 128) (hs : ∀ i, s i = i.val)
    (hr : ∀ i, r' i = r / 128 * 128 + i.val) (hn : ∀ i, n' i = n) (hq' : q' = n / 256) (ht' : t' = r % 128) :
    ∑ i : Fin 128, W (q i) (t i) (s i) * vn X g b (r' i) (n' i) + B q' t' = mixed X g b W B r n := by
  simp only [hq, ht, hs, hr, hn, hq', ht', mixed]

/-- The gradient of u, as the kernel multiplies it. -/
theorem du_tile {r n ro c : ℕ} {M : ℝ} (hr : r = ro) (hn : n = c) (hc : c < 2048) (hM : M = mixed X g b W B ro c) :
    D r n * M * (X r (4096 + n) * (1 / (1 + Real.exp (0 - X r (4096 + n)))))
        * (1 / 2 * (1 + Real.tanh (kk * (X r n + 8943 / 200000 * X r n * X r n * X r n)))
          + 1 / 2 * X r n * (1 - Real.tanh (kk * (X r n + 8943 / 200000 * X r n * X r n * X r n))
              * Real.tanh (kk * (X r n + 8943 / 200000 * X r n * X r n * X r n))) * kk * (1 + 26829 / 200000 * X r n * X r n))
      = duvz X D g b W B ro c := by
  subst hr hn hM
  rw [duvz, if_pos hc, du, silu, sgm, dgelu, gate, inner, zero_sub, inner_tile]
  ring

/-- The gradient of z, as the kernel multiplies it. -/
theorem dz_tile {r n ro c : ℕ} {M : ℝ} (hr : r = ro) (hn : 4096 + n = c) (hM : M = mixed X g b W B ro n) :
    D r n * (X r n * (1 / 2 * (1 + Real.tanh (kk * (X r n + 8943 / 200000 * X r n * X r n * X r n))))) * M
        * (1 / (1 + Real.exp (0 - X r (4096 + n))) * (1 + X r (4096 + n) * (1 - 1 / (1 + Real.exp (0 - X r (4096 + n))))))
      = duvz X D g b W B ro c := by
  subst hr hn hM
  rw [duvz, if_neg (by omega), if_neg (by omega), Nat.add_sub_cancel_left, dz, gelu, gate, inner, dsilu, sgm, zero_sub, inner_tile]

end Cert.Sgu.Ker

end
-- ==== Proof.Ker8.lean ====
/-
  The gradient of the projection's output: what one grid point (256 rows) leaves in its block. Sixteen tiles of u, sixteen of z, and the columns of v, whose
  cotangent the point first gathers in a scratch.
-/
module
public import proofs.«01_k».proof.Proof.KerTile

@[expose] public section

set_option maxRecDepth 16384

noncomputable section
namespace Cert.Sgu.Ker
open Cert.KernelIdeal Cert.KernelIdeal.Gen Idealize.ShloMosaic Idealize.ShloMosaic.TcCoe Cert.KernelIdeal.Value

variable (m : (ℓ : Loc nD τ sig) → Buf (Elt Ideal) ℓ)
variable {X D : ℕ → ℕ → ℝ} {g b : ℕ → ℝ} {W : ℕ → ℕ → ℕ → ℝ} {B : ℕ → ℕ → ℝ}

variable {b0 b1 b2 b3 : Vec Ideal S256x2048 .bf16} {b4 b5 : Vec Ideal S1x2048 .f32} {b6 : Vec Ideal S8x128x128 .bf16}
  {b7 : Vec Ideal S8x128x1 .f32}

set_option maxHeartbeats 8000000 in
/-- One grid point's block of the gradient of the projection's output, its first row being `p`. -/
theorem duvz_point (c : Dev nD) (t : Fin cfg0.N) (p : ℕ) (hp : p % 128 = 0)
  (i0 : iblk m c 0 t = b0) (i1 : iblk m c 1 t = b1) (i2 : iblk m c 2 t = b2) (i3 : iblk m c 3 t = b3) (i4 : iblk m c 4 t = b4)
  (i5 : iblk m c 5 t = b5) (i6 : iblk m c 6 t = b6) (i7 : iblk m c 7 t = b7)
  (e0 : ∀ y, b0 y = ((X (p + (y 0).val) ((y 1).val) : ℝ) : EReal))
  (e1 : ∀ y, b1 y = ((X (p + (y 0).val) (2048 + (y 1).val) : ℝ) : EReal))
  (e2 : ∀ y, b2 y = ((X (p + (y 0).val) (4096 + (y 1).val) : ℝ) : EReal))
  (e3 : ∀ y, b3 y = ((D (p + (y 0).val) ((y 1).val) : ℝ) : EReal))
  (e4 : ∀ y, b4 y = ((g (y 1).val : ℝ) : EReal)) (e5 : ∀ y, b5 y = ((b (y 1).val : ℝ) : EReal))
  (e6 : ∀ y, b6 y = ((W (y 0).val (y 1).val (y 2).val : ℝ) : EReal))
  (e7 : ∀ y, b7 y = ((B (y 0).val (y 1).val : ℝ) : EReal))
  (y : S256x6144.Idx) :
  (outsAt0 m c t.val t.isLt).1 y = ((duvz X D g b W B (p + (y 0).val) (y 1).val : ℝ) : EReal) := by
  have hN : t.val < 16 := lt_of_lt_of_eq t.isLt N_0
  obtain ⟨ht, hu⟩ | ⟨ht, hu⟩ : (t.val % 16 = 0 ∧ ¬1 ≤ t.val) ∨ (¬t.val % 16 = 0 ∧ 1 ≤ t.val) := by omega
  on_goal 1 =>
    rw [outsAt0_A m c t ht ht hu ht hu]
    frame_out
  on_goal 2 =>
    rw [outsAt0_B m c t ht ht hu ht hu]
    frame_out
  all_goals
    rw [i0, i1, i2, i3, i4, i5, i6, i7]
    generalize hS : View.readCov (Val := Elt Ideal) (View.whole cc0_scratch0) _ _ = S
    have e : ∀ y, S y = ((dvn X D W (p + (y 0).val) (y 1).val : ℝ) : EReal) := by
      intro y
      rw [← hS, View.readCov_eq_canon']
      beta_reduce
      have e : ((Rect.unit ![0, 0] ![256, 2048] inb_S256x2048_S256x2048_0_0).toLoadRect.idx y) = y := by
        funext a
        exact Fin.ext (by fin_cases a <;> simp [LoadRect.idx, Rect.toLoadRect, Rect.unit])
      rw [e]
      have y0 : (y 0).val < 256 := (y 0).isLt
      have y1 : (y 1).val < 2048 := (y 1).isLt
      clear hS
      canon_tiles x h
      all_goals
        open_payloads
        pointwise
        simp only [e0, e2, e3, e6, cubic, bits_half, bits_kk, ← EReal.coe_one, ← EReal.coe_zero, ← EReal.coe_mul, ← EReal.coe_add,
          ← EReal.coe_sub, Ideal.tanh_coe, Ideal.exp_coe, coe_div_one_add_exp, coe_sum]
        refine congrArg _ (Finset.sum_congr rfl fun k _ => ?_)
        refine dvn_tile ?_ ?_ ?_ ?_ <;> blk_simp <;>
          simp only [Fin.coe_ofNat_eq_mod, Nat.reduceMod, Fin.val_mk, Fin.val_zero, Fin.val_one] <;> omega
    clear hS
    simp only [k0_pay15, k0_pay14]
    generalize hV : k0_pay11 b4 b5 (k0_pay7 b1) (k0_pay8 b1) = VN
    have eV : ∀ y, VN y = ((vn X g b (p + (y 0).val) (y 1).val : ℝ) : EReal) := fun y => by rw [← hV]; exact vn_at e1 e4 e5 y
    clear hV
    have y0 : (y 0).val < 256 := (y 0).isLt
    have y1 : (y 1).val < 6144 := (y 1).isLt
    canon_tiles x h using View.cover_of_tiledBy _ ![128, 256] (by sl_kernel_rfl) y
    case piece0 =>
      clear i0 i1 i2 i3 i4 i5 i6 i7
      rw [dv_at (S := S) (E := fun r c => dvn X D W (p + r) c) e1 e4 e]
      refine congrArg _ ?_
      rw [duvz, if_neg (by omega), if_pos (by omega), h0, show (y 1).val - 2048 = (x 1).val by omega]
      rfl
    all_goals
      open_payloads
      pointwise
      simp only [e0, e2, e3, e6, e7, eV, cubic, cubic3, bits_half, bits_kk, ← EReal.coe_one, ← EReal.coe_zero, ← EReal.coe_mul, ← EReal.coe_add,
        ← EReal.coe_sub, Ideal.tanh_coe, Ideal.exp_coe, coe_div_one_add_exp, coe_sum]
      refine congrArg _ ?_
      first
        | refine du_tile ?_ ?_ ?_ (mix_tile (fun i => ?_) (fun i => ?_) (fun i => ?_) (fun i => ?_) (fun i => ?_) ?_ ?_)
        | refine dz_tile ?_ ?_ (mix_tile (fun i => ?_) (fun i => ?_) (fun i => ?_) (fun i => ?_) (fun i => ?_) ?_ ?_)
      all_goals
        (try blk_simp) <;>
          (try simp only [Fin.coe_ofNat_eq_mod, Nat.reduceMod, Fin.val_mk, Fin.val_zero, Fin.val_one]) <;> omega

end Cert.Sgu.Ker

end
-- ==== Proof.Ker9.lean ====
/-
  The gradient of the spatial weights: what one grid point adds to it. Each group's slice is read, added to and stored twice, once per chunk of 128 rows.
-/
module
public import proofs.«01_k».proof.Proof.KerTile

@[expose] public section

set_option maxRecDepth 16384

noncomputable section
namespace Cert.Sgu.Ker
open Cert.KernelIdeal Cert.KernelIdeal.Gen Idealize.ShloMosaic Idealize.ShloMosaic.TcCoe Cert.KernelIdeal.Value

variable (m : (ℓ : Loc nD τ sig) → Buf (Elt Ideal) ℓ)
variable {X D : ℕ → ℕ → ℝ} {g b : ℕ → ℝ} {W : ℕ → ℕ → ℕ → ℝ} {B : ℕ → ℕ → ℝ}

variable {b0 b1 b2 b3 : Vec Ideal S256x2048 .bf16} {b4 b5 : Vec Ideal S1x2048 .f32} {b6 : Vec Ideal S8x128x128 .bf16}
  {b7 : Vec Ideal S8x128x1 .f32}

set_option maxHeartbeats 4000000 in
/-- The first point starts from zero. -/
theorem dws_A (c : Dev nD) (t : Fin cfg0.N) (h : t.val % 16 = 0) (h2 : ¬1 ≤ t.val) (p : ℕ)
  (i0 : iblk m c 0 t = b0) (i1 : iblk m c 1 t = b1) (i2 : iblk m c 2 t = b2) (i3 : iblk m c 3 t = b3) (i4 : iblk m c 4 t = b4) (i5 : iblk m c 5 t = b5)
  (e0 : ∀ y, b0 y = ((X (p + (y 0).val) ((y 1).val) : ℝ) : EReal))
  (e1 : ∀ y, b1 y = ((X (p + (y 0).val) (2048 + (y 1).val) : ℝ) : EReal))
  (e2 : ∀ y, b2 y = ((X (p + (y 0).val) (4096 + (y 1).val) : ℝ) : EReal))
  (e3 : ∀ y, b3 y = ((D (p + (y 0).val) ((y 1).val) : ℝ) : EReal))
  (e4 : ∀ y, b4 y = ((g (y 1).val : ℝ) : EReal)) (e5 : ∀ y, b5 y = ((b (y 1).val : ℝ) : EReal)) (y : S8x128x128.Idx) :
   (outsAt0 m c t.val t.isLt).2.1 y = ((∑ k : Fin 256, dm X D (p + (y 1).val) ((y 0).val * 256 + k.val) * vn X g b (p + (y 2).val) ((y 0).val * 256 + k.val) : ℝ) : EReal)
     + ((∑ k : Fin 256, dm X D (p + 128 + (y 1).val) ((y 0).val * 256 + k.val) * vn X g b (p + 128 + (y 2).val) ((y 0).val * 256 + k.val) : ℝ) : EReal) := by
  rw [outsAt0_A m c t h h h2 h h2]
  frame_open
  simp (disch := decide) only [↓ View.readCov_skip, ↓ View.readCov_cons_toLoadRect, ↓ View.readCov_fill]
  frame_out
  rw [i0, i1, i2, i3, i4, i5]
  have y0 : (y 0).val < 8 := (y 0).isLt
  have y1 : (y 1).val < 128 := (y 1).isLt
  have y2 : (y 2).val < 128 := (y 2).isLt
  rw [canon_eight _ _ _ _ _ _ _ _ _ y (View.cover_of_tiled_head _ _ _ (by rfl) y)]
  simp only [k0_pay14]
  generalize hV : k0_pay11 b4 b5 (k0_pay7 b1) (k0_pay8 b1) = VN
  have eV : ∀ y, VN y = ((vn X g b (p + (y 0).val) (y 1).val : ℝ) : EReal) := fun y => by rw [← hV]; exact vn_at e1 e4 e5 y
  clear hV
  canon_tiles x h
  all_goals
    open_payloads
    pointwise
    simp only [eV, e0, e2, e3, cubic, bits_half, bits_kk, ← EReal.coe_one, ← EReal.coe_zero, ← EReal.coe_mul, ← EReal.coe_add,
        ← EReal.coe_sub, Ideal.tanh_coe, Ideal.exp_coe, coe_div_one_add_exp, coe_sum, zero_add]
    refine congrArg _ (congrArg₂ _ (Finset.sum_congr rfl fun k _ => ?_) (Finset.sum_congr rfl fun k _ => ?_))
    all_goals
      refine dws_tile ?_ ?_ ?_ ?_ <;> blk_simp <;>
        simp only [Fin.coe_ofNat_eq_mod, Nat.reduceMod, Fin.val_mk, Fin.val_zero, Fin.val_one] <;> omega

set_option maxHeartbeats 4000000 in
/-- A later point adds its two chunks to what the point before left. -/
theorem dws_B (c : Dev nD) (t : Fin cfg0.N) (h : ¬ t.val % 16 = 0) (h2 : 1 ≤ t.val) (p : ℕ)
  (i0 : iblk m c 0 t = b0) (i1 : iblk m c 1 t = b1) (i2 : iblk m c 2 t = b2) (i3 : iblk m c 3 t = b3) (i4 : iblk m c 4 t = b4) (i5 : iblk m c 5 t = b5)
  (e0 : ∀ y, b0 y = ((X (p + (y 0).val) ((y 1).val) : ℝ) : EReal))
  (e1 : ∀ y, b1 y = ((X (p + (y 0).val) (2048 + (y 1).val) : ℝ) : EReal))
  (e2 : ∀ y, b2 y = ((X (p + (y 0).val) (4096 + (y 1).val) : ℝ) : EReal))
  (e3 : ∀ y, b3 y = ((D (p + (y 0).val) ((y 1).val) : ℝ) : EReal))
  (e4 : ∀ y, b4 y = ((g (y 1).val : ℝ) : EReal)) (e5 : ∀ y, b5 y = ((b (y 1).val : ℝ) : EReal)) (y : S8x128x128.Idx) :
   (outsAt0 m c t.val t.isLt).2.1 y = (outsAt0 m c (t.val - 1) (Nat.lt_of_le_of_lt (Nat.sub_le _ _) t.isLt)).2.1 y
     + ((∑ k : Fin 256, dm X D (p + (y 1).val) ((y 0).val * 256 + k.val) * vn X g b (p + (y 2).val) ((y 0).val * 256 + k.val) : ℝ) : EReal)
     + ((∑ k : Fin 256, dm X D (p + 128 + (y 1).val) ((y 0).val * 256 + k.val) * vn X g b (p + 128 + (y 2).val) ((y 0).val * 256 + k.val) : ℝ) : EReal) := by
  rw [outsAt0_B m c t h h h2 h h2]
  frame_open
  simp (disch := decide) only [↓ View.readCov_skip, ↓ View.readCov_cons_toLoadRect, ↓ View.readCov_fill]
  frame_out
  rw [i0, i1, i2, i3, i4, i5]
  generalize (outsAt0 m c (t.val - 1) _).2.1 = pr
  have y0 : (y 0).val < 8 := (y 0).isLt
  have y1 : (y 1).val < 128 := (y 1).isLt
  have y2 : (y 2).val < 128 := (y 2).isLt
  rw [canon_eight _ _ _ _ _ _ _ _ _ y (View.cover_of_tiled_head _ _ _ (by rfl) y)]
  simp only [k0_pay14]
  generalize hV : k0_pay11 b4 b5 (k0_pay7 b1) (k0_pay8 b1) = VN
  have eV : ∀ y, VN y = ((vn X g b (p + (y 0).val) (y 1).val : ℝ) : EReal) := fun y => by rw [← hV]; exact vn_at e1 e4 e5 y
  clear hV
  canon_tiles x h
  all_goals
    open_payloads
    pointwise
    simp only [eV, e0, e2, e3, cubic, bits_half, bits_kk, ← EReal.coe_one, ← EReal.coe_zero, ← EReal.coe_mul, ← EReal.coe_add,
        ← EReal.coe_sub, Ideal.tanh_coe, Ideal.exp_coe, coe_div_one_add_exp, coe_sum]
    refine congrArg₂ _ (congrArg₂ _ (congrArg pr ?_) (congrArg _ (Finset.sum_congr rfl fun k _ => ?_))) (congrArg _ (Finset.sum_congr rfl fun k _ => ?_))
    · blk_ext <;> blk_simp <;> simp only [Fin.coe_ofNat_eq_mod, Nat.reduceMod, Fin.val_mk, Fin.val_zero, Fin.val_one] <;> omega
    all_goals
      refine dws_tile ?_ ?_ ?_ ?_ <;> blk_simp <;>
        simp only [Fin.coe_ofNat_eq_mod, Nat.reduceMod, Fin.val_mk, Fin.val_zero, Fin.val_one] <;> omega

end Cert.Sgu.Ker

end
-- ==== Proof.Ker10.lean ====
/-
  The gradient of the spatial biases, in its 128-fold form: what one grid point adds to it.
-/
module
public import proofs.«01_k».proof.Proof.KerTile

@[expose] public section

set_option maxRecDepth 16384

noncomputable section
namespace Cert.Sgu.Ker
open Cert.KernelIdeal Cert.KernelIdeal.Gen Idealize.ShloMosaic Idealize.ShloMosaic.TcCoe Cert.KernelIdeal.Value

variable (m : (ℓ : Loc nD τ sig) → Buf (Elt Ideal) ℓ)
variable {X D : ℕ → ℕ → ℝ} {g b : ℕ → ℝ} {W : ℕ → ℕ → ℕ → ℝ} {B : ℕ → ℕ → ℝ}

variable {b0 b1 b2 b3 : Vec Ideal S256x2048 .bf16} {b4 b5 : Vec Ideal S1x2048 .f32} {b6 : Vec Ideal S8x128x128 .bf16}
  {b7 : Vec Ideal S8x128x1 .f32}

set_option maxHeartbeats 4000000 in
/-- The first point starts from zero. -/
theorem dbs_A (c : Dev nD) (t : Fin cfg0.N) (h : t.val % 16 = 0) (h2 : ¬1 ≤ t.val) (p : ℕ)
  (i0 : iblk m c 0 t = b0) (i2 : iblk m c 2 t = b2) (i3 : iblk m c 3 t = b3)
  (e0 : ∀ y, b0 y = ((X (p + (y 0).val) ((y 1).val) : ℝ) : EReal))
  (e2 : ∀ y, b2 y = ((X (p + (y 0).val) (4096 + (y 1).val) : ℝ) : EReal))
  (e3 : ∀ y, b3 y = ((D (p + (y 0).val) ((y 1).val) : ℝ) : EReal)) (y : S8x128x128.Idx) :
   (outsAt0 m c t.val t.isLt).2.2.1 y = ((∑ k : Fin 256, dm X D (p + (y 1).val) ((y 0).val * 256 + k.val) : ℝ) : EReal)
     + ((∑ k : Fin 256, dm X D (p + 128 + (y 1).val) ((y 0).val * 256 + k.val) : ℝ) : EReal) := by
  rw [outsAt0_A m c t h h h2 h h2]
  frame_open
  simp (disch := decide) only [↓ View.readCov_skip, ↓ View.readCov_cons_toLoadRect, ↓ View.readCov_fill]
  frame_out
  rw [i0, i2, i3]
  have y0 : (y 0).val < 8 := (y 0).isLt
  have y1 : (y 1).val < 128 := (y 1).isLt
  have y2 : (y 2).val < 128 := (y 2).isLt
  rw [canon_eight _ _ _ _ _ _ _ _ _ y (View.cover_of_tiled_head _ _ _ (by rfl) y)]
  canon_tiles x h
  all_goals
    open_payloads
    pointwise
    simp only [e0, e2, e3, cubic, bits_half, bits_kk, ← EReal.coe_one, ← EReal.coe_zero, ← EReal.coe_mul, ← EReal.coe_add,
        ← EReal.coe_sub, Ideal.tanh_coe, Ideal.exp_coe, coe_div_one_add_exp, coe_sum, zero_add]
    refine congrArg _ (congrArg₂ _ (Finset.sum_congr rfl fun k _ => ?_) (Finset.sum_congr rfl fun k _ => ?_))
    all_goals
      refine dm_tile ?_ ?_ <;> blk_simp <;>
        simp only [Fin.coe_ofNat_eq_mod, Nat.reduceMod, Fin.val_mk, Fin.val_zero, Fin.val_one] <;> omega

set_option maxHeartbeats 4000000 in
/-- A later point adds its two chunks to what the point before left. -/
theorem dbs_B (c : Dev nD) (t : Fin cfg0.N) (h : ¬ t.val % 16 = 0) (h2 : 1 ≤ t.val) (p : ℕ)
  (i0 : iblk m c 0 t = b0) (i2 : iblk m c 2 t = b2) (i3 : iblk m c 3 t = b3)
  (e0 : ∀ y, b0 y = ((X (p + (y 0).val) ((y 1).val) : ℝ) : EReal))
  (e2 : ∀ y, b2 y = ((X (p + (y 0).val) (4096 + (y 1).val) : ℝ) : EReal))
  (e3 : ∀ y, b3 y = ((D (p + (y 0).val) ((y 1).val) : ℝ) : EReal)) (y : S8x128x128.Idx) :
   (outsAt0 m c t.val t.isLt).2.2.1 y = (outsAt0 m c (t.val - 1) (Nat.lt_of_le_of_lt (Nat.sub_le _ _) t.isLt)).2.2.1 y
     + ((∑ k : Fin 256, dm X D (p + (y 1).val) ((y 0).val * 256 + k.val) : ℝ) : EReal)
     + ((∑ k : Fin 256, dm X D (p + 128 + (y 1).val) ((y 0).val * 256 + k.val) : ℝ) : EReal) := by
  rw [outsAt0_B m c t h h h2 h h2]
  frame_open
  simp (disch := decide) only [↓ View.readCov_skip, ↓ View.readCov_cons_toLoadRect, ↓ View.readCov_fill]
  frame_out
  rw [i0, i2, i3]
  generalize (outsAt0 m c (t.val - 1) _).2.2.1 = pr
  have y0 : (y 0).val < 8 := (y 0).isLt
  have y1 : (y 1).val < 128 := (y 1).isLt
  have y2 : (y 2).val < 128 := (y 2).isLt
  rw [canon_eight _ _ _ _ _ _ _ _ _ y (View.cover_of_tiled_head _ _ _ (by rfl) y)]
  canon_tiles x h
  all_goals
    open_payloads
    pointwise
    simp only [e0, e2, e3, cubic, bits_half, bits_kk, ← EReal.coe_one, ← EReal.coe_zero, ← EReal.coe_mul, ← EReal.coe_add,
        ← EReal.coe_sub, Ideal.tanh_coe, Ideal.exp_coe, coe_div_one_add_exp, coe_sum]
    refine congrArg₂ _ (congrArg₂ _ (congrArg pr ?_) (congrArg _ (Finset.sum_congr rfl fun k _ => ?_))) (congrArg _ (Finset.sum_congr rfl fun k _ => ?_))
    · blk_ext <;> blk_simp <;> simp only [Fin.coe_ofNat_eq_mod, Nat.reduceMod, Fin.val_mk, Fin.val_zero, Fin.val_one] <;> omega
    all_goals
      refine dm_tile ?_ ?_ <;> blk_simp <;>
        simp only [Fin.coe_ofNat_eq_mod, Nat.reduceMod, Fin.val_mk, Fin.val_zero, Fin.val_one] <;> omega

end Cert.Sgu.Ker

end
-- ==== Proof.Ker11.lean ====
/-
  The gradients of the norm's scale and shift: what one grid point (256 rows) adds to them. The cotangent of the norm's output stands in the scratch.
-/
module
public import proofs.«01_k».proof.Proof.KerTile

@[expose] public section

set_option maxRecDepth 16384

noncomputable section
namespace Cert.Sgu.Ker
open Cert.KernelIdeal Cert.KernelIdeal.Gen Idealize.ShloMosaic Idealize.ShloMosaic.TcCoe Cert.KernelIdeal.Value

variable (m : (ℓ : Loc nD τ sig) → Buf (Elt Ideal) ℓ)
variable {X D : ℕ → ℕ → ℝ} {g b : ℕ → ℝ} {W : ℕ → ℕ → ℕ → ℝ} {B : ℕ → ℕ → ℝ}

variable {b0 b1 b2 b3 : Vec Ideal S256x2048 .bf16} {b4 b5 : Vec Ideal S1x2048 .f32} {b6 : Vec Ideal S8x128x128 .bf16}
  {b7 : Vec Ideal S8x128x1 .f32}

set_option maxHeartbeats 8000000 in
/-- One grid point adds the sums over its 256 rows, its first row being `p`. -/
theorem dg_db_point (c : Dev nD) (t : Fin cfg0.N) (p : ℕ) (hp : p % 128 = 0)
  (i0 : iblk m c 0 t = b0) (i1 : iblk m c 1 t = b1) (i2 : iblk m c 2 t = b2) (i3 : iblk m c 3 t = b3) (i4 : iblk m c 4 t = b4)
  (i5 : iblk m c 5 t = b5) (i6 : iblk m c 6 t = b6) (i7 : iblk m c 7 t = b7)
  (e0 : ∀ y, b0 y = ((X (p + (y 0).val) ((y 1).val) : ℝ) : EReal))
  (e1 : ∀ y, b1 y = ((X (p + (y 0).val) (2048 + (y 1).val) : ℝ) : EReal))
  (e2 : ∀ y, b2 y = ((X (p + (y 0).val) (4096 + (y 1).val) : ℝ) : EReal))
  (e3 : ∀ y, b3 y = ((D (p + (y 0).val) ((y 1).val) : ℝ) : EReal))
  (e4 : ∀ y, b4 y = ((g (y 1).val : ℝ) : EReal)) (e5 : ∀ y, b5 y = ((b (y 1).val : ℝ) : EReal))
  (e6 : ∀ y, b6 y = ((W (y 0).val (y 1).val (y 2).val : ℝ) : EReal))
  (e7 : ∀ y, b7 y = ((B (y 0).val (y 1).val : ℝ) : EReal))
  (pr1 pr2 : Vec Ideal S1x2048 .f32)
  (q1 : pr1 = if t.val % 16 = 0 then (fun _ => (0 : EReal)) else (outsAt0 m c (t.val - 1) (Nat.lt_of_le_of_lt (Nat.sub_le _ _) t.isLt)).2.2.2.1)
  (q2 : pr2 = if t.val % 16 = 0 then (fun _ => (0 : EReal)) else (outsAt0 m c (t.val - 1) (Nat.lt_of_le_of_lt (Nat.sub_le _ _) t.isLt)).2.2.2.2)
  (y : S1x2048.Idx) :
  (outsAt0 m c t.val t.isLt).2.2.2.1 y = pr1 y + ((∑ k : Fin 256, dvn X D W (p + k.val) (y 1).val * vh X (p + k.val) (y 1).val : ℝ) : EReal)
  ∧ (outsAt0 m c t.val t.isLt).2.2.2.2 y = pr2 y + ((∑ k : Fin 256, dvn X D W (p + k.val) (y 1).val : ℝ) : EReal) := by
  have hN : t.val < 16 := lt_of_lt_of_eq t.isLt N_0
  obtain ⟨ht, hu⟩ | ⟨ht, hu⟩ : (t.val % 16 = 0 ∧ ¬1 ≤ t.val) ∨ (¬t.val % 16 = 0 ∧ 1 ≤ t.val) := by omega
  on_goal 1 =>
    rw [outsAt0_A m c t ht ht hu ht hu]
    rw [if_pos ht] at q1 q2
    frame_out
    subst q1 q2
  on_goal 2 =>
    rw [outsAt0_B m c t ht ht hu ht hu]
    rw [if_neg ht] at q1 q2
    frame_out
    rw [← q1, ← q2]
  all_goals
    rw [i0, i1, i2, i3, i6]

    generalize hS : View.readCov (Val := Elt Ideal) (View.whole cc0_scratch0) _ _ = S
    have e : ∀ y, S y = ((dvn X D W (p + (y 0).val) (y 1).val : ℝ) : EReal) := by
      intro y
      rw [← hS, View.readCov_eq_canon']
      beta_reduce
      have e : ((Rect.unit ![0, 0] ![256, 2048] inb_S256x2048_S256x2048_0_0).toLoadRect.idx y) = y := by
        funext a
        exact Fin.ext (by fin_cases a <;> simp [LoadRect.idx, Rect.toLoadRect, Rect.unit])
      rw [e]
      have y0 : (y 0).val < 256 := (y 0).isLt
      have y1 : (y 1).val < 2048 := (y 1).isLt
      clear hS
      canon_tiles x h
      all_goals
        open_payloads
        pointwise
        simp only [e0, e2, e3, e6, cubic, bits_half, bits_kk, ← EReal.coe_one, ← EReal.coe_zero, ← EReal.coe_mul, ← EReal.coe_add,
          ← EReal.coe_sub, Ideal.tanh_coe, Ideal.exp_coe, coe_div_one_add_exp, coe_sum]
        refine congrArg _ (Finset.sum_congr rfl fun k _ => ?_)
        refine dvn_tile ?_ ?_ ?_ ?_ <;> blk_simp <;>
          simp only [Fin.coe_ofNat_eq_mod, Nat.reduceMod, Fin.val_mk, Fin.val_zero, Fin.val_one] <;> omega
    clear hS
    generalize hV : k0_pay10 (k0_pay7 b1) (k0_pay8 b1) = VH
    have eV : ∀ y, VH y = ((vh X (p + (y 0).val) (y 1).val : ℝ) : EReal) := fun y => by rw [← hV]; exact vh_at e1 y
    clear hV
    constructor
    all_goals
      open_payloads
      pointwise
      simp only [e, eV, ← EReal.coe_mul, coe_sum]
      first | rfl | exact (zero_add _).symm

end Cert.Sgu.Ker

end
-- ==== Proof.KerRun.lean ====
/-
  The kernel's five results: each array after the run is the function of `Spec`, given that the arguments' entries are real numbers. Four of the arrays are
  accumulated over the sixteen grid points; the first is written block by block.
-/
module

public import proofs.«01_k».proof.Proof.Ker8
public import proofs.«01_k».proof.Proof.Ker9
public import proofs.«01_k».proof.Proof.Ker10
public import proofs.«01_k».proof.Proof.Ker11

@[expose] public section

set_option maxRecDepth 16384

noncomputable section

namespace Cert.Sgu.Ker

open Cert.KernelIdeal Cert.KernelIdeal.Gen Idealize.ShloMosaic Idealize.ShloMosaic.TcCoe Cert.KernelIdeal.Value

/-- Thirty-two chunks, two per grid point. -/
theorem sum_chunks (f : ℕ → ℝ) : ∑ t : Fin 16, (f (2 * t.val) + f (2 * t.val + 1)) = ∑ n : Fin 32, f n.val := by
  rw [Fin.sum_univ_eq_sum_range (fun t => f (2 * t) + f (2 * t + 1)) 16, Fin.sum_univ_eq_sum_range f 32]
  simp only [Finset.sum_range_succ, Finset.sum_range_zero]
  ring

/-- All rows, 256 per grid point. -/
theorem sum_rows (f : ℕ → ℝ) : ∑ t : Fin 16, ∑ k : Fin 256, f (256 * t.val + k.val) = ∑ r : Fin 4096, f r.val := by
  rw [← Equiv.sum_comp (finProdFinEquiv (m := 16) (n := 256)) (fun r : Fin 4096 => f r.val), Fintype.sum_prod_type]
  refine Finset.sum_congr rfl fun t _ => Finset.sum_congr rfl fun k _ => ?_
  rw [finProdFinEquiv_apply_val, add_comm]

variable (m : (ℓ : Loc nD τ sig) → Buf (Elt Ideal) ℓ)
variable {X D : ℕ → ℕ → ℝ} {g b : ℕ → ℝ} {W : ℕ → ℕ → ℕ → ℝ} {B : ℕ → ℕ → ℝ}

/-- The block each window shows at a grid point. -/
theorem idx : ∀ t : Fin cfg0.N, win0_0.index t = ![t.val, 0] ∧ win0_1.index t = ![t.val, 1] ∧ win0_2.index t = ![t.val, 2]
    ∧ win0_3.index t = ![t.val, 0] ∧ win0_4.index t = ![0, 0] ∧ win0_5.index t = ![0, 0] ∧ win0_6.index t = ![0, 0, 0]
    ∧ win0_7.index t = ![0, 0, 0] ∧ win0_8.index t = ![t.val, 0] :=
  (by decide +kernel : ∀ t : Fin grid0.N, _)

variable (c : Dev nD)
  (h0 : ∀ i : S4096x6144.Idx, m ((c : Thread nD τ).loc main_arg0) i = ((X (i 0).val (i 1).val : ℝ) : EReal))
  (h1 : ∀ i : S4096x2048.Idx, m ((c : Thread nD τ).loc main_arg1) i = ((D (i 0).val (i 1).val : ℝ) : EReal))
  (h2 : ∀ i : S1x2048.Idx, m ((c : Thread nD τ).loc main_arg2) i = ((g (i 1).val : ℝ) : EReal))
  (h3 : ∀ i : S1x2048.Idx, m ((c : Thread nD τ).loc main_arg3) i = ((b (i 1).val : ℝ) : EReal))
  (h4 : ∀ i : S8x128x128.Idx, m ((c : Thread nD τ).loc main_arg4) i = ((W (i 0).val (i 1).val (i 2).val : ℝ) : EReal))
  (h5 : ∀ i : S8x128.Idx, m ((c : Thread nD τ).loc main_arg5) i = ((B (i 0).val (i 1).val : ℝ) : EReal))

include h0 in
theorem blk0 (t : Fin cfg0.N) (y : S256x2048.Idx) : iblk m c 0 t y = ((X (256 * t.val + (y 0).val) (y 1).val : ℝ) : EReal) := by
  refine (congrFun (V_main_arg0 m c) _).trans ((h0 _).trans ?_)
  obtain ⟨a0, a1, a2, a3, a4, a5, a6, a7, a8⟩ := idx t
  congr 2 <;> refine (win0_0.rect_emb_val t y _).trans ?_ <;> rw [a0]
  · show t.val * 256 + (y 0).val = _; omega
  · show 0 * 2048 + (y 1).val = _; omega

include h0 in
theorem blk1 (t : Fin cfg0.N) (y : S256x2048.Idx) : iblk m c 1 t y = ((X (256 * t.val + (y 0).val) (2048 + (y 1).val) : ℝ) : EReal) := by
  refine (congrFun (V_main_arg0 m c) _).trans ((h0 _).trans ?_)
  obtain ⟨a0, a1, a2, a3, a4, a5, a6, a7, a8⟩ := idx t
  congr 2 <;> refine (win0_1.rect_emb_val t y _).trans ?_ <;> rw [a1]
  · show t.val * 256 + (y 0).val = _; omega
  · show 1 * 2048 + (y 1).val = _; omega

include h0 in
theorem blk2 (t : Fin cfg0.N) (y : S256x2048.Idx) : iblk m c 2 t y = ((X (256 * t.val + (y 0).val) (4096 + (y 1).val) : ℝ) : EReal) := by
  refine (congrFun (V_main_arg0 m c) _).trans ((h0 _).trans ?_)
  obtain ⟨a0, a1, a2, a3, a4, a5, a6, a7, a8⟩ := idx t
  congr 2 <;> refine (win0_2.rect_emb_val t y _).trans ?_ <;> rw [a2]
  · show t.val * 256 + (y 0).val = _; omega
  · show 2 * 2048 + (y 1).val = _; omega

include h1 in
theorem blk3 (t : Fin cfg0.N) (y : S256x2048.Idx) : iblk m c 3 t y = ((D (256 * t.val + (y 0).val) (y 1).val : ℝ) : EReal) := by
  refine (congrFun (V_main_arg1 m c) _).trans ((h1 _).trans ?_)
  obtain ⟨a0, a1, a2, a3, a4, a5, a6, a7, a8⟩ := idx t
  congr 2 <;> refine (win0_3.rect_emb_val t y _).trans ?_ <;> rw [a3]
  · show t.val * 256 + (y 0).val = _; omega
  · show 0 * 2048 + (y 1).val = _; omega

include h2 in
theorem blk4 (t : Fin cfg0.N) (y : S1x2048.Idx) : iblk m c 4 t y = ((g (y 1).val : ℝ) : EReal) := by
  refine (congrFun (V_main_arg2 m c) _).trans ((h2 _).trans ?_)
  obtain ⟨a0, a1, a2, a3, a4, a5, a6, a7, a8⟩ := idx t
  congr 2
  exact win0_4.rect_emb_val_of_index_zero t 1 (by rw [a4]; rfl) y

include h3 in
theorem blk5 (t : Fin cfg0.N) (y : S1x2048.Idx) : iblk m c 5 t y = ((b (y 1).val : ℝ) : EReal) := by
  refine (congrFun (V_main_arg3 m c) _).trans ((h3 _).trans ?_)
  obtain ⟨a0, a1, a2, a3, a4, a5, a6, a7, a8⟩ := idx t
  congr 2
  exact win0_5.rect_emb_val_of_index_zero t 1 (by rw [a5]; rfl) y

include h4 in
theorem blk6 (t : Fin cfg0.N) (y : S8x128x128.Idx) : iblk m c 6 t y = ((W (y 0).val (y 1).val (y 2).val : ℝ) : EReal) := by
  obtain ⟨a0, a1, a2, a3, a4, a5, a6, a7, a8⟩ := idx t
  blk_simp [iblk, idx t]
  entry_read
  pointwise
  refine (h4 _).trans ?_
  congr 2
  · exact win0_6.rect_emb_val_of_index_zero t 0 (by rw [a6]; rfl) y
  · exact win0_6.rect_emb_val_of_index_zero t 1 (by rw [a6]; rfl) y
  · exact win0_6.rect_emb_val_of_index_zero t 2 (by rw [a6]; rfl) y

include h5 in
theorem blk7 (t : Fin cfg0.N) (y : S8x128x1.Idx) : iblk m c 7 t y = ((B (y 0).val (y 1).val : ℝ) : EReal) := by
  obtain ⟨a0, a1, a2, a3, a4, a5, a6, a7, a8⟩ := idx t
  blk_simp [iblk, idx t]
  entry_read
  pointwise
  refine (h5 _).trans ?_
  congr 2
  · exact win0_7.rect_emb_val_of_index_zero t 0 (by rw [a7]; rfl) y
  · exact win0_7.rect_emb_val_of_index_zero t 1 (by rw [a7]; rfl) y

include h0 h1 h2 h3 h4 h5 in
/-- The gradient of the three projections, block by block. -/
theorem final8 : (dats m 0 c).arrAt 8 cfg0.N = fun i : S4096x6144.Idx => ((duvz X D g b W B (i 0).val (i 1).val : ℝ) : EReal) := by
  refine (dats m 0 c).arrAt_eq_of_covers 8 _ (by decide +kernel) fun t hf y => ?_
  obtain ⟨a0, a1, a2, a3, a4, a5, a6, a7, a8⟩ := idx t
  rw [after0_8]
  refine (duvz_point m c t (256 * t.val) (by omega) rfl rfl rfl rfl rfl rfl rfl rfl (blk0 m c h0 t) (blk1 m c h0 t) (blk2 m c h0 t)
    (blk3 m c h1 t) (blk4 m c h2 t) (blk5 m c h3 t) (blk6 m c h4 t) (blk7 m c h5 t) _).trans ?_
  congr 2
  · refine Eq.trans ?_ (win0_8.rect_emb_val t y 0).symm
    rw [a8]
    show 256 * t.val + (y 0).val = t.val * 256 + (y 0).val
    omega
  · refine Eq.trans ?_ (win0_8.rect_emb_val t y 1).symm
    rw [a8]
    show (y 1).val = 0 * 6144 + (y 1).val
    omega

/-- The first of the sixteen points has no predecessor. -/
theorem first_point (t : Fin cfg0.N) (h : t.val % 16 = 0) : ¬1 ≤ t.val := by
  have hN : t.val < 16 := lt_of_lt_of_eq t.isLt N_0
  omega

/-- Every other point has one. -/
theorem later_point (t : Fin cfg0.N) (h : ¬t.val % 16 = 0) : 1 ≤ t.val := by
  omega

/-- A sum over the grid of images of real numbers, two chunks to a point, is the image of the sum over the chunks. -/
theorem grid_chunks (f : ℕ → ℝ) : ∑ t : Fin cfg0.N, (((f (2 * t.val) : ℝ) : EReal) + ((f (2 * t.val + 1) : ℝ) : EReal))
    = ((∑ n : Fin 32, f n.val : ℝ) : EReal) := by
  rw [← sum_chunks f, ← coe_sum]
  show ∑ t : Fin grid0.N, (((f (2 * t.val) : ℝ) : EReal) + ((f (2 * t.val + 1) : ℝ) : EReal)) = _
  rw [← Equiv.sum_comp (finCongr N_0.symm)]
  exact Finset.sum_congr rfl fun t _ => (EReal.coe_add _ _).symm

/-- The same with 256 rows to a point. -/
theorem grid_rows (f : ℕ → ℝ) : ∑ t : Fin cfg0.N, ((∑ k : Fin 256, f (256 * t.val + k.val) : ℝ) : EReal)
    = ((∑ r : Fin 4096, f r.val : ℝ) : EReal) := by
  rw [← sum_rows f, ← coe_sum]
  show ∑ t : Fin grid0.N, ((∑ k : Fin 256, f (256 * t.val + k.val) : ℝ) : EReal) = _
  rw [← Equiv.sum_comp (finCongr N_0.symm)]
  exact Finset.sum_congr rfl fun t _ => rfl

include h0 h1 h2 h3 in
/-- The gradient of the gate's weights, accumulated over the grid. -/
theorem final9 : (dats m 0 c).arrAt 9 cfg0.N = fun i : S8x128x128.Idx => ((dws X D g b (i 0).val (i 1).val (i 2).val : ℝ) : EReal) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0)
    (fun t y => ((∑ k : Fin 256, dm X D (2 * t.val * 128 + (y 1).val) ((y 0).val * 256 + k.val)
          * vn X g b (2 * t.val * 128 + (y 2).val) ((y 0).val * 256 + k.val) : ℝ) : EReal)
        + ((∑ k : Fin 256, dm X D ((2 * t.val + 1) * 128 + (y 1).val) ((y 0).val * 256 + k.val)
          * vn X g b ((2 * t.val + 1) * 128 + (y 2).val) ((y 0).val * 256 + k.val) : ℝ) : EReal))
    (fun t h y => by
      have e := dws_A m c t h (first_point t h) (256 * t.val) rfl rfl rfl rfl rfl rfl (blk0 m c h0 t) (blk1 m c h0 t)
        (blk2 m c h0 t) (blk3 m c h1 t) (blk4 m c h2 t) (blk5 m c h3 t) y
      rw [show 2 * t.val * 128 = 256 * t.val by omega, show (2 * t.val + 1) * 128 = 256 * t.val + 128 by omega, zero_add]
      exact e)
    (fun t h y => by
      have e := dws_B m c t h (later_point t h) (256 * t.val) rfl rfl rfl rfl rfl rfl (blk0 m c h0 t) (blk1 m c h0 t)
        (blk2 m c h0 t) (blk3 m c h1 t) (blk4 m c h2 t) (blk5 m c h3 t) y
      rw [show 2 * t.val * 128 = 256 * t.val by omega, show (2 * t.val + 1) * 128 = 256 * t.val + 128 by omega, ← add_assoc]
      exact e)
    (le_of_eq N_0) t0_15 rfl j, zero_add]
  exact grid_chunks fun n => ∑ k : Fin 256, dm X D (n * 128 + (j 1).val) ((j 0).val * 256 + k.val)
          * vn X g b (n * 128 + (j 2).val) ((j 0).val * 256 + k.val)

include h0 h1 in
/-- The gradient of the gate's bias, accumulated over the grid. -/
theorem final10 : (dats m 0 c).arrAt 10 cfg0.N = fun i : S8x128x128.Idx => ((dbs X D (i 0).val (i 1).val : ℝ) : EReal) := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0)
    (fun t y => ((∑ k : Fin 256, dm X D (2 * t.val * 128 + (y 1).val) ((y 0).val * 256 + k.val) : ℝ) : EReal)
        + ((∑ k : Fin 256, dm X D ((2 * t.val + 1) * 128 + (y 1).val) ((y 0).val * 256 + k.val) : ℝ) : EReal))
    (fun t h y => by
      have e := dbs_A m c t h (first_point t h) (256 * t.val) rfl rfl rfl (blk0 m c h0 t) (blk2 m c h0 t) (blk3 m c h1 t) y
      rw [show 2 * t.val * 128 = 256 * t.val by omega, show (2 * t.val + 1) * 128 = 256 * t.val + 128 by omega, zero_add]
      exact e)
    (fun t h y => by
      have e := dbs_B m c t h (later_point t h) (256 * t.val) rfl rfl rfl (blk0 m c h0 t) (blk2 m c h0 t) (blk3 m c h1 t) y
      rw [show 2 * t.val * 128 = 256 * t.val by omega, show (2 * t.val + 1) * 128 = 256 * t.val + 128 by omega, ← add_assoc]
      exact e)
    (le_of_eq N_0) t0_15 rfl j, zero_add]
  exact grid_chunks fun n => ∑ k : Fin 256, dm X D (n * 128 + (j 1).val) ((j 0).val * 256 + k.val)

include h0 h1 h2 h3 h4 h5 in
/-- The gradient of the normalisation's scale, accumulated over the grid. -/
theorem final11 : (dats m 0 c).arrAt 11 cfg0.N = fun i : S1x2048.Idx => ((dg X D W (i 1).val : ℝ) : EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => 0)
    (fun t y => ((∑ k : Fin 256, dvn X D W (256 * t.val + k.val) (y 1).val * vh X (256 * t.val + k.val) (y 1).val : ℝ) : EReal))
    (fun t h y => (dg_db_point m c t (256 * t.val) (by omega) rfl rfl rfl rfl rfl rfl rfl rfl (blk0 m c h0 t) (blk1 m c h0 t)
        (blk2 m c h0 t) (blk3 m c h1 t) (blk4 m c h2 t) (blk5 m c h3 t) (blk6 m c h4 t) (blk7 m c h5 t) _ _
        (if_pos h).symm (if_pos h).symm y).1)
    (fun t h y => (dg_db_point m c t (256 * t.val) (by omega) rfl rfl rfl rfl rfl rfl rfl rfl (blk0 m c h0 t) (blk1 m c h0 t)
        (blk2 m c h0 t) (blk3 m c h1 t) (blk4 m c h2 t) (blk5 m c h3 t) (blk6 m c h4 t) (blk7 m c h5 t) _ _
        (if_neg h).symm (if_neg h).symm y).1)
    (le_of_eq N_0) t0_15 rfl j, zero_add]
  exact grid_rows fun r => dvn X D W r (j 1).val * vh X r (j 1).val

include h0 h1 h2 h3 h4 h5 in
/-- The gradient of the normalisation's offset, accumulated over the grid. -/
theorem final12 : (dats m 0 c).arrAt 12 cfg0.N = fun i : S1x2048.Idx => ((db X D W (i 1).val : ℝ) : EReal) := by
  refine (dats m 0 c).arrAt_eq_of_after_last 12 t0_15 (by decide +kernel) _ fun j => ?_
  blk_simp
  rw [after0_12, Pipeline.eq_sum_fin_of_reset_step_apply_last (fun n h => (outsAt0 m c n h).2.2.2.2) 16 (fun _ => 0)
    (fun t y => ((∑ k : Fin 256, dvn X D W (256 * t.val + k.val) (y 1).val : ℝ) : EReal))
    (fun t h y => (dg_db_point m c t (256 * t.val) (by omega) rfl rfl rfl rfl rfl rfl rfl rfl (blk0 m c h0 t) (blk1 m c h0 t)
        (blk2 m c h0 t) (blk3 m c h1 t) (blk4 m c h2 t) (blk5 m c h3 t) (blk6 m c h4 t) (blk7 m c h5 t) _ _
        (if_pos h).symm (if_pos h).symm y).2)
    (fun t h y => (dg_db_point m c t (256 * t.val) (by omega) rfl rfl rfl rfl rfl rfl rfl rfl (blk0 m c h0 t) (blk1 m c h0 t)
        (blk2 m c h0 t) (blk3 m c h1 t) (blk4 m c h2 t) (blk5 m c h3 t) (blk6 m c h4 t) (blk7 m c h5 t) _ _
        (if_neg h).symm (if_neg h).symm y).2)
    (le_of_eq N_0) t0_15 rfl j, zero_add]
  exact grid_rows fun r => dvn X D W r (j 1).val

end Cert.Sgu.Ker

end
-- ==== Proof.RefRow.lean ====
/-
  The reference read at an index, first half: the activations, the norm's output and the spatial mix, as reals.
-/
module

public import proofs.«01_k».proof.Proof.Spec
public import proofs.«01_k».proof.Proof.Gen.ReferenceIdeal.Read

@[expose] public section

set_option maxRecDepth 16384

noncomputable section

namespace Cert.Sgu.Ref

open Cert.ReferenceIdeal Cert.ReferenceIdeal.Gen Cert.ReferenceIdeal.Read Idealize.ShloMosaic

variable {X D : ℕ → ℕ → ℝ} {g b : ℕ → ℝ} {W : ℕ → ℕ → ℕ → ℝ} {B : ℕ → ℕ → ℝ}
variable {x0 : (⟨S4096x6144, .bf16⟩ : BufTy).Contents (Elt Ideal)} {x1 : (⟨S4096x2048, .bf16⟩ : BufTy).Contents (Elt Ideal)}
  {x2 x3 : (⟨S1x2048, .f32⟩ : BufTy).Contents (Elt Ideal)} {x4 : (⟨S8x128x128, .f32⟩ : BufTy).Contents (Elt Ideal)}
  {x5 : (⟨S8x128, .f32⟩ : BufTy).Contents (Elt Ideal)}
variable (h0 : ∀ i, x0 i = ((X (i 0).val (i 1).val : ℝ) : EReal)) (h1 : ∀ i, x1 i = ((D (i 0).val (i 1).val : ℝ) : EReal))
  (h2 : ∀ i, x2 i = ((g (i 1).val : ℝ) : EReal)) (h3 : ∀ i, x3 i = ((b (i 1).val : ℝ) : EReal))
  (h4 : ∀ i, x4 i = ((W (i 0).val (i 1).val (i 2).val : ℝ) : EReal)) (h5 : ∀ i, x5 i = ((B (i 0).val (i 1).val : ℝ) : EReal))

theorem bits_8943 : Ideal.ofBits .f32 0x460BBC00#32 = ((8943 : ℝ) : EReal) := by
  simp [Ideal.ofBits, Ideal.ieee, -EReal.coe_mul]; norm_num
theorem bits_200000 : Ideal.ofBits .f32 0x48435000#32 = ((200000 : ℝ) : EReal) := by
  simp [Ideal.ofBits, Ideal.ieee, -EReal.coe_mul]; norm_num
theorem div_200000 (x : ℝ) : Ideal.div (x : EReal) ((200000 : ℝ) : EReal) = ((x / 200000 : ℝ) : EReal) :=
  coe_div x (by norm_num)

include h0

theorem u_eq (i : S4096x2048.Idx) : val_main_v1 x0 i = ((X (i 0).val (i 1).val : ℝ) : EReal) := by
  rw [val_main_v1_apply, val_main_v0_apply]; exact h0 _
theorem v_eq (i : S4096x2048.Idx) : val_main_v2 x0 i = ((X (i 0).val (2048 + (i 1).val) : ℝ) : EReal) := by
  rw [val_main_v2_apply, val_main_v0_apply]; exact h0 _
theorem z_eq (i : S4096x2048.Idx) : val_main_v3 x0 i = ((X (i 0).val (4096 + (i 1).val) : ℝ) : EReal) := by
  rw [val_main_v3_apply, val_main_v0_apply]; exact h0 _

/-- The hyperbolic tangent inside GELU of u. -/
theorem tanh_u (i : S4096x2048.Idx) :
    val_main_v16 x0 i = ((Real.tanh (inner (X (i 0).val (i 1).val)) : ℝ) : EReal) := by
  simp only [val_main_v16_apply, val_main_v15_apply, val_main_v14_apply, val_main_v13_apply, val_main_v12_apply,
    val_main_v11_apply, val_main_v10_apply, val_main_v9_apply, val_main_v5_apply, val_main_v4_apply, val_main_cst_0_apply,
    val_main_cst_1_apply, val_main_cst_2_apply, u_eq h0, Ideal.mulf_def, Ideal.addf_def, Ideal.hostDivf_def,
    Ideal.hostUnary_tanh_def, Ideal.ofBits_def, bits_8943, bits_200000, bits_kk, ← EReal.coe_mul, div_200000, ← EReal.coe_add,
    Ideal.tanh_coe]
  rw [inner]; congr 3; ring

/-- The hyperbolic tangent inside GELU of v. -/
theorem tanh_v (i : S4096x2048.Idx) :
    val_main_v39 x0 i = ((Real.tanh (inner (X (i 0).val (2048 + (i 1).val))) : ℝ) : EReal) := by
  simp only [val_main_v39_apply, val_main_v38_apply, val_main_v37_apply, val_main_v36_apply, val_main_v35_apply,
    val_main_v34_apply, val_main_v33_apply, val_main_v32_apply, val_main_v28_apply, val_main_v27_apply, val_main_cst_8_apply,
    val_main_cst_9_apply, val_main_cst_10_apply, v_eq h0, Ideal.mulf_def, Ideal.addf_def, Ideal.hostDivf_def,
    Ideal.hostUnary_tanh_def, Ideal.ofBits_def, bits_8943, bits_200000, bits_kk, ← EReal.coe_mul, div_200000, ← EReal.coe_add,
    Ideal.tanh_coe]
  rw [inner]; congr 3; ring

theorem gate_u (i : S4096x2048.Idx) : val_main_v25 x0 i = ((gate (X (i 0).val (i 1).val) : ℝ) : EReal) := by
  simp only [val_main_v25_apply, val_main_v24_apply, val_main_v23_apply, val_main_v22_apply, val_main_cst_5_apply,
    val_main_cst_6_apply, tanh_u h0, Ideal.mulf_def, Ideal.addf_def, Ideal.ofBits_def, bits_half, bits_one, ← EReal.coe_mul,
    ← EReal.coe_add]
  rfl

theorem gate_v (i : S4096x2048.Idx) : val_main_v48 x0 i = ((gate (X (i 0).val (2048 + (i 1).val)) : ℝ) : EReal) := by
  simp only [val_main_v48_apply, val_main_v47_apply, val_main_v46_apply, val_main_v45_apply, val_main_cst_13_apply,
    val_main_cst_14_apply, tanh_v h0, Ideal.mulf_def, Ideal.addf_def, Ideal.ofBits_def, bits_half, bits_one, ← EReal.coe_mul,
    ← EReal.coe_add]
  rfl

theorem gelu_u (i : S4096x2048.Idx) : val_main_v26 x0 i = ((gelu (X (i 0).val (i 1).val) : ℝ) : EReal) := by
  simp only [val_main_v26_apply, u_eq h0, gate_u h0, Ideal.mulf_def, ← EReal.coe_mul]; rfl

theorem gelu_v (i : S4096x2048.Idx) : val_main_v49 x0 i = ((gv X (i 0).val (i 1).val : ℝ) : EReal) := by
  simp only [val_main_v49_apply, v_eq h0, gate_v h0, Ideal.mulf_def, ← EReal.coe_mul]; rfl

/-- The logistic function of z. -/
theorem sig_z (i : S4096x2048.Idx) : val_main_v82_2 x0 i = ((sgm (X (i 0).val (4096 + (i 1).val)) : ℝ) : EReal) := by
  simp only [val_main_v82_2_apply, val_main_call0_v4_apply, val_main_call0_v3_apply, val_main_call0_v2_apply,
    val_main_call0_v1_apply, val_main_call0_v0_apply, val_main_call0_cst_apply, val_main_call0_cst_0_apply, z_eq h0,
    Ideal.hostNegf_def, Ideal.negf_def, Ideal.addf_def, Ideal.hostDivf_def, Ideal.hostUnary_exp_def, Ideal.ofBits_def, bits_one,
    ← EReal.coe_neg, Ideal.exp_coe, ← EReal.coe_add, coe_div_one_add_exp]
  rfl

theorem silu_z (i : S4096x2048.Idx) : val_main_v82_0 x0 i = ((silu (X (i 0).val (4096 + (i 1).val)) : ℝ) : EReal) := by
  simp only [val_main_v82_0_apply, z_eq h0, sig_z h0, Ideal.mulf_def, ← EReal.coe_mul]; rfl

/-- The logistic function's own derivative, at z. -/
theorem dsig_z (i : S4096x2048.Idx) : val_main_v82_1 x0 i
    = ((sgm (X (i 0).val (4096 + (i 1).val)) * (1 - sgm (X (i 0).val (4096 + (i 1).val))) : ℝ) : EReal) := by
  simp only [val_main_v82_1_apply, val_main_call0_v7_apply, val_main_call0_v6_apply, val_main_call0_cst_1_apply, sig_z h0,
    Ideal.mulf_def, Ideal.subf_def, Ideal.ofBits_def, bits_one, ← EReal.coe_mul, ← EReal.coe_sub]

/-- The mean of a row of the activated value branch. -/
theorem mu_eq (i : S4096x1.Idx) : val_main_v53 x0 i = ((mu X (i 0).val : ℝ) : EReal) := by
  simp only [val_main_v53_apply, val_main_v52_apply, val_main_v51_apply, val_main_v50_apply, val_main_cst_15_apply,
    val_main_cst_16_apply, gelu_v h0, Ideal.hostDivf_def, Ideal.ofBits_def, bits_2048, bits_zero, coe_sum, ← EReal.coe_add,
    coe_div_2048]
  rw [zero_add]; rfl

theorem xc_eq (i : S4096x2048.Idx) : val_main_v55 x0 i = ((xc X (i 0).val (i 1).val : ℝ) : EReal) := by
  simp only [val_main_v55_apply, val_main_v54_apply, gelu_v h0, mu_eq h0, Ideal.subf_def, ← EReal.coe_sub]; rfl

theorem vare_eq (i : S4096x1.Idx) : val_main_v62 x0 i = ((vare X (i 0).val : ℝ) : EReal) := by
  simp only [val_main_v62_apply, val_main_v61_apply, val_main_v60_apply, val_main_v59_apply, val_main_v58_apply,
    val_main_v57_apply, val_main_v56_apply, val_main_cst_17_apply, val_main_cst_18_apply, val_main_cst_19_apply, xc_eq h0,
    Ideal.addf_def, Ideal.mulf_def, Ideal.hostDivf_def, Ideal.ofBits_def, bits_2048, bits_zero, bits_eps, ← EReal.coe_mul,
    coe_sum, ← EReal.coe_add, coe_div_2048]
  rw [zero_add]; rfl

theorem rs_eq (i : S4096x1.Idx) : val_main_v63 x0 i = ((rs X (i 0).val : ℝ) : EReal) := by
  rw [val_main_v63_apply, vare_eq h0, Ideal.hostUnary_rsqrt_def, coe_rsqrt (vare_pos X _)]; rfl

theorem vh_eq (i : S4096x2048.Idx) : val_main_v68 x0 i = ((vh X (i 0).val (i 1).val : ℝ) : EReal) := by
  simp only [val_main_v68_apply, val_main_v67_apply, xc_eq h0, rs_eq h0, Ideal.mulf_def, ← EReal.coe_mul]; rfl

include h2 h3

theorem vn_eq (i : S4096x2048.Idx) : val_main_v72 x0 x2 x3 i = ((vn X g b (i 0).val (i 1).val : ℝ) : EReal) := by
  simp only [val_main_v72_apply, val_main_v71_apply, val_main_v70_apply, val_main_v69_apply, vh_eq h0, h2, h3, Ideal.mulf_def,
    Ideal.addf_def, ← EReal.coe_mul, ← EReal.coe_add]
  rfl

/-- The norm's output by chunk, row, group and lane. -/
theorem vn4_eq (i : S32x128x8x256.Idx) : val_main_v73 x0 x2 x3 i
    = ((vn X g b ((i 0).val * 128 + (i 1).val) ((i 2).val * 256 + (i 3).val) : ℝ) : EReal) := by
  rw [val_main_v73_apply, vn_eq h0 h2 h3]
  have e0 : (i 0).val < 32 := (i 0).isLt; have e1 : (i 1).val < 128 := (i 1).isLt
  have e2 : (i 2).val < 8 := (i 2).isLt; have e3 : (i 3).val < 256 := (i 3).isLt
  congr 2
  · show ((((i 0).val * 128 + (i 1).val) * 8 + (i 2).val) * 256 + (i 3).val) / 2048 = _; omega
  · show ((((i 0).val * 128 + (i 1).val) * 8 + (i 2).val) * 256 + (i 3).val) % 2048 = _; omega

include h4 h5

/-- The spatial mix. -/
theorem mixed_eq (i : S4096x2048.Idx) :
    val_main_v80 x0 x2 x3 x4 x5 i = ((mixed X g b W B (i 0).val (i 1).val : ℝ) : EReal) := by
  simp only [val_main_v80_apply, val_main_v79_apply, val_main_v78_apply, val_main_v77_apply, val_main_v76_apply,
    val_main_v75_apply, val_main_v74_apply, vn4_eq h0 h2 h3, h4, h5, Ideal.addf_def, ← EReal.coe_mul, coe_sum, ← EReal.coe_add]
  have e0 : (i 0).val < 4096 := (i 0).isLt; have e1 : (i 1).val < 2048 := (i 1).isLt
  rw [mixed]
  have a0 : ((i 0).val * 2048 + (i 1).val) / 262144 = (i 0).val / 128 := by omega
  have a1 : ((i 0).val * 2048 + (i 1).val) / 2048 % 128 = (i 0).val % 128 := by omega
  have a2 : ((i 0).val * 2048 + (i 1).val) / 256 % 8 = (i 1).val / 256 := by omega
  have a3 : ((i 0).val * 2048 + (i 1).val) % 256 = (i 1).val % 256 := by omega
  have a4 : (i 1).val / 256 * 256 + (i 1).val % 256 = (i 1).val := by omega
  simp only [a0, a1, a2, a3, a4]
  congr 2
  exact Finset.sum_congr rfl fun s _ => mul_comm _ _

end Cert.Sgu.Ref

end
-- ==== Proof.RefGrad.lean ====
/-
  The reference read at an index, second half: the five gradients, as reals.
-/
module

public import proofs.«01_k».proof.Proof.RefRow

@[expose] public section

set_option maxRecDepth 16384

noncomputable section

namespace Cert.Sgu.Ref

open Cert.ReferenceIdeal Cert.ReferenceIdeal.Gen Cert.ReferenceIdeal.Read Idealize.ShloMosaic

/-- A host sum over the first and the last of four axes, read at an index of the middle two. -/
theorem hostSum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j : (⟨2, ![n1, n2]⟩ : Shape).Idx) :
    Ideal.hostReduceAdd h v init j = init + ∑ a : Fin n0, ∑ d : Fin n3, v (ix4 a (j 0) (j 1) d) := by
  have hf : ∀ i, h.drop i = j ↔ ∃ k : Fin n0 × Fin n3, ix4 k.1 (j 0) (j 1) k.2 = i := fun i => by
    constructor
    · rintro rfl
      refine ⟨(i 0, i 3), funext fun a => Fin.ext ?_⟩
      match a with
      | ⟨0, _⟩ => rfl
      | ⟨1, _⟩ => rfl
      | ⟨2, _⟩ => rfl
      | ⟨3, _⟩ => rfl
    · rintro ⟨k, rfl⟩
      funext a; apply Fin.ext
      match a with
      | ⟨0, _⟩ => rfl
      | ⟨1, _⟩ => rfl
  refine congrArg (init + ·) ((Finset.sum_filter_eq_sum_of_fiber (h.drop · = j)
    (fun k : Fin n0 × Fin n3 => ix4 k.1 (j 0) (j 1) k.2)
    (fun _ _ e => Prod.ext (congrFun e 0) (congrFun e 3)) hf v).trans ?_)
  rw [Fintype.sum_prod_type]

variable {X D : ℕ → ℕ → ℝ} {g b : ℕ → ℝ} {W : ℕ → ℕ → ℕ → ℝ} {B : ℕ → ℕ → ℝ}
variable {x0 : (⟨S4096x6144, .bf16⟩ : BufTy).Contents (Elt Ideal)} {x1 : (⟨S4096x2048, .bf16⟩ : BufTy).Contents (Elt Ideal)}
  {x2 x3 : (⟨S1x2048, .f32⟩ : BufTy).Contents (Elt Ideal)} {x4 : (⟨S8x128x128, .f32⟩ : BufTy).Contents (Elt Ideal)}
  {x5 : (⟨S8x128, .f32⟩ : BufTy).Contents (Elt Ideal)}
variable (h0 : ∀ i, x0 i = ((X (i 0).val (i 1).val : ℝ) : EReal)) (h1 : ∀ i, x1 i = ((D (i 0).val (i 1).val : ℝ) : EReal))
  (h2 : ∀ i, x2 i = ((g (i 1).val : ℝ) : EReal)) (h3 : ∀ i, x3 i = ((b (i 1).val : ℝ) : EReal))
  (h4 : ∀ i, x4 i = ((W (i 0).val (i 1).val (i 2).val : ℝ) : EReal)) (h5 : ∀ i, x5 i = ((B (i 0).val (i 1).val : ℝ) : EReal))

include h1 in
theorem d_eq (i : S4096x2048.Idx) : val_main_v84 x1 i = ((D (i 0).val (i 1).val : ℝ) : EReal) := by
  rw [val_main_v84_apply]; exact h1 _

include h0 h1

theorem dsilu_eq (i : S4096x2048.Idx) :
    val_main_v86 x0 x1 i = ((D (i 0).val (i 1).val * silu (X (i 0).val (4096 + (i 1).val)) : ℝ) : EReal) := by
  simp only [val_main_v86_apply, d_eq h1, silu_z h0, Ideal.mulf_def, ← EReal.coe_mul]

theorem dm_eq (i : S4096x2048.Idx) : val_main_v88 x0 x1 i = ((dm X D (i 0).val (i 1).val : ℝ) : EReal) := by
  simp only [val_main_v88_apply, gelu_u h0, dsilu_eq h0 h1, Ideal.mulf_def, ← EReal.coe_mul]
  rw [dm]; congr 1; ring

/-- The gradient of the mix by chunk, row, group and lane. -/
theorem dm4_eq (i : S32x128x8x256.Idx) : val_main_v90 x0 x1 i
    = ((dm X D ((i 0).val * 128 + (i 1).val) ((i 2).val * 256 + (i 3).val) : ℝ) : EReal) := by
  rw [val_main_v90_apply, dm_eq h0 h1]
  have e0 : (i 0).val < 32 := (i 0).isLt; have e1 : (i 1).val < 128 := (i 1).isLt
  have e2 : (i 2).val < 8 := (i 2).isLt; have e3 : (i 3).val < 256 := (i 3).isLt
  congr 2
  · show ((((i 0).val * 128 + (i 1).val) * 8 + (i 2).val) * 256 + (i 3).val) / 2048 = _; omega
  · show ((((i 0).val * 128 + (i 1).val) * 8 + (i 2).val) * 256 + (i 3).val) % 2048 = _; omega

/-- The gradient of the biases: the reference sums each chunk and lane, then a second time over two axes of size one. -/
theorem dbs_eq (i : S8x128.Idx) : val_main_v94 x0 x1 i = ((dbs X D (i 0).val (i 1).val : ℝ) : EReal) := by
  rw [val_main_v94_apply]
  have k1 : ∀ j : S128x8.Idx, val_main_v91 x0 x1 j = ((dbs X D (j 1).val (j 0).val : ℝ) : EReal) := fun j => by
    unfold val_main_v91
    refine (hostSum_outer reducesTo_S32x128x8x256_S128x8_d0_3 _ _ j).trans ?_
    simp only [dm4_eq h0 h1, val_main_cst_21_apply, Ideal.ofBits_def, bits_zero, coe_sum, ← EReal.coe_add]
    rw [zero_add]; rfl
  have k2 : ∀ j : S128x8.Idx, val_main_v93 x0 x1 j = ((dbs X D (j 1).val (j 0).val : ℝ) : EReal) := fun j => by
    unfold val_main_v93
    refine (hostSum_outer reducesTo_S1x128x8x1_S128x8_d0_3 _ _ j).trans ?_
    simp only [val_main_v92_apply, k1, val_main_cst_22_apply, Ideal.ofBits_def, bits_zero, coe_sum, ← EReal.coe_add,
      Finset.univ_unique, Finset.sum_singleton, zero_add]
    have e0 : (j 0).val < 128 := (j 0).isLt; have e1 : (j 1).val < 8 := (j 1).isLt
    congr 2
    · show (((0 * 128 + (j 0).val) * 8 + (j 1).val) * 1 + 0) % 8 = _; omega
    · show (((0 * 128 + (j 0).val) * 8 + (j 1).val) * 1 + 0) / 8 = _; omega
  exact k2 _

/-- The biases' gradient, repeated along the lanes. -/
theorem dbs_wide (i : S8x128x128.Idx) : val_main_v160 x0 x1 i = ((dbs X D (i 0).val (i 1).val : ℝ) : EReal) := by
  rw [val_main_v160_apply, val_main_v159_apply, dbs_eq h0 h1]

theorem dmt_eq (i : S8x32x256x128.Idx) : val_main_v95 x0 x1 i
    = ((dm X D ((i 1).val * 128 + (i 3).val) ((i 0).val * 256 + (i 2).val) : ℝ) : EReal) := by
  rw [val_main_v95_apply, dm4_eq h0 h1]

include h2 h3 in
/-- The gradient of the spatial weights. -/
theorem dws_eq (i : S8x128x128.Idx) :
    val_main_v96 x0 x1 x2 x3 i = ((dws X D g b (i 0).val (i 1).val (i 2).val : ℝ) : EReal) := by
  have k : val_main_v96 x0 x1 x2 x3 i = ∑ n : Fin 32, ∑ c : Fin 256,
      val_main_v95 x0 x1 (ix4 (i 0) n c (i 1)) * val_main_v73 x0 x2 x3 (ix4 n (i 2) (i 0) c) := by
    unfold val_main_v96
    generalize val_main_v95 x0 x1 = y
    generalize val_main_v73 x0 x2 x3 = y'
    pointwise
  rw [k]
  simp only [dmt_eq h0 h1, vn4_eq h0 h2 h3, ← EReal.coe_mul, coe_sum]
  rfl

include h4

/-- The gradient of the norm's output. -/
theorem dvn_eq (i : S4096x2048.Idx) : val_main_v99 x0 x1 x4 i = ((dvn X D W (i 0).val (i 1).val : ℝ) : EReal) := by
  simp only [val_main_v99_apply, val_main_v98_apply, val_main_v97_apply, dmt_eq h0 h1, h4, ← EReal.coe_mul, coe_sum]
  have e0 : (i 0).val < 4096 := (i 0).isLt; have e1 : (i 1).val < 2048 := (i 1).isLt
  rw [dvn]
  have a0 : ((i 0).val * 2048 + (i 1).val) / 262144 = (i 0).val / 128 := by omega
  have a1 : ((i 0).val * 2048 + (i 1).val) / 2048 % 128 = (i 0).val % 128 := by omega
  have a2 : ((i 0).val * 2048 + (i 1).val) / 256 % 8 = (i 1).val / 256 := by omega
  have a3 : ((i 0).val * 2048 + (i 1).val) % 256 = (i 1).val % 256 := by omega
  have a4 : (i 1).val / 256 * 256 + (i 1).val % 256 = (i 1).val := by omega
  simp only [a0, a1, a2, a3, a4]
  congr 1
  exact Finset.sum_congr rfl fun s _ => mul_comm _ _

/-- The gradient of the norm's shift. -/
theorem db_eq (i : S1x2048.Idx) : val_main_v101 x0 x1 x4 i = ((db X D W (i 1).val : ℝ) : EReal) := by
  simp only [val_main_v101_apply, val_main_v100_apply, dvn_eq h0 h1 h4, val_main_cst_23_apply, Ideal.ofBits_def, bits_zero,
    coe_sum, ← EReal.coe_add]
  rw [zero_add, db]
  have e0 : (i 0).val < 1 := (i 0).isLt; have e1 : (i 1).val < 2048 := (i 1).isLt
  have a : (i 0).val * 2048 + (i 1).val = (i 1).val := by omega
  simp only [a]

/-- The gradient of the norm's scale. -/
theorem dg_eq (i : S1x2048.Idx) : val_main_v104 x0 x1 x4 i = ((dg X D W (i 1).val : ℝ) : EReal) := by
  simp only [val_main_v104_apply, val_main_v103_apply, val_main_v102_apply, vh_eq h0, dvn_eq h0 h1 h4, val_main_cst_24_apply,
    Ideal.mulf_def, Ideal.ofBits_def, bits_zero, ← EReal.coe_mul, coe_sum, ← EReal.coe_add]
  rw [zero_add, dg]
  have e0 : (i 0).val < 1 := (i 0).isLt; have e1 : (i 1).val < 2048 := (i 1).isLt
  have a : (i 0).val * 2048 + (i 1).val = (i 1).val := by omega
  simp only [a]
  congr 1
  exact Finset.sum_congr rfl fun s _ => mul_comm _ _

include h2

theorem dvh_eq (i : S4096x2048.Idx) : val_main_v106 x0 x1 x2 x4 i = ((dvh X D g W (i 0).val (i 1).val : ℝ) : EReal) := by
  simp only [val_main_v106_apply, val_main_v105_apply, dvn_eq h0 h1 h4, h2, Ideal.mulf_def, ← EReal.coe_mul]; rfl

end Cert.Sgu.Ref

end
-- ==== Proof.RefOut.lean ====
/-
  The reference read at an index, last part: the norm's backward pass, and the gradient of the projection's output.
-/
module

public import proofs.«01_k».proof.Proof.RefGrad

@[expose] public section

set_option maxRecDepth 16384

noncomputable section

namespace Cert.Sgu.Ref

open Cert.ReferenceIdeal Cert.ReferenceIdeal.Gen Cert.ReferenceIdeal.Read Idealize.ShloMosaic

/-- The reference's correction through the variance, one number per row. -/
def wr (X D : ℕ → ℕ → ℝ) (g : ℕ → ℝ) (W : ℕ → ℕ → ℕ → ℝ) (r : ℕ) : ℝ :=
  (∑ k : Fin 2048, xc X r k * dvh X D g W r k) * (-(1 / 2) * (rs X r / vare X r)) / 2048

/-- The reference's gradient before the correction through the mean. -/
def sr (X D : ℕ → ℕ → ℝ) (g : ℕ → ℝ) (W : ℕ → ℕ → ℕ → ℝ) (r c : ℕ) : ℝ :=
  dvh X D g W r c * rs X r + xc X r c * wr X D g W r + wr X D g W r * xc X r c

/-- The reference's gradient of the activated value branch is the closed formula: the correction through the mean sees
    only the sum of the normalised row's gradient, since a centred row sums to zero. -/
theorem sr_mean (X D : ℕ → ℕ → ℝ) (g : ℕ → ℝ) (W : ℕ → ℕ → ℕ → ℝ) (r c : ℕ) :
    sr X D g W r c + (∑ k : Fin 2048, -sr X D g W r k) / 2048 = dgv X D g W r c := by
  have hsum : ∑ k : Fin 2048, -sr X D g W r k = -(rs X r * ∑ k : Fin 2048, dvh X D g W r k) := by
    rw [Finset.sum_neg_distrib]
    congr 1
    have : ∀ k : Fin 2048, sr X D g W r k
        = rs X r * dvh X D g W r k + 2 * wr X D g W r * xc X r k := fun k => by rw [sr]; ring
    rw [Finset.sum_congr rfl fun k _ => this k, Finset.sum_add_distrib, ← Finset.mul_sum, ← Finset.mul_sum, sum_xc]
    ring
  have hcross : ∑ k : Fin 2048, dvh X D g W r k * vh X r k = rs X r * ∑ k : Fin 2048, xc X r k * dvh X D g W r k := by
    rw [Finset.mul_sum]
    exact Finset.sum_congr rfl fun k _ => by rw [vh]; ring
  rw [hsum, dgv, hcross, sr, wr, vh, div_eq_mul_inv (rs X r), ← rs_mul_rs]
  ring

variable {X D : ℕ → ℕ → ℝ} {g b : ℕ → ℝ} {W : ℕ → ℕ → ℕ → ℝ} {B : ℕ → ℕ → ℝ}
variable {x0 : (⟨S4096x6144, .bf16⟩ : BufTy).Contents (Elt Ideal)} {x1 : (⟨S4096x2048, .bf16⟩ : BufTy).Contents (Elt Ideal)}
  {x2 x3 : (⟨S1x2048, .f32⟩ : BufTy).Contents (Elt Ideal)} {x4 : (⟨S8x128x128, .f32⟩ : BufTy).Contents (Elt Ideal)}
  {x5 : (⟨S8x128, .f32⟩ : BufTy).Contents (Elt Ideal)}
variable (h0 : ∀ i, x0 i = ((X (i 0).val (i 1).val : ℝ) : EReal)) (h1 : ∀ i, x1 i = ((D (i 0).val (i 1).val : ℝ) : EReal))
  (h2 : ∀ i, x2 i = ((g (i 1).val : ℝ) : EReal)) (h3 : ∀ i, x3 i = ((b (i 1).val : ℝ) : EReal))
  (h4 : ∀ i, x4 i = ((W (i 0).val (i 1).val (i 2).val : ℝ) : EReal)) (h5 : ∀ i, x5 i = ((B (i 0).val (i 1).val : ℝ) : EReal))

include h0

theorem wfac_eq (i : S4096x1.Idx) :
    val_main_v66 x0 i = ((-(1 / 2) * (rs X (i 0).val / vare X (i 0).val) : ℝ) : EReal) := by
  simp only [val_main_v66_apply, val_main_v65_apply, val_main_v64_apply, val_main_cst_20_apply, rs_eq h0, vare_eq h0,
    Ideal.mulf_def, Ideal.hostDivf_def, Ideal.ofBits_def, bits_neg_half, coe_div _ (vare_pos X _).ne', ← EReal.coe_mul]

/-- The derivative of GELU's gate enters as the product of one plus and one minus the hyperbolic tangent. -/
theorem tt_u (i : S4096x2048.Idx) : val_main_v21 x0 i = (((1 + Real.tanh (inner (X (i 0).val (i 1).val)))
    * (1 - Real.tanh (inner (X (i 0).val (i 1).val))) : ℝ) : EReal) := by
  simp only [val_main_v21_apply, val_main_v20_apply, val_main_v19_apply, val_main_v18_apply, val_main_v17_apply,
    val_main_cst_3_apply, val_main_cst_4_apply, tanh_u h0, Ideal.mulf_def, Ideal.addf_def, Ideal.subf_def, Ideal.ofBits_def,
    bits_one, ← EReal.coe_add, ← EReal.coe_sub, ← EReal.coe_mul]

theorem tt_v (i : S4096x2048.Idx) : val_main_v44 x0 i = (((1 + Real.tanh (inner (X (i 0).val (2048 + (i 1).val))))
    * (1 - Real.tanh (inner (X (i 0).val (2048 + (i 1).val)))) : ℝ) : EReal) := by
  simp only [val_main_v44_apply, val_main_v43_apply, val_main_v42_apply, val_main_v41_apply, val_main_v40_apply,
    val_main_cst_11_apply, val_main_cst_12_apply, tanh_v h0, Ideal.mulf_def, Ideal.addf_def, Ideal.subf_def, Ideal.ofBits_def,
    bits_one, ← EReal.coe_add, ← EReal.coe_sub, ← EReal.coe_mul]

include h1 h2 h4

theorem wr_eq (i : S4096x2048.Idx) : val_main_v116 x0 x1 x2 x4 i = ((wr X D g W (i 0).val : ℝ) : EReal) := by
  have e0 : (i 0).val < 4096 := (i 0).isLt
  simp only [val_main_v116_apply, val_main_v115_apply, val_main_v114_apply, val_main_v113_apply, val_main_v112_apply,
    val_main_v109_apply, val_main_v108_apply, val_main_v107_apply, val_main_cst_25_apply, val_main_cst_26_apply,
    val_main_cst_27_apply, xc_eq h0, dvh_eq h0 h1 h2 h4, wfac_eq h0, Ideal.mulf_def, Ideal.hostDivf_def, Ideal.ofBits_def,
    bits_2048, bits_zero, ← EReal.coe_mul, coe_sum, ← EReal.coe_add, coe_div_2048, Finset.univ_unique, Finset.sum_singleton,
    zero_add]
  rw [wr]
  have a : (i 0).val * 1 + 0 = (i 0).val := by omega
  have hd : ((default : Fin 1) : ℕ) = 0 := rfl
  simp only [hd, a]

theorem sr_eq (i : S4096x2048.Idx) :
    val_main_v120 x0 x1 x2 x4 i = ((sr X D g W (i 0).val (i 1).val : ℝ) : EReal) := by
  simp only [val_main_v120_apply, val_main_v119_apply, val_main_v118_apply, val_main_v117_apply, val_main_v111_apply,
    val_main_v110_apply, xc_eq h0, rs_eq h0, dvh_eq h0 h1 h2 h4, wr_eq h0 h1 h2 h4, Ideal.mulf_def, Ideal.addf_def,
    ← EReal.coe_mul, ← EReal.coe_add]
  rfl

theorem dgv_eq (i : S4096x2048.Idx) :
    val_main_v128 x0 x1 x2 x4 i = ((dgv X D g W (i 0).val (i 1).val : ℝ) : EReal) := by
  have e0 : (i 0).val < 4096 := (i 0).isLt
  simp only [val_main_v128_apply, val_main_v127_apply, val_main_v126_apply, val_main_v125_apply, val_main_v124_apply,
    val_main_v123_apply, val_main_v122_apply, val_main_v121_apply, val_main_cst_28_apply, val_main_cst_29_apply,
    val_main_cst_30_apply, sr_eq h0 h1 h2 h4, Ideal.addf_def, Ideal.hostNegf_def, Ideal.negf_def, Ideal.hostDivf_def,
    Ideal.ofBits_def, bits_2048, bits_zero, ← EReal.coe_neg, coe_sum, ← EReal.coe_add, coe_div_2048, Finset.univ_unique,
    Finset.sum_singleton, zero_add]
  rw [← sr_mean]
  have a : (i 0).val * 1 + 0 = (i 0).val := by omega
  have hd : ((default : Fin 1) : ℕ) = 0 := rfl
  simp only [hd, a]

/-- The gradient of v. -/
theorem dv_eq (i : S4096x2048.Idx) :
    val_main_v142 x0 x1 x2 x4 i = ((dv X D g W (i 0).val (i 1).val : ℝ) : EReal) := by
  simp only [val_main_v142_apply, val_main_v141_apply, val_main_v140_apply, val_main_v139_apply, val_main_v138_apply,
    val_main_v137_apply, val_main_v136_apply, val_main_v135_apply, val_main_v134_apply, val_main_v133_apply,
    val_main_v132_apply, val_main_v131_apply, val_main_v130_apply, val_main_v129_apply, val_main_v31_apply, val_main_v30_apply,
    val_main_v29_apply, val_main_cst_7_apply, val_main_cst_31_apply, val_main_cst_32_apply, val_main_cst_33_apply,
    val_main_cst_34_apply, v_eq h0, tt_v h0, gate_v h0, dgv_eq h0 h1 h2 h4, Ideal.mulf_def, Ideal.addf_def,
    Ideal.hostDivf_def, Ideal.ofBits_def, bits_half, bits_three, bits_kk, bits_8943, bits_200000, ← EReal.coe_mul,
    div_200000, ← EReal.coe_add]
  rw [dv, dgelu, gate]; congr 1; ring

include h3 h5

/-- The gradient of u. -/
theorem du_eq (i : S4096x2048.Idx) :
    val_main_v156 x0 x1 x2 x3 x4 x5 i = ((du X D g b W B (i 0).val (i 1).val : ℝ) : EReal) := by
  simp only [val_main_v156_apply, val_main_v155_apply, val_main_v154_apply, val_main_v153_apply, val_main_v152_apply,
    val_main_v151_apply, val_main_v150_apply, val_main_v149_apply, val_main_v148_apply, val_main_v147_apply,
    val_main_v146_apply, val_main_v145_apply, val_main_v144_apply, val_main_v143_apply, val_main_v89_apply, val_main_v8_apply,
    val_main_v7_apply, val_main_v6_apply, val_main_cst_apply, val_main_cst_35_apply, val_main_cst_36_apply,
    val_main_cst_37_apply, val_main_cst_38_apply, u_eq h0, tt_u h0, gate_u h0, dsilu_eq h0 h1, mixed_eq h0 h2 h3 h4 h5,
    Ideal.mulf_def, Ideal.addf_def, Ideal.hostDivf_def, Ideal.ofBits_def, bits_half, bits_three, bits_kk, bits_8943,
    bits_200000, ← EReal.coe_mul, div_200000, ← EReal.coe_add]
  rw [du, dgelu, gate]; congr 1; ring

/-- The gradient of z. -/
theorem dz_eq (i : S4096x2048.Idx) :
    val_main_v87 x0 x1 x2 x3 x4 x5 i = ((dz X D g b W B (i 0).val (i 1).val : ℝ) : EReal) := by
  simp only [val_main_v87_apply, val_main_call1_v2_apply, val_main_call1_v1_apply, val_main_call1_v0_apply,
    val_main_v85_apply, val_main_v81_apply, z_eq h0, gelu_u h0, d_eq h1, sig_z h0, dsig_z h0, mixed_eq h0 h2 h3 h4 h5,
    Ideal.mulf_def, Ideal.addf_def, ← EReal.coe_mul, ← EReal.coe_add]
  rw [dz, dsilu]; congr 1; ring

/-- The gradient of the projection's output. -/
theorem duvz_eq (i : S4096x6144.Idx) :
    val_main_v158 x0 x1 x2 x3 x4 x5 i = ((duvz X D g b W B (i 0).val (i 1).val : ℝ) : EReal) := by
  rw [val_main_v158_apply]
  simp only [Ideal.truncf_def]
  have e0 : (i 0).val < 4096 := (i 0).isLt; have e1 : (i 1).val < 6144 := (i 1).isLt
  unfold val_main_v157 duvz
  pointwise
  by_cases c0 : (i 1).val < 2048
  · rw [dif_pos c0, if_pos c0, du_eq h0 h1 h2 h3 h4 h5]; rfl
  · rw [dif_neg c0, if_neg c0]
    by_cases c1 : (i 1).val < 4096
    · rw [dif_pos (by omega), if_pos c1, dv_eq h0 h1 h2 h4]; rfl
    · rw [dif_neg (by omega), if_neg c1, dz_eq h0 h1 h2 h3 h4 h5]
      have e : (i 1).val - 2048 - 2048 = (i 1).val - 4096 := by omega
      refine congrArg (fun n => ((dz X D g b W B (i 0).val n : ℝ) : EReal)) e

end Cert.Sgu.Ref

end
-- ==== Proof.Finite.lean ====
/-
  Inputs with finite entries are real: each input array is the coercion of a function of real values.
-/
module

public import proofs.«01_k».proof.Proof.Coe
public import proofs.«01_k».proof.Defs
public import Idealize.ShloMosaic.Lib.ReduceAll
public import Idealize.ShloMosaic.Lib.Affine
public import Idealize.ShloMosaic.Lib.Pointwise

@[expose] public section

noncomputable section

namespace Cert.Sgu

open Idealize.ShloMosaic Cert.Pre_finite

instance : Subsingleton S_.Idx := ⟨fun a b => funext fun i => i.elim0⟩

theorem bits_inf : Ideal.ofBits .f32 0x7F800000#32 = ⊤ := by simp [Ideal.ofBits, Ideal.ieee]

/-- One array's test, from the comparison's bit at every index. -/
theorem real_of_lt {x : EReal} (e : FloatOps.cmpf (F := Ideal) (φ := .f32) .olt (FloatOps.absf (F := Ideal) (φ := .f32) x)
    (FloatOps.ofBits (F := Ideal) .f32 0x7F800000#32) = 1#1) : ((x.toReal : ℝ) : EReal) = x := by
  rw [Ideal.cmpf_def, Ideal.absf_def, Ideal.ofBits_def, bits_inf] at e
  refine exists_real ?_
  by_contra h
  simp [Ideal.cmp, h] at e

variable [Facts]

theorem finite_real {x0 : FVec Ideal S4096x6144 .bf16} {x1 : FVec Ideal S4096x2048 .bf16} {x2 x3 : FVec Ideal S1x2048 .f32}
    {x4 : FVec Ideal S8x128x128 .f32} {x5 : FVec Ideal S8x128 .f32}
    (h : fn (F := Ideal) x0 x1 x2 x3 x4 x5 = fun _ => 1#1) :
    (∀ i, ((x0 i).toReal : EReal) = x0 i) ∧ (∀ i, ((x1 i).toReal : EReal) = x1 i) ∧ (∀ i, ((x2 i).toReal : EReal) = x2 i)
      ∧ (∀ i, ((x3 i).toReal : EReal) = x3 i) ∧ (∀ i, ((x4 i).toReal : EReal) = x4 i) ∧ (∀ i, ((x5 i).toReal : EReal) = x5 i) := by
  have e := congrFun h (fun i => i.elim0)
  unfold fn fn_part1 at e
  simp only [andi_apply, IntOp.andi_eq_one] at e
  obtain ⟨⟨⟨⟨⟨e0, e1⟩, e2⟩, e3⟩, e4⟩, e5⟩ := e
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i),
    fun i => real_of_lt (Host.reduce_andi_all _ _ _ _ _ e4 i), fun i => real_of_lt (Host.reduce_andi_all _ _ _ _ _ e5 i)⟩

end Cert.Sgu

end
-- ==== Proof.Entries.lean ====
/-
  An array's entries as a function of natural coordinates.
-/
module

public import proofs.«01_k».proof.Proof.Coe

@[expose] public section

noncomputable section

namespace Cert.Sgu

open Idealize.ShloMosaic

/-- An array's entries as a function of its coordinates, zero outside the array. -/
def entries {ι κ : Type} (f : ι → κ) (x : ι → EReal) : κ → ℝ := Function.extend f (fun i => (x i).toReal) 0

/-- At an index of the array the function is the entry, when that is a real number. -/
theorem entries_apply {ι κ : Type} {f : ι → κ} (hf : Function.Injective f) {x : ι → EReal}
    (hx : ∀ i, ((x i).toReal : EReal) = x i) (i : ι) : x i = ((entries f x (f i) : ℝ) : EReal) := by
  rw [entries, hf.extend_apply, hx]

/-- An array of extended reals as a function of coordinates, nought where no index has them. -/
def spread {ι κ : Type*} (f : ι → κ) (x : ι → EReal) : κ → EReal := Function.extend f x fun _ => 0

theorem spread_apply {ι κ : Type*} {f : ι → κ} (hf : Function.Injective f) (x : ι → EReal) (i : ι) : x i = spread f x (f i) :=
  (hf.extend_apply x (fun _ => 0) i).symm

/-- Two coordinates of a two-axis index. -/
def at2 (n k : ℕ) (i : Shape.Idx ⟨2, ![n, k]⟩) : ℕ × ℕ := ((i 0).val, (i 1).val)

/-- The second coordinate of an index whose first axis has length one. -/
def at1 (k : ℕ) (i : Shape.Idx ⟨2, ![1, k]⟩) : ℕ := (i 1).val

/-- Three coordinates of a three-axis index. -/
def at3 (n k l : ℕ) (i : Shape.Idx ⟨3, ![n, k, l]⟩) : ℕ × ℕ × ℕ := ((i 0).val, (i 1).val, (i 2).val)

theorem at2_injective (n k : ℕ) : Function.Injective (at2 n k) := by
  intro i j h
  obtain ⟨h0, h1⟩ := Prod.mk.inj h
  funext a
  match a with
  | ⟨0, _⟩ => exact Fin.ext h0
  | ⟨1, _⟩ => exact Fin.ext h1

theorem at1_injective (k : ℕ) : Function.Injective (at1 k) := by
  intro i j h
  funext a
  match a with
  | ⟨0, _⟩ =>
    have e0 : (i 0).val < 1 := (i 0).isLt
    have e1 : (j 0).val < 1 := (j 0).isLt
    exact Fin.ext (show (i 0).val = (j 0).val by omega)
  | ⟨1, _⟩ => exact Fin.ext h

theorem at3_injective (n k l : ℕ) : Function.Injective (at3 n k l) := by
  intro i j h
  obtain ⟨h0, h1, h2⟩ := (Prod.mk.inj h).imp_right Prod.mk.inj
  funext a
  match a with
  | ⟨0, _⟩ => exact Fin.ext h0
  | ⟨1, _⟩ => exact Fin.ext h1
  | ⟨2, _⟩ => exact Fin.ext h2

end Cert.Sgu

end
-- ==== Proof.Algebra.lean ====
/-
  The kernel and the reference end with equal results. The arguments' entries are real numbers by the precondition, so each array is a function of natural
  numbers with real values; both programs' results are the functions of `Spec` of those.
-/
module

public import proofs.«01_k».proof.Defs
public import proofs.«01_k».proof.Proof.KerRun
public import proofs.«01_k».proof.Proof.RefOut
public import proofs.«01_k».proof.Proof.Finite
public import proofs.«01_k».proof.Proof.Entries
public import proofs.«01_k».proof.Proof.Gen.ReferenceIdeal.Run
public import proofs.«01_k».proof.Proof.Gen.Pre_finite

@[expose] public section

set_option maxRecDepth 16384

noncomputable section

namespace Cert.Proof

open Idealize.ShloMosaic Idealize.ShloMosaic.TcCoe Cert.Sgu

/-- At the ideal instance the kernel's five results and the reference's agree. -/
theorem algebraic : Cert.algebraic_KernelIdeal_ReferenceIdeal_pre_finite := by
  intro m g m' g' hpre hagree
  let X := fun (c : Dev Cert.KernelIdeal.nD) (a b : ℕ) => entries (at2 4096 6144) (m ((c.tc : Thread Cert.KernelIdeal.nD Cert.KernelIdeal.τ).loc Cert.KernelIdeal.main_arg0)) (a, b)
  let D := fun (c : Dev Cert.KernelIdeal.nD) (a b : ℕ) => entries (at2 4096 2048) (m ((c.tc : Thread Cert.KernelIdeal.nD Cert.KernelIdeal.τ).loc Cert.KernelIdeal.main_arg1)) (a, b)
  let sc := fun (c : Dev Cert.KernelIdeal.nD) => entries (at1 2048) (m ((c.tc : Thread Cert.KernelIdeal.nD Cert.KernelIdeal.τ).loc Cert.KernelIdeal.main_arg2))
  let sh := fun (c : Dev Cert.KernelIdeal.nD) => entries (at1 2048) (m ((c.tc : Thread Cert.KernelIdeal.nD Cert.KernelIdeal.τ).loc Cert.KernelIdeal.main_arg3))
  let W := fun (c : Dev Cert.KernelIdeal.nD) (a b d : ℕ) => entries (at3 8 128 128) (m ((c.tc : Thread Cert.KernelIdeal.nD Cert.KernelIdeal.τ).loc Cert.KernelIdeal.main_arg4)) (a, b, d)
  let B := fun (c : Dev Cert.KernelIdeal.nD) (a b : ℕ) => entries (at2 8 128) (m ((c.tc : Thread Cert.KernelIdeal.nD Cert.KernelIdeal.τ).loc Cert.KernelIdeal.main_arg5)) (a, b)
  have hreal := fun c => finite_real (hpre c)
  have h0 := fun c => entries_apply (at2_injective 4096 6144) (hreal c).1
  have h1 := fun c => entries_apply (at2_injective 4096 2048) (hreal c).2.1
  have h2 := fun c => entries_apply (at1_injective 2048) (hreal c).2.2.1
  have h3 := fun c => entries_apply (at1_injective 2048) (hreal c).2.2.2.1
  have h4 := fun c => entries_apply (at3_injective 8 128 128) (hreal c).2.2.2.2.1
  have h5 := fun c => entries_apply (at2_injective 8 128) (hreal c).2.2.2.2.2
  refine ⟨fun c => fun i : Cert.KernelIdeal.S4096x6144.Idx => ((duvz (X c) (D c) (sc c) (sh c) (W c) (B c) (i 0).val (i 1).val : ℝ) : EReal),
    fun c => fun i : Cert.KernelIdeal.S8x128x128.Idx => ((dws (X c) (D c) (sc c) (sh c) (i 0).val (i 1).val (i 2).val : ℝ) : EReal),
    fun c => fun i : Cert.KernelIdeal.S8x128x128.Idx => ((dbs (X c) (D c) (i 0).val (i 1).val : ℝ) : EReal),
    fun c => fun i : Cert.KernelIdeal.S1x2048.Idx => ((dg (X c) (D c) (W c) (i 1).val : ℝ) : EReal),
    fun c => fun i : Cert.KernelIdeal.S1x2048.Idx => ((db (X c) (D c) (W c) (i 1).val : ℝ) : EReal), ?_, ?_⟩
  · refine Idealize.ShloMosaic.θ_run_mono (Cert.KernelIdeal.Value.run_blocks m g) fun r h c => ?_
    obtain ⟨r0, r1, r2, r3, r4, ra⟩ := h c
    exact ⟨r0.trans (Ker.final8 m c (h0 c) (h1 c) (h2 c) (h3 c) (h4 c) (h5 c)),
      r1.trans (Ker.final9 m c (h0 c) (h1 c) (h2 c) (h3 c)),
      r2.trans (Ker.final10 m c (h0 c) (h1 c)),
      r3.trans (Ker.final11 m c (g := sc c) (b := sh c) (W := W c) (B := B c) (h0 c) (h1 c) (h2 c) (h3 c) (h4 c) (h5 c)),
      r4.trans (Ker.final12 m c (g := sc c) (b := sh c) (W := W c) (B := B c) (h0 c) (h1 c) (h2 c) (h3 c) (h4 c) (h5 c)), ra⟩
  · refine Idealize.ShloMosaic.θ_run_mono (Cert.ReferenceIdeal.Value.run m' g') fun r h c => ?_
    obtain ⟨r0, r1, r2, r3, r4, ra⟩ := h c
    obtain ⟨a0, a1, a2, a3, a4, a5⟩ := hagree c
    have k0 := fun i => (congrFun a0 i).trans (h0 c i)
    have k1 := fun i => (congrFun a1 i).trans (h1 c i)
    have k2 := fun i => (congrFun a2 i).trans (h2 c i)
    have k3 := fun i => (congrFun a3 i).trans (h3 c i)
    have k4 := fun i => (congrFun a4 i).trans (h4 c i)
    have k5 := fun i => (congrFun a5 i).trans (h5 c i)
    exact ⟨(r0.trans (Cert.ReferenceIdeal.Read.val_main_v158_eq _)).trans (funext fun i => Ref.duvz_eq k0 k1 k2 k3 k4 k5 i),
      (r1.trans (Cert.ReferenceIdeal.Read.val_main_v96_eq _)).trans (funext fun i => Ref.dws_eq k0 k1 k2 k3 i),
      (r2.trans (Cert.ReferenceIdeal.Read.val_main_v160_eq _)).trans (funext fun i => Ref.dbs_wide k0 k1 i),
      (r3.trans (Cert.ReferenceIdeal.Read.val_main_v104_eq _)).trans (funext fun i => Ref.dg_eq k0 k1 k4 i),
      (r4.trans (Cert.ReferenceIdeal.Read.val_main_v101_eq _)).trans (funext fun i => Ref.db_eq k0 k1 k4 i), ra⟩

end Cert.Proof

end
-- ==== Proof.InDhGate.lean ====
/-
  The gradient of the input projection's input in a layer of the gate: the cotangent times the transposed weights, the four
  chips' columns one after another.
-/
module

public import proofs.«01_k».proof.Defs
public import proofs.«01_k».proof.Proof.Gen.Kernel2Ideal.Value
public import proofs.«01_k».proof.Proof.Gen.Reference2Ideal.Read
public import proofs.«01_k».proof.Proof.Gen.Reference2Ideal.Run
public import Idealize.ShloMosaic.Lib.Pipeline.ValueKit
public import Idealize.ShloMosaic.Lib.Claim
public import Idealize.ShloMosaic.Lib.Pointwise

@[expose] public section

set_option maxRecDepth 16384

noncomputable section

namespace Cert.InDhGate

open Cert.Kernel2Ideal Cert.Kernel2Ideal.Gen Idealize.ShloMosaic Idealize.ShloMosaic.TcCoe Cert.Kernel2Ideal.Value

/-- The block each window shows at a grid point. -/
theorem idx : ∀ t : Fin cfg0.N, win0_0.index t = ![t.val / 4, 0] ∧ win0_1.index t = ![0, t.val % 4, 0] ∧ win0_2.index t = ![t.val / 4, t.val % 4] :=
  (by decide +kernel : ∀ t : Fin grid0.N, _)

variable (m : (ℓ : Loc nD τ sig) → Buf (Elt Ideal) ℓ)

/-- One chip's columns of the cotangent against its columns of the weights. -/
def partialProduct (x0 : Vec Ideal S4096x6144 .bf16) (x1 : Vec Ideal S4x2048x1536 .bf16) (i : S4096x2048.Idx) (s : Fin 4) (k : Fin 1536) : EReal :=
  x0 (ix2 (i 0) ⟨s.val * 1536 + k.val, Fin.mul_add_lt_of_eq_mul (L := 6144) rfl s k⟩) * x1 (ix3 s (i 1) k)

/-- Rows of the cotangent against rows of the weights, the weights' columns in four blocks of 1536. -/
def product (x0 : Vec Ideal S4096x6144 .bf16) (x1 : Vec Ideal S4x2048x1536 .bf16) : Vec Ideal S4096x2048 .bf16 := fun i =>
  (∑ s : Fin 4, ∑ k : Fin 1536, partialProduct x0 x1 i s k : EReal)

/-- One block's product, four chips' terms added in order. -/
theorem pay_apply (u0 u1 u2 u3 : Vec Ideal S512x1536 .bf16) (w0 w1 w2 w3 : Vec Ideal S1x512x1536 .bf16) (i : S512x512.Idx) :
    k0_pay1 u0 w0 u1 w1 u2 w2 u3 w3 i
      = (∑ k : Fin 1536, u0 (ix2 (i 0) k) * w0 (ix3 0 (i 1) k)) + (∑ k : Fin 1536, u1 (ix2 (i 0) k) * w1 (ix3 0 (i 1) k))
        + (∑ k : Fin 1536, u2 (ix2 (i 0) k) * w2 (ix3 0 (i 1) k)) + (∑ k : Fin 1536, u3 (ix2 (i 0) k) * w3 (ix3 0 (i 1) k)) := by
  unfold k0_pay1
  pointwise

/-- The cotangent's block at a grid point. -/
theorem blk0 (c : Dev nD) (t : Fin cfg0.N) (j : S512x6144.Idx) (i : S4096x6144.Idx) (h0 : (i 0).val = t.val / 4 * 512 + (j 0).val)
    (h1 : (i 1).val = (j 1).val) : iblk m c 0 t j = m ((c : Thread nD τ).loc main_arg0) i := by
  refine (congrFun (V_main_arg0 m c) _).trans (congrArg _ (funext fun a => Fin.ext ?_))
  refine (win0_0.rect_emb_val t _ a).trans ?_
  rw [(idx t).1]
  match a with
  | ⟨0, _⟩ => exact h0.symm
  | ⟨1, _⟩ =>
    show 0 * 6144 + (j 1).val = (i 1).val
    omega

/-- The weights' block at a grid point. -/
theorem blk1 (c : Dev nD) (t : Fin cfg0.N) (j : S4x512x1536.Idx) (i : S4x2048x1536.Idx) (h0 : (i 0).val = (j 0).val)
    (h1 : (i 1).val = t.val % 4 * 512 + (j 1).val) (h2 : (i 2).val = (j 2).val) : iblk m c 1 t j = m ((c : Thread nD τ).loc main_arg1) i := by
  refine (congrFun (V_main_arg1 m c) _).trans (congrArg _ (funext fun a => Fin.ext ?_))
  refine (win0_1.rect_emb_val t _ a).trans ?_
  rw [(idx t).2.1]
  match a with
  | ⟨0, _⟩ => exact (Nat.zero_add _).trans h0.symm
  | ⟨1, _⟩ => exact h1.symm
  | ⟨2, _⟩ => exact (Nat.zero_add _).trans h2.symm

/-- One chip's term: its slices of the two blocks are its slices of the two arrays. -/
theorem term (c : Dev nD) (t : Fin cfg0.N) (y : S512x512.Idx) (i : S4096x2048.Idx) (h0 : (i 0).val = t.val / 4 * 512 + (y 0).val)
    (h1 : (i 1).val = t.val % 4 * 512 + (y 1).val) (s : Fin 4) (off : Fin 2 → ℕ) (offw : Fin 3 → ℕ)
    (inb : ∀ a, off a + S512x1536.size a ≤ S512x6144.size a) (inbw : ∀ a, offw a + S1x512x1536.size a ≤ S4x512x1536.size a)
    (ho : off = ![0, s.val * 1536]) (hw : offw = ![s.val, 0, 0]) (X : Vec Ideal S512x6144 .bf16) (hX : X = iblk m c 0 t)
    (Y : Vec Ideal S4x512x1536 .bf16) (hY : Y = iblk m c 1 t) :
    (∑ k : Fin 1536, View.ld X (Rect.unit (s := S512x6144) off S512x1536.size inb) (ix2 (y 0) k)
        * View.ld Y (Rect.unit (s := S4x512x1536) offw S1x512x1536.size inbw) (ix3 0 (y 1) k))
      = ∑ k : Fin 1536, partialProduct (m ((c : Thread nD τ).loc main_arg0)) (m ((c : Thread nD τ).loc main_arg1)) i s k := by
  subst ho hw hX hY
  refine Finset.sum_congr rfl fun k _ => congrArg₂ (· * ·) ?_ ?_
  · refine (View.ld_apply _ _ _).trans (blk0 m c t _ _ ?_ ?_)
    · rw [Rect.idx_unit_val]
      exact h0.trans (congrArg (fun x => t.val / 4 * 512 + x) (Nat.zero_add _).symm)
    · rw [Rect.idx_unit_val]
      rfl
  · refine (View.ld_apply _ _ _).trans (blk1 m c t _ _ ?_ ?_ ?_)
    · rw [Rect.idx_unit_val]
      rfl
    · rw [Rect.idx_unit_val]
      exact h1.trans (congrArg (fun x => t.val % 4 * 512 + x) (Nat.zero_add _).symm)
    · rw [Rect.idx_unit_val]
      exact (Nat.zero_add _).symm

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val / 4 * 512 + (y 0).val := (win0_2.rect_emb_val t y 0).trans (by rw [a2]; rfl)
  have r1 : (((cfg0.win 2).blk t).view.emb y 1).val = t.val % 4 * 512 + (y 1).val := (win0_2.rect_emb_val t y 1).trans (by rw [a2]; rfl)
  rw [after0_2]
  frame_out
  refine (pay_apply _ _ _ _ _ _ _ _ _).trans ?_
  refine Eq.trans ?_ (Fin.sum_univ_four _).symm
  refine congrArg₂ (· + ·) (congrArg₂ (· + ·) (congrArg₂ (· + ·) ?_ ?_) ?_) ?_
  · exact term m c t y _ r0 r1 0 _ _ _ _ rfl rfl _ rfl _ rfl
  · exact term m c t y _ r0 r1 1 _ _ _ _ rfl rfl _ rfl _ rfl
  · exact term m c t y _ r0 r1 2 _ _ _ _ rfl rfl _ rfl _ rfl
  · exact term m c t y _ r0 r1 3 _ _ _ _ rfl rfl _ rfl _ rfl

/-- The reference's result is that product: its one sum over all columns is the sum over the chips' blocks. -/
theorem reference_eq (x0 : Vec Ideal S4096x6144 .bf16) (x1 : Vec Ideal S4x2048x1536 .bf16) :
    Cert.Reference2Ideal.Read.val_main_v7 (F := Ideal) x0 x1 = product x0 x1 := by
  refine funext fun i => (Cert.Reference2Ideal.Read.val_main_v6_apply x0 x1 i).trans ?_
  have h1 : (i 1).val < 2048 := (i 1).isLt
  refine (Fin.sum_mul_add_congr (L := 6144) (S := 4) (n := 1536) fun s k hl => ?_).symm
  have hs : s.val < 4 := s.isLt
  have hk : k.val < 1536 := k.isLt
  refine (congrArg₂ (· * ·) (congrArg x0 (funext fun a => Fin.ext ?_)) ?_).symm
  · match a with
    | ⟨0, _⟩ => rfl
    | ⟨1, _⟩ => rfl
  · refine (Cert.Reference2Ideal.Read.val_main_v3_apply x1 _).trans
      ((Cert.Reference2Ideal.Read.val_main_v2_apply x1 _).trans (congrArg x1 (funext fun a => Fin.ext ?_)))
    match a with
    | ⟨0, _⟩ => exact (show ((i 1).val * 6144 + (s.val * 1536 + k.val)) / 1536 % 4 = s.val by omega)
    | ⟨1, _⟩ => exact (show ((i 1).val * 6144 + (s.val * 1536 + k.val)) / 6144 = (i 1).val by omega)
    | ⟨2, _⟩ => exact (show ((i 1).val * 6144 + (s.val * 1536 + k.val)) % 1536 = k.val by omega)

/-- The kernel and the reference end with equal results. -/
theorem algebraic : Cert.algebraic_Kernel2Ideal_Reference2Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference2Ideal.Value.run m' g') fun r h c => ?_
    obtain ⟨r0, ra⟩ := h c
    obtain ⟨a0, a1⟩ := hagree c
    exact ⟨r0.trans ((Cert.Reference2Ideal.Read.val_main_v7_eq _ _).trans
      ((congrArg₂ (fun x y => Cert.Reference2Ideal.Read.val_main_v7 (F := Ideal) x y) a0 a1).trans (reference_eq _ _))), ra⟩

end Cert.InDhGate

end
-- ==== Proof.InDwGate.lean ====
/-
  The gradient of the input projection's weights in a layer of the gate: the transposed input times the cotangent, each
  chip's 1536 columns in two halves.
-/
module

public import proofs.«01_k».proof.Defs
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.Claim
public import Idealize.ShloMosaic.Lib.Pointwise

@[expose] public section

set_option maxRecDepth 16384

noncomputable section

namespace Cert.InDwGate

open Cert.Kernel3Ideal Cert.Kernel3Ideal.Gen Idealize.ShloMosaic Idealize.ShloMosaic.TcCoe Cert.Kernel3Ideal.Value

/-- The block each window shows at a grid point. -/
theorem idx : ∀ t : Fin cfg0.N, win0_0.index t = ![0, t.val / 8] ∧ win0_1.index t = ![0, t.val % 8] ∧ win0_2.index t = ![t.val % 8 / 2, t.val / 8, t.val % 2] :=
  (by decide +kernel : ∀ t : Fin grid0.N, _)

variable (m : (ℓ : Loc nD τ sig) → Buf (Elt Ideal) ℓ)

/-- Columns of the input against columns of the cotangent, laid out as four blocks of 1536 columns. -/
def product (x0 : Vec Ideal S4096x2048 .bf16) (x1 : Vec Ideal S4096x6144 .bf16) : Vec Ideal S4x2048x1536 .bf16 := fun i =>
  (∑ k : Fin 4096, x0 (ix2 k (i 1)) * x1 (ix2 k ⟨(i 0).val * 1536 + (i 2).val, Fin.mul_add_lt_of_eq_mul (L := 6144) (S := 4) (n := 1536) rfl (i 0) (i 2)⟩) : EReal)

/-- One block's product. -/
theorem pay_apply (x0 : Vec Ideal S4096x1024 .bf16) (x1 : Vec Ideal S4096x768 .bf16) (i : S1x1024x768.Idx) :
    k0_pay1 x0 x1 i = ∑ k : Fin 4096, x0 (ix2 k (i 1)) * x1 (ix2 k (i 2)) := by
  unfold k0_pay1
  pointwise

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val % 8 / 2 * 1 + (y 0).val := (win0_2.rect_emb_val t y 0).trans (by rw [a2]; rfl)
  have r1 : (((cfg0.win 2).blk t).view.emb y 1).val = t.val / 8 * 1024 + (y 1).val := (win0_2.rect_emb_val t y 1).trans (by rw [a2]; rfl)
  have r2 : (((cfg0.win 2).blk t).view.emb y 2).val = t.val % 2 * 768 + (y 2).val := (win0_2.rect_emb_val t y 2).trans (by rw [a2]; rfl)
  have hy : (y 0).val < 1 := (y 0).isLt
  rw [after0_2]
  frame_out
  refine (pay_apply _ _ _).trans (Finset.sum_congr rfl fun k _ => congrArg₂ (· * ·) ?_ ?_)
  · refine (congrFun (V_main_arg0 m c) _).trans (congrArg _ (funext fun a => Fin.ext ?_))
    refine (win0_0.rect_emb_val t _ a).trans ?_
    rw [a0]
    match a with
    | ⟨0, _⟩ => exact Nat.zero_add _
    | ⟨1, _⟩ => exact r1.symm
  · refine (congrFun (V_main_arg1 m c) _).trans (congrArg _ (funext fun a => Fin.ext ?_))
    refine (win0_1.rect_emb_val t _ a).trans ?_
    rw [a1]
    match a with
    | ⟨0, _⟩ => exact Nat.zero_add _
    | ⟨1, _⟩ =>
      show t.val % 8 * 768 + (y 2).val = (((cfg0.win 2).blk t).view.emb y 0).val * 1536 + (((cfg0.win 2).blk t).view.emb y 2).val
      rw [r0, r2]
      omega

/-- The reference's result is that product. -/
theorem reference_eq (x0 : Vec Ideal S4096x2048 .bf16) (x1 : Vec Ideal S4096x6144 .bf16) :
    Cert.Reference3Ideal.Read.val_main_v10 (F := Ideal) x0 x1 = product x0 x1 := by
  refine funext fun i => (Cert.Reference3Ideal.Read.val_main_v9_apply x0 x1 i).trans
    ((Cert.Reference3Ideal.Read.val_main_v8_apply x0 x1 _).trans
    ((Cert.Reference3Ideal.Read.val_main_v7_apply x0 x1 _).trans
    ((Cert.Reference3Ideal.Read.val_main_v6_apply x0 x1 _).trans ?_)))
  have h0 : (i 0).val < 4 := (i 0).isLt
  have h1 : (i 1).val < 2048 := (i 1).isLt
  have h2 : (i 2).val < 1536 := (i 2).isLt
  refine Finset.sum_congr rfl fun k _ => (mul_comm _ _).trans
    (congrArg₂ (· * ·) (congrArg x0 (funext fun a => Fin.ext ?_)) (congrArg x1 (funext fun a => Fin.ext ?_)))
  · match a with
    | ⟨0, _⟩ => rfl
    | ⟨1, _⟩ => exact (show (((i 1).val * 4 + (i 0).val) * 1536 + (i 2).val) / 6144 = (i 1).val by omega)
  · match a with
    | ⟨0, _⟩ => rfl
    | ⟨1, _⟩ => exact (show (((i 1).val * 4 + (i 0).val) * 1536 + (i 2).val) % 6144 = (i 0).val * 1536 + (i 2).val by omega)

/-- The kernel and the reference end with equal results. -/
theorem algebraic : Cert.algebraic_Kernel3Ideal_Reference3Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference3Ideal.Value.run m' g') fun r h c => ?_
    obtain ⟨r0, ra⟩ := h c
    obtain ⟨a0, a1⟩ := hagree c
    exact ⟨r0.trans ((Cert.Reference3Ideal.Read.val_main_v10_eq _ _).trans
      ((congrArg₂ (fun x y => Cert.Reference3Ideal.Read.val_main_v10 (F := Ideal) x y) a0 a1).trans (reference_eq _ _))), ra⟩

end Cert.InDwGate

end
-- ==== Proof.InDhAttn.lean ====
/-
  The gradient of the input projection's input in a layer of the attention: the cotangent times the transposed weights, the four
  chips' columns one after another.
-/
module

public import proofs.«01_k».proof.Defs
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.Claim
public import Idealize.ShloMosaic.Lib.Pointwise

@[expose] public section

set_option maxRecDepth 16384

noncomputable section

namespace Cert.InDhAttn

open Cert.Kernel4Ideal Cert.Kernel4Ideal.Gen Idealize.ShloMosaic Idealize.ShloMosaic.TcCoe Cert.Kernel4Ideal.Value

/-- The block each window shows at a grid point. -/
theorem idx : ∀ t : Fin cfg0.N, win0_0.index t = ![t.val / 4, 0] ∧ win0_1.index t = ![0, t.val % 4, 0] ∧ win0_2.index t = ![t.val / 4, t.val % 4] :=
  (by decide +kernel : ∀ t : Fin grid0.N, _)

variable (m : (ℓ : Loc nD τ sig) → Buf (Elt Ideal) ℓ)

/-- One chip's columns of the cotangent against its columns of the weights. -/
def partialProduct (x0 : Vec Ideal S4096x8192 .bf16) (x1 : Vec Ideal S4x2048x2048 .bf16) (i : S4096x2048.Idx) (s : Fin 4) (k : Fin 2048) : EReal :=
  x0 (ix2 (i 0) ⟨s.val * 2048 + k.val, Fin.mul_add_lt_of_eq_mul (L := 8192) rfl s k⟩) * x1 (ix3 s (i 1) k)

/-- Rows of the cotangent against rows of the weights, the weights' columns in four blocks of 2048. -/
def product (x0 : Vec Ideal S4096x8192 .bf16) (x1 : Vec Ideal S4x2048x2048 .bf16) : Vec Ideal S4096x2048 .bf16 := fun i =>
  (∑ s : Fin 4, ∑ k : Fin 2048, partialProduct x0 x1 i s k : EReal)

/-- One block's product, four chips' terms added in order. -/
theorem pay_apply (u0 u1 u2 u3 : Vec Ideal S512x2048 .bf16) (w0 w1 w2 w3 : Vec Ideal S1x512x2048 .bf16) (i : S512x512.Idx) :
    k0_pay1 u0 w0 u1 w1 u2 w2 u3 w3 i
      = (∑ k : Fin 2048, u0 (ix2 (i 0) k) * w0 (ix3 0 (i 1) k)) + (∑ k : Fin 2048, u1 (ix2 (i 0) k) * w1 (ix3 0 (i 1) k))
        + (∑ k : Fin 2048, u2 (ix2 (i 0) k) * w2 (ix3 0 (i 1) k)) + (∑ k : Fin 2048, u3 (ix2 (i 0) k) * w3 (ix3 0 (i 1) k)) := by
  unfold k0_pay1
  pointwise

/-- The cotangent's block at a grid point. -/
theorem blk0 (c : Dev nD) (t : Fin cfg0.N) (j : S512x8192.Idx) (i : S4096x8192.Idx) (h0 : (i 0).val = t.val / 4 * 512 + (j 0).val)
    (h1 : (i 1).val = (j 1).val) : iblk m c 0 t j = m ((c : Thread nD τ).loc main_arg0) i := by
  refine (congrFun (V_main_arg0 m c) _).trans (congrArg _ (funext fun a => Fin.ext ?_))
  refine (win0_0.rect_emb_val t _ a).trans ?_
  rw [(idx t).1]
  match a with
  | ⟨0, _⟩ => exact h0.symm
  | ⟨1, _⟩ =>
    show 0 * 8192 + (j 1).val = (i 1).val
    omega

/-- The weights' block at a grid point. -/
theorem blk1 (c : Dev nD) (t : Fin cfg0.N) (j : S4x512x2048.Idx) (i : S4x2048x2048.Idx) (h0 : (i 0).val = (j 0).val)
    (h1 : (i 1).val = t.val % 4 * 512 + (j 1).val) (h2 : (i 2).val = (j 2).val) : iblk m c 1 t j = m ((c : Thread nD τ).loc main_arg1) i := by
  refine (congrFun (V_main_arg1 m c) _).trans (congrArg _ (funext fun a => Fin.ext ?_))
  refine (win0_1.rect_emb_val t _ a).trans ?_
  rw [(idx t).2.1]
  match a with
  | ⟨0, _⟩ => exact (Nat.zero_add _).trans h0.symm
  | ⟨1, _⟩ => exact h1.symm
  | ⟨2, _⟩ => exact (Nat.zero_add _).trans h2.symm

/-- One chip's term: its slices of the two blocks are its slices of the two arrays. -/
theorem term (c : Dev nD) (t : Fin cfg0.N) (y : S512x512.Idx) (i : S4096x2048.Idx) (h0 : (i 0).val = t.val / 4 * 512 + (y 0).val)
    (h1 : (i 1).val = t.val % 4 * 512 + (y 1).val) (s : Fin 4) (off : Fin 2 → ℕ) (offw : Fin 3 → ℕ)
    (inb : ∀ a, off a + S512x2048.size a ≤ S512x8192.size a) (inbw : ∀ a, offw a + S1x512x2048.size a ≤ S4x512x2048.size a)
    (ho : off = ![0, s.val * 2048]) (hw : offw = ![s.val, 0, 0]) (X : Vec Ideal S512x8192 .bf16) (hX : X = iblk m c 0 t)
    (Y : Vec Ideal S4x512x2048 .bf16) (hY : Y = iblk m c 1 t) :
    (∑ k : Fin 2048, View.ld X (Rect.unit (s := S512x8192) off S512x2048.size inb) (ix2 (y 0) k)
        * View.ld Y (Rect.unit (s := S4x512x2048) offw S1x512x2048.size inbw) (ix3 0 (y 1) k))
      = ∑ k : Fin 2048, partialProduct (m ((c : Thread nD τ).loc main_arg0)) (m ((c : Thread nD τ).loc main_arg1)) i s k := by
  subst ho hw hX hY
  refine Finset.sum_congr rfl fun k _ => congrArg₂ (· * ·) ?_ ?_
  · refine (View.ld_apply _ _ _).trans (blk0 m c t _ _ ?_ ?_)
    · rw [Rect.idx_unit_val]
      exact h0.trans (congrArg (fun x => t.val / 4 * 512 + x) (Nat.zero_add _).symm)
    · rw [Rect.idx_unit_val]
      rfl
  · refine (View.ld_apply _ _ _).trans (blk1 m c t _ _ ?_ ?_ ?_)
    · rw [Rect.idx_unit_val]
      rfl
    · rw [Rect.idx_unit_val]
      exact h1.trans (congrArg (fun x => t.val % 4 * 512 + x) (Nat.zero_add _).symm)
    · rw [Rect.idx_unit_val]
      exact (Nat.zero_add _).symm

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val / 4 * 512 + (y 0).val := (win0_2.rect_emb_val t y 0).trans (by rw [a2]; rfl)
  have r1 : (((cfg0.win 2).blk t).view.emb y 1).val = t.val % 4 * 512 + (y 1).val := (win0_2.rect_emb_val t y 1).trans (by rw [a2]; rfl)
  rw [after0_2]
  frame_out
  refine (pay_apply _ _ _ _ _ _ _ _ _).trans ?_
  refine Eq.trans ?_ (Fin.sum_univ_four _).symm
  refine congrArg₂ (· + ·) (congrArg₂ (· + ·) (congrArg₂ (· + ·) ?_ ?_) ?_) ?_
  · exact term m c t y _ r0 r1 0 _ _ _ _ rfl rfl _ rfl _ rfl
  · exact term m c t y _ r0 r1 1 _ _ _ _ rfl rfl _ rfl _ rfl
  · exact term m c t y _ r0 r1 2 _ _ _ _ rfl rfl _ rfl _ rfl
  · exact term m c t y _ r0 r1 3 _ _ _ _ rfl rfl _ rfl _ rfl

/-- The reference's result is that product: its one sum over all columns is the sum over the chips' blocks. -/
theorem reference_eq (x0 : Vec Ideal S4096x8192 .bf16) (x1 : Vec Ideal S4x2048x2048 .bf16) :
    Cert.Reference4Ideal.Read.val_main_v7 (F := Ideal) x0 x1 = product x0 x1 := by
  refine funext fun i => (Cert.Reference4Ideal.Read.val_main_v6_apply x0 x1 i).trans ?_
  have h1 : (i 1).val < 2048 := (i 1).isLt
  refine (Fin.sum_mul_add_congr (L := 8192) (S := 4) (n := 2048) fun s k hl => ?_).symm
  have hs : s.val < 4 := s.isLt
  have hk : k.val < 2048 := k.isLt
  refine (congrArg₂ (· * ·) (congrArg x0 (funext fun a => Fin.ext ?_)) ?_).symm
  · match a with
    | ⟨0, _⟩ => rfl
    | ⟨1, _⟩ => rfl
  · refine (Cert.Reference4Ideal.Read.val_main_v3_apply x1 _).trans
      ((Cert.Reference4Ideal.Read.val_main_v2_apply x1 _).trans (congrArg x1 (funext fun a => Fin.ext ?_)))
    match a with
    | ⟨0, _⟩ => exact (show ((i 1).val * 8192 + (s.val * 2048 + k.val)) / 2048 % 4 = s.val by omega)
    | ⟨1, _⟩ => exact (show ((i 1).val * 8192 + (s.val * 2048 + k.val)) / 8192 = (i 1).val by omega)
    | ⟨2, _⟩ => exact (show ((i 1).val * 8192 + (s.val * 2048 + k.val)) % 2048 = k.val by omega)

/-- The kernel and the reference end with equal results. -/
theorem algebraic : Cert.algebraic_Kernel4Ideal_Reference4Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference4Ideal.Value.run m' g') fun r h c => ?_
    obtain ⟨r0, ra⟩ := h c
    obtain ⟨a0, a1⟩ := hagree c
    exact ⟨r0.trans ((Cert.Reference4Ideal.Read.val_main_v7_eq _ _).trans
      ((congrArg₂ (fun x y => Cert.Reference4Ideal.Read.val_main_v7 (F := Ideal) x y) a0 a1).trans (reference_eq _ _))), ra⟩

end Cert.InDhAttn

end
-- ==== Proof.InDwAttn.lean ====
/-
  The gradient of the input projection's weights in a layer of the attention: the transposed input times the cotangent, each
  chip's 2048 columns in two halves.
-/
module

public import proofs.«01_k».proof.Defs
public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Claim
public import Idealize.ShloMosaic.Lib.Pointwise

@[expose] public section

set_option maxRecDepth 16384

noncomputable section

namespace Cert.InDwAttn

open Cert.Kernel5Ideal Cert.Kernel5Ideal.Gen Idealize.ShloMosaic Idealize.ShloMosaic.TcCoe Cert.Kernel5Ideal.Value

/-- The block each window shows at a grid point. -/
theorem idx : ∀ t : Fin cfg0.N, win0_0.index t = ![0, t.val / 8] ∧ win0_1.index t = ![0, t.val % 8] ∧ win0_2.index t = ![t.val % 8 / 2, t.val / 8, t.val % 2] :=
  (by decide +kernel : ∀ t : Fin grid0.N, _)

variable (m : (ℓ : Loc nD τ sig) → Buf (Elt Ideal) ℓ)

/-- Columns of the input against columns of the cotangent, laid out as four blocks of 2048 columns. -/
def product (x0 : Vec Ideal S4096x2048 .bf16) (x1 : Vec Ideal S4096x8192 .bf16) : Vec Ideal S4x2048x2048 .bf16 := fun i =>
  (∑ k : Fin 4096, x0 (ix2 k (i 1)) * x1 (ix2 k ⟨(i 0).val * 2048 + (i 2).val, Fin.mul_add_lt_of_eq_mul (L := 8192) (S := 4) (n := 2048) rfl (i 0) (i 2)⟩) : EReal)

/-- One block's product. -/
theorem pay_apply (x0 : Vec Ideal S4096x1024 .bf16) (x1 : Vec Ideal S4096x1024 .bf16) (i : S1x1024x1024.Idx) :
    k0_pay1 x0 x1 i = ∑ k : Fin 4096, x0 (ix2 k (i 1)) * x1 (ix2 k (i 2)) := by
  unfold k0_pay1
  pointwise

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val % 8 / 2 * 1 + (y 0).val := (win0_2.rect_emb_val t y 0).trans (by rw [a2]; rfl)
  have r1 : (((cfg0.win 2).blk t).view.emb y 1).val = t.val / 8 * 1024 + (y 1).val := (win0_2.rect_emb_val t y 1).trans (by rw [a2]; rfl)
  have r2 : (((cfg0.win 2).blk t).view.emb y 2).val = t.val % 2 * 1024 + (y 2).val := (win0_2.rect_emb_val t y 2).trans (by rw [a2]; rfl)
  have hy : (y 0).val < 1 := (y 0).isLt
  rw [after0_2]
  frame_out
  refine (pay_apply _ _ _).trans (Finset.sum_congr rfl fun k _ => congrArg₂ (· * ·) ?_ ?_)
  · refine (congrFun (V_main_arg0 m c) _).trans (congrArg _ (funext fun a => Fin.ext ?_))
    refine (win0_0.rect_emb_val t _ a).trans ?_
    rw [a0]
    match a with
    | ⟨0, _⟩ => exact Nat.zero_add _
    | ⟨1, _⟩ => exact r1.symm
  · refine (congrFun (V_main_arg1 m c) _).trans (congrArg _ (funext fun a => Fin.ext ?_))
    refine (win0_1.rect_emb_val t _ a).trans ?_
    rw [a1]
    match a with
    | ⟨0, _⟩ => exact Nat.zero_add _
    | ⟨1, _⟩ =>
      show t.val % 8 * 1024 + (y 2).val = (((cfg0.win 2).blk t).view.emb y 0).val * 2048 + (((cfg0.win 2).blk t).view.emb y 2).val
      rw [r0, r2]
      omega

/-- The reference's result is that product. -/
theorem reference_eq (x0 : Vec Ideal S4096x2048 .bf16) (x1 : Vec Ideal S4096x8192 .bf16) :
    Cert.Reference5Ideal.Read.val_main_v10 (F := Ideal) x0 x1 = product x0 x1 := by
  refine funext fun i => (Cert.Reference5Ideal.Read.val_main_v9_apply x0 x1 i).trans
    ((Cert.Reference5Ideal.Read.val_main_v8_apply x0 x1 _).trans
    ((Cert.Reference5Ideal.Read.val_main_v7_apply x0 x1 _).trans
    ((Cert.Reference5Ideal.Read.val_main_v6_apply x0 x1 _).trans ?_)))
  have h0 : (i 0).val < 4 := (i 0).isLt
  have h1 : (i 1).val < 2048 := (i 1).isLt
  have h2 : (i 2).val < 2048 := (i 2).isLt
  refine Finset.sum_congr rfl fun k _ => (mul_comm _ _).trans
    (congrArg₂ (· * ·) (congrArg x0 (funext fun a => Fin.ext ?_)) (congrArg x1 (funext fun a => Fin.ext ?_)))
  · match a with
    | ⟨0, _⟩ => rfl
    | ⟨1, _⟩ => exact (show (((i 1).val * 4 + (i 0).val) * 2048 + (i 2).val) / 8192 = (i 1).val by omega)
  · match a with
    | ⟨0, _⟩ => rfl
    | ⟨1, _⟩ => exact (show (((i 1).val * 4 + (i 0).val) * 2048 + (i 2).val) % 8192 = (i 0).val * 2048 + (i 2).val by omega)

/-- The kernel and the reference end with equal results. -/
theorem algebraic : Cert.algebraic_Kernel5Ideal_Reference5Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference5Ideal.Value.run m' g') fun r h c => ?_
    obtain ⟨r0, ra⟩ := h c
    obtain ⟨a0, a1⟩ := hagree c
    exact ⟨r0.trans ((Cert.Reference5Ideal.Read.val_main_v10_eq _ _).trans
      ((congrArg₂ (fun x y => Cert.Reference5Ideal.Read.val_main_v10 (F := Ideal) x y) a0 a1).trans (reference_eq _ _))), ra⟩

end Cert.InDwAttn

end
-- ==== Proof.OutDy.lean ====
/-
  The gradient of the output projection's input: the cotangent times the transposed weights, in blocks of 1024 rows and 1024 columns.
-/
module

public import proofs.«01_k».proof.Defs
public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Claim
public import Idealize.ShloMosaic.Lib.Pointwise

@[expose] public section

set_option maxRecDepth 16384

noncomputable section

namespace Cert.OutDy

open Cert.Kernel6Ideal Cert.Kernel6Ideal.Gen Idealize.ShloMosaic Idealize.ShloMosaic.TcCoe Cert.Kernel6Ideal.Value

/-- The block each window shows at a grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ)

/-- Rows of the cotangent against rows of the weights. -/
def product (x0 : Vec Ideal S4096x2048 .bf16) (x1 : Vec Ideal S2048x2048 .bf16) : Vec Ideal S4096x2048 .bf16 := fun i =>
  (∑ k : Fin 2048, x0 (ix2 (i 0) k) * x1 (ix2 (i 1) k) : EReal)

/-- One block's product. -/
theorem pay_apply (x0 x1 : Vec Ideal S1024x2048 .bf16) (i : S1024x1024.Idx) :
    k0_pay1 x0 x1 i = ∑ k : Fin 2048, x0 (ix2 (i 0) k) * x1 (ix2 (i 1) k) := by
  unfold k0_pay1
  pointwise

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val / 2 * 1024 + (y 0).val := (win0_2.rect_emb_val t y 0).trans (by rw [a2]; rfl)
  have r1 : (((cfg0.win 2).blk t).view.emb y 1).val = t.val % 2 * 1024 + (y 1).val := (win0_2.rect_emb_val t y 1).trans (by rw [a2]; rfl)
  rw [after0_2]
  frame_out
  refine (pay_apply _ _ _).trans (Finset.sum_congr rfl fun k _ => congrArg₂ (· * ·) ?_ ?_)
  · refine (congrFun (V_main_arg0 m c) _).trans (congrArg _ (funext fun a => Fin.ext ?_))
    refine (win0_0.rect_emb_val t _ a).trans ?_
    rw [a0]
    match a with
    | ⟨0, _⟩ => exact r0.symm
    | ⟨1, _⟩ => exact Nat.zero_add _
  · refine (congrFun (V_main_arg1 m c) _).trans (congrArg _ (funext fun a => Fin.ext ?_))
    refine (win0_1.rect_emb_val t _ a).trans ?_
    rw [a1]
    match a with
    | ⟨0, _⟩ => exact r1.symm
    | ⟨1, _⟩ => exact Nat.zero_add _

/-- The reference's result is that product. -/
theorem reference_eq (x0 : Vec Ideal S4096x2048 .bf16) (x1 : Vec Ideal S2048x2048 .bf16) :
    Cert.Reference6Ideal.Read.val_main_v5 (F := Ideal) x0 x1 = product x0 x1 := by
  refine funext fun i => (Cert.Reference6Ideal.Read.val_main_v4_apply x0 x1 i).trans ?_
  refine Finset.sum_congr rfl fun k _ => congrArg₂ (· * ·) (congrArg x0 (funext fun a => ?_)) (congrArg x1 (funext fun a => ?_)) <;>
  match a with
  | ⟨0, _⟩ => rfl
  | ⟨1, _⟩ => rfl

/-- The kernel and the reference end with equal results. -/
theorem algebraic : Cert.algebraic_Kernel6Ideal_Reference6Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference6Ideal.Value.run m' g') fun r h c => ?_
    obtain ⟨r0, ra⟩ := h c
    obtain ⟨a0, a1⟩ := hagree c
    exact ⟨r0.trans ((Cert.Reference6Ideal.Read.val_main_v5_eq _ _).trans
      ((congrArg₂ (fun x y => Cert.Reference6Ideal.Read.val_main_v5 (F := Ideal) x y) a0 a1).trans (reference_eq _ _))), ra⟩

end Cert.OutDy

end
-- ==== Proof.OutDw.lean ====
/-
  The gradient of the output projection's weights: the transposed input times the cotangent, in blocks of 1024 by 1024.
-/
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.ValueKit
public import Idealize.ShloMosaic.Lib.Claim
public import Idealize.ShloMosaic.Lib.Pointwise

@[expose] public section

set_option maxRecDepth 16384

noncomputable section

namespace Cert.OutDw

open Cert.Kernel7Ideal Cert.Kernel7Ideal.Gen Idealize.ShloMosaic Idealize.ShloMosaic.TcCoe Cert.Kernel7Ideal.Value

/-- The block each window shows at a grid point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ)

/-- Columns of the input against columns of the cotangent. -/
def product (x0 x1 : Vec Ideal S4096x2048 .bf16) : Vec Ideal S2048x2048 .bf16 := fun i =>
  (∑ k : Fin 4096, x0 (ix2 k (i 0)) * x1 (ix2 k (i 1)) : EReal)

/-- One block's product. -/
theorem pay_apply (x0 x1 : Vec Ideal S4096x1024 .bf16) (i : S1024x1024.Idx) :
    k0_pay1 x0 x1 i = ∑ k : Fin 4096, x0 (ix2 k (i 0)) * x1 (ix2 k (i 1)) := by
  unfold k0_pay1
  pointwise

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val / 2 * 1024 + (y 0).val := (win0_2.rect_emb_val t y 0).trans (by rw [a2]; rfl)
  have r1 : (((cfg0.win 2).blk t).view.emb y 1).val = t.val % 2 * 1024 + (y 1).val := (win0_2.rect_emb_val t y 1).trans (by rw [a2]; rfl)
  rw [after0_2]
  frame_out
  refine (pay_apply _ _ _).trans (Finset.sum_congr rfl fun k _ => congrArg₂ (· * ·) ?_ ?_)
  · refine (congrFun (V_main_arg0 m c) _).trans (congrArg _ (funext fun a => Fin.ext ?_))
    refine (win0_0.rect_emb_val t _ a).trans ?_
    rw [a0]
    match a with
    | ⟨0, _⟩ => exact Nat.zero_add _
    | ⟨1, _⟩ => exact r0.symm
  · refine (congrFun (V_main_arg1 m c) _).trans (congrArg _ (funext fun a => Fin.ext ?_))
    refine (win0_1.rect_emb_val t _ a).trans ?_
    rw [a1]
    match a with
    | ⟨0, _⟩ => exact Nat.zero_add _
    | ⟨1, _⟩ => exact r1.symm

/-- The reference's result is that product. -/
theorem reference_eq (x0 x1 : Vec Ideal S4096x2048 .bf16) :
    Cert.Reference7Ideal.Read.val_main_v6 (F := Ideal) x0 x1 = product x0 x1 := by
  refine funext fun i => (Cert.Reference7Ideal.Read.val_main_v5_apply x0 x1 i).trans
    ((Cert.Reference7Ideal.Read.val_main_v4_apply x0 x1 _).trans ?_)
  refine Finset.sum_congr rfl fun k _ => (mul_comm _ _).trans
    (congrArg₂ (· * ·) (congrArg x0 (funext fun a => ?_)) (congrArg x1 (funext fun a => ?_))) <;>
  match a with
  | ⟨0, _⟩ => rfl
  | ⟨1, _⟩ => rfl

/-- The kernel and the reference end with equal results. -/
theorem algebraic : Cert.algebraic_Kernel7Ideal_Reference7Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference7Ideal.Value.run m' g') fun r h c => ?_
    obtain ⟨r0, ra⟩ := h c
    obtain ⟨a0, a1⟩ := hagree c
    exact ⟨r0.trans ((Cert.Reference7Ideal.Read.val_main_v6_eq _ _).trans
      ((congrArg₂ (fun x y => Cert.Reference7Ideal.Read.val_main_v6 (F := Ideal) x y) a0 a1).trans (reference_eq _ _))), ra⟩

end Cert.OutDw

end
-- ==== Proof.InFwdGate.lean ====
/-
  The projection into a layer of the gate: the input times the weights, in blocks of 1024 rows and half a chip's columns.
-/
module

public import proofs.«01_k».proof.Defs
public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Claim
public import Idealize.ShloMosaic.Lib.Pointwise

@[expose] public section

set_option maxRecDepth 16384

noncomputable section

namespace Cert.InFwdGate

open Cert.Kernel8Ideal Cert.Kernel8Ideal.Gen Idealize.ShloMosaic Idealize.ShloMosaic.TcCoe Cert.Kernel8Ideal.Value

/-- The block each window shows at a grid point. -/
theorem idx : ∀ t : Fin cfg0.N, win0_0.index t = ![t.val / 8, 0] ∧ win0_1.index t = ![t.val % 8 / 2, 0, t.val % 2] ∧ win0_2.index t = ![t.val / 8, t.val % 8] :=
  (by decide +kernel : ∀ t : Fin grid0.N, _)

variable (m : (ℓ : Loc nD τ sig) → Buf (Elt Ideal) ℓ)

/-- Rows of the input against columns of the weights, the weights' columns in four blocks of 1536. -/
def product (x0 : Vec Ideal S4096x2048 .bf16) (x1 : Vec Ideal S4x2048x1536 .bf16) : Vec Ideal S4096x6144 .bf16 := fun i =>
  (∑ k : Fin 2048, x0 (ix2 (i 0) k) * x1 (ix3 ⟨(i 1).val / 1536, Nat.div_lt_of_lt_mul (show (i 1).val < 1536 * 4 from (i 1).isLt)⟩ k
    ⟨(i 1).val % 1536, Nat.mod_lt _ (by decide)⟩) : EReal)

/-- One block's product. -/
theorem pay_apply (x0 : Vec Ideal S1024x2048 .bf16) (x1 : Vec Ideal S1x2048x768 .bf16) (i : S1024x768.Idx) :
    k0_pay1 x0 x1 i = ∑ k : Fin 2048, x0 (ix2 (i 0) k) * x1 (ix3 0 k (i 1)) := by
  unfold k0_pay1
  pointwise

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val / 8 * 1024 + (y 0).val := (win0_2.rect_emb_val t y 0).trans (by rw [a2]; rfl)
  have r1 : (((cfg0.win 2).blk t).view.emb y 1).val = t.val % 8 * 768 + (y 1).val := (win0_2.rect_emb_val t y 1).trans (by rw [a2]; rfl)
  have hy : (y 1).val < 768 := (y 1).isLt
  rw [after0_2]
  frame_out
  refine (pay_apply _ _ _).trans (Finset.sum_congr rfl fun k _ => congrArg₂ (· * ·) ?_ ?_)
  · refine (congrFun (V_main_arg0 m c) _).trans (congrArg _ (funext fun a => Fin.ext ?_))
    refine (win0_0.rect_emb_val t _ a).trans ?_
    rw [a0]
    match a with
    | ⟨0, _⟩ => exact r0.symm
    | ⟨1, _⟩ => exact Nat.zero_add _
  · refine (congrFun (V_main_arg1 m c) _).trans (congrArg _ (funext fun a => Fin.ext ?_))
    refine (win0_1.rect_emb_val t _ a).trans ?_
    rw [a1]
    match a with
    | ⟨0, _⟩ =>
      show t.val % 8 / 2 * 1 + 0 = (((cfg0.win 2).blk t).view.emb y 1).val / 1536
      rw [r1]
      omega
    | ⟨1, _⟩ => exact Nat.zero_add _
    | ⟨2, _⟩ =>
      show t.val % 2 * 768 + (y 1).val = (((cfg0.win 2).blk t).view.emb y 1).val % 1536
      rw [r1]
      omega

/-- The reference's result is that product. -/
theorem reference_eq (x0 : Vec Ideal S4096x2048 .bf16) (x1 : Vec Ideal S4x2048x1536 .bf16) :
    Cert.Reference8Ideal.Read.val_main_v5 (F := Ideal) x0 x1 = product x0 x1 := by
  refine funext fun i => (Cert.Reference8Ideal.Read.val_main_v4_apply x0 x1 i).trans ?_
  have h1 : (i 1).val < 6144 := (i 1).isLt
  refine Finset.sum_congr rfl fun k _ => congrArg₂ (· * ·) (congrArg x0 (funext fun a => Fin.ext ?_)) ?_
  · match a with
    | ⟨0, _⟩ => rfl
    | ⟨1, _⟩ => rfl
  · have hk : k.val < 2048 := k.isLt
    refine (Cert.Reference8Ideal.Read.val_main_v3_apply x1 _).trans
      ((Cert.Reference8Ideal.Read.val_main_v2_apply x1 _).trans (congrArg x1 (funext fun a => Fin.ext ?_)))
    match a with
    | ⟨0, _⟩ => exact (show (k.val * 6144 + (i 1).val) / 1536 % 4 = (i 1).val / 1536 by omega)
    | ⟨1, _⟩ => exact (show (k.val * 6144 + (i 1).val) / 6144 = k.val by omega)
    | ⟨2, _⟩ => exact (show (k.val * 6144 + (i 1).val) % 1536 = (i 1).val % 1536 by omega)

/-- The kernel and the reference end with equal results. -/
theorem algebraic : Cert.algebraic_Kernel8Ideal_Reference8Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference8Ideal.Value.run m' g') fun r h c => ?_
    obtain ⟨r0, ra⟩ := h c
    obtain ⟨a0, a1⟩ := hagree c
    exact ⟨r0.trans ((Cert.Reference8Ideal.Read.val_main_v5_eq _ _).trans
      ((congrArg₂ (fun x y => Cert.Reference8Ideal.Read.val_main_v5 (F := Ideal) x y) a0 a1).trans (reference_eq _ _))), ra⟩

end Cert.InFwdGate

end
-- ==== Proof.InFwdAttn.lean ====
/-
  The projection into a layer of the attention: the input times the weights, in blocks of 1024 rows and half a chip's columns.
-/
module

public import proofs.«01_k».proof.Defs
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Lib.Claim
public import Idealize.ShloMosaic.Lib.Pointwise

@[expose] public section

set_option maxRecDepth 16384

noncomputable section

namespace Cert.InFwdAttn

open Cert.Kernel9Ideal Cert.Kernel9Ideal.Gen Idealize.ShloMosaic Idealize.ShloMosaic.TcCoe Cert.Kernel9Ideal.Value

/-- The block each window shows at a grid point. -/
theorem idx : ∀ t : Fin cfg0.N, win0_0.index t = ![t.val / 8, 0] ∧ win0_1.index t = ![t.val % 8 / 2, 0, t.val % 2] ∧ win0_2.index t = ![t.val / 8, t.val % 8] :=
  (by decide +kernel : ∀ t : Fin grid0.N, _)

variable (m : (ℓ : Loc nD τ sig) → Buf (Elt Ideal) ℓ)

/-- Rows of the input against columns of the weights, the weights' columns in four blocks of 2048. -/
def product (x0 : Vec Ideal S4096x2048 .bf16) (x1 : Vec Ideal S4x2048x2048 .bf16) : Vec Ideal S4096x8192 .bf16 := fun i =>
  (∑ k : Fin 2048, x0 (ix2 (i 0) k) * x1 (ix3 ⟨(i 1).val / 2048, Nat.div_lt_of_lt_mul (show (i 1).val < 2048 * 4 from (i 1).isLt)⟩ k
    ⟨(i 1).val % 2048, Nat.mod_lt _ (by decide)⟩) : EReal)

/-- One block's product. -/
theorem pay_apply (x0 : Vec Ideal S1024x2048 .bf16) (x1 : Vec Ideal S1x2048x1024 .bf16) (i : S1024x1024.Idx) :
    k0_pay1 x0 x1 i = ∑ k : Fin 2048, x0 (ix2 (i 0) k) * x1 (ix3 0 k (i 1)) := by
  unfold k0_pay1
  pointwise

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val / 8 * 1024 + (y 0).val := (win0_2.rect_emb_val t y 0).trans (by rw [a2]; rfl)
  have r1 : (((cfg0.win 2).blk t).view.emb y 1).val = t.val % 8 * 1024 + (y 1).val := (win0_2.rect_emb_val t y 1).trans (by rw [a2]; rfl)
  have hy : (y 1).val < 1024 := (y 1).isLt
  rw [after0_2]
  frame_out
  refine (pay_apply _ _ _).trans (Finset.sum_congr rfl fun k _ => congrArg₂ (· * ·) ?_ ?_)
  · refine (congrFun (V_main_arg0 m c) _).trans (congrArg _ (funext fun a => Fin.ext ?_))
    refine (win0_0.rect_emb_val t _ a).trans ?_
    rw [a0]
    match a with
    | ⟨0, _⟩ => exact r0.symm
    | ⟨1, _⟩ => exact Nat.zero_add _
  · refine (congrFun (V_main_arg1 m c) _).trans (congrArg _ (funext fun a => Fin.ext ?_))
    refine (win0_1.rect_emb_val t _ a).trans ?_
    rw [a1]
    match a with
    | ⟨0, _⟩ =>
      show t.val % 8 / 2 * 1 + 0 = (((cfg0.win 2).blk t).view.emb y 1).val / 2048
      rw [r1]
      omega
    | ⟨1, _⟩ => exact Nat.zero_add _
    | ⟨2, _⟩ =>
      show t.val % 2 * 1024 + (y 1).val = (((cfg0.win 2).blk t).view.emb y 1).val % 2048
      rw [r1]
      omega

/-- The reference's result is that product. -/
theorem reference_eq (x0 : Vec Ideal S4096x2048 .bf16) (x1 : Vec Ideal S4x2048x2048 .bf16) :
    Cert.Reference9Ideal.Read.val_main_v5 (F := Ideal) x0 x1 = product x0 x1 := by
  refine funext fun i => (Cert.Reference9Ideal.Read.val_main_v4_apply x0 x1 i).trans ?_
  have h1 : (i 1).val < 8192 := (i 1).isLt
  refine Finset.sum_congr rfl fun k _ => congrArg₂ (· * ·) (congrArg x0 (funext fun a => Fin.ext ?_)) ?_
  · match a with
    | ⟨0, _⟩ => rfl
    | ⟨1, _⟩ => rfl
  · have hk : k.val < 2048 := k.isLt
    refine (Cert.Reference9Ideal.Read.val_main_v3_apply x1 _).trans
      ((Cert.Reference9Ideal.Read.val_main_v2_apply x1 _).trans (congrArg x1 (funext fun a => Fin.ext ?_)))
    match a with
    | ⟨0, _⟩ => exact (show (k.val * 8192 + (i 1).val) / 2048 % 4 = (i 1).val / 2048 by omega)
    | ⟨1, _⟩ => exact (show (k.val * 8192 + (i 1).val) / 8192 = k.val by omega)
    | ⟨2, _⟩ => exact (show (k.val * 8192 + (i 1).val) % 2048 = (i 1).val % 2048 by omega)

/-- The kernel and the reference end with equal results. -/
theorem algebraic : Cert.algebraic_Kernel9Ideal_Reference9Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference9Ideal.Value.run m' g') fun r h c => ?_
    obtain ⟨r0, ra⟩ := h c
    obtain ⟨a0, a1⟩ := hagree c
    exact ⟨r0.trans ((Cert.Reference9Ideal.Read.val_main_v5_eq _ _).trans
      ((congrArg₂ (fun x y => Cert.Reference9Ideal.Read.val_main_v5 (F := Ideal) x y) a0 a1).trans (reference_eq _ _))), ra⟩

end Cert.InFwdAttn

end
-- ==== Proof.OutFwd.lean ====
/-
  The projection out of a layer with the next modulated norm: the kernel's three results, row by row.
-/
module

public import proofs.«01_k».proof.Defs
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Claim
public import Idealize.ShloMosaic.Lib.Pointwise

@[expose] public section

set_option maxRecDepth 16384

noncomputable section

namespace Cert.OutFwd

open Cert.Kernel10Ideal Cert.Kernel10Ideal.Gen Idealize.ShloMosaic Idealize.ShloMosaic.TcCoe Cert.Kernel10Ideal.Value

/-- The block each window shows at a grid point. -/
theorem idx : ∀ t : Fin cfg0.N, win0_0.index t = ![t.val, 0] ∧ win0_1.index t = ![0, 0] ∧ win0_2.index t = ![t.val, 0] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

/-- One row of the new trunk: the old row and the gated product of a row with the weights. -/
def resRow (y : Fin 2048 → EReal) (w : Vec Ideal S2048x2048 .bf16) (x : Fin 2048 → EReal) (gate : Vec Ideal S1x2048 .f32) (n : Fin 2048) : EReal :=
  x n + gate (ix2 0 n) * ∑ k, y k * w (ix2 k n)

/-- One row of the modulated norm. -/
def modRow (z : Fin 2048 → EReal) (g s b : Vec Ideal S1x2048 .f32) (n : Fin 2048) : EReal :=
  z n * Ideal.rsqrt (Ideal.div (∑ k, z k * z k) (Ideal.ofBits .f32 0x45000000#32) + Ideal.ofBits .f32 0x358637BD#32) * g (ix2 0 n)
    * (1 + s (ix2 0 n)) + b (ix2 0 n)

/-- The block's new trunk, entry by entry. -/
theorem pay2_apply (v0 : Vec Ideal S256x2048 .bf16) (v1 : Vec Ideal S2048x2048 .bf16) (v3 : Vec Ideal S256x2048 .f32) (v4 : Vec Ideal S1x2048 .f32)
    (r : Fin 256) (n : Fin 2048) :
    k0_pay2 v0 v1 v3 v4 (ix2 r n) = resRow (fun k => v0 (ix2 r k)) v1 (fun k => v3 (ix2 r k)) v4 n := by
  unfold k0_pay2 k0_pay1 resRow
  pointwise

/-- The block's product, entry by entry. -/
theorem pay3_apply (v0 : Vec Ideal S256x2048 .bf16) (v1 : Vec Ideal S2048x2048 .bf16) (r : Fin 256) (n : Fin 2048) :
    k0_pay3 v0 v1 (ix2 r n) = ∑ k : Fin 2048, v0 (ix2 r k) * v1 (ix2 k n) := by
  unfold k0_pay3 k0_pay1
  pointwise

/-- The block's modulated norm, entry by entry. -/
theorem pay4_apply (v0 : Vec Ideal S256x2048 .bf16) (v1 : Vec Ideal S2048x2048 .bf16) (v3 : Vec Ideal S256x2048 .f32) (v4 v11 v12 v13 : Vec Ideal S1x2048 .f32)
    (r : Fin 256) (n : Fin 2048) :
    k0_pay4 v0 v1 v3 v4 v11 v12 v13 (ix2 r n)
      = modRow (resRow (fun k => v0 (ix2 r k)) v1 (fun k => v3 (ix2 r k)) v4) v11 v12 v13 n := by
  unfold k0_pay4 k0_pay2 k0_pay1 resRow modRow
  pointwise

variable (m : (ℓ : Loc nD τ sig) → Buf (Elt Ideal) ℓ)

/-- The new trunk. -/
def trunk (x0 : Vec Ideal S4096x2048 .bf16) (x1 : Vec Ideal S2048x2048 .bf16) (x2 : Vec Ideal S4096x2048 .f32) (x3 : Vec Ideal S1x2048 .f32) : Vec Ideal S4096x2048 .f32 :=
  fun i => resRow (fun k => x0 (ix2 (i 0) k)) x1 (fun k => x2 (ix2 (i 0) k)) x3 (i 1)

/-- The product of the rows with the weights. -/
def product (x0 : Vec Ideal S4096x2048 .bf16) (x1 : Vec Ideal S2048x2048 .bf16) : Vec Ideal S4096x2048 .bf16 :=
  fun i => (∑ k : Fin 2048, x0 (ix2 (i 0) k) * x1 (ix2 k (i 1)) : EReal)

/-- The modulated norm of the new trunk. -/
def normed (x0 : Vec Ideal S4096x2048 .bf16) (x1 : Vec Ideal S2048x2048 .bf16) (x2 : Vec Ideal S4096x2048 .f32) (x3 x4 x5 x6 : Vec Ideal S1x2048 .f32) : Vec Ideal S4096x2048 .bf16 :=
  fun i => modRow (resRow (fun k => x0 (ix2 (i 0) k)) x1 (fun k => x2 (ix2 (i 0) k)) x3) x4 x5 x6 (i 1)

/-- The row of the array a block's row is. -/
def row (t : Fin cfg0.N) (r : Fin 256) : Fin 4096 := ⟨t.val * 256 + r.val, by have h : t.val < 16 := t.isLt; omega⟩

/-- A row of window 0's block is a row of its array. -/
theorem blk0 (c : Dev nD) (t : Fin cfg0.N) (X : Vec Ideal S256x2048 .bf16) (hX : X = iblk m c 0 t) (r : Fin 256) (k : Fin 2048) :
    X (ix2 r k) = m ((c : Thread nD τ).loc main_arg0) (ix2 (row t r) k) := by
  subst hX
  obtain ⟨a0, a1, a2, a3, a4, a5, a6, a7, a8, a9⟩ := idx t
  refine (congrFun (V_main_arg0 m c) _).trans (congrArg _ (funext fun a => Fin.ext ?_))
  refine (win0_0.rect_emb_val t _ a).trans ?_
  rw [a0]
  match a with
  | ⟨0, _⟩ => rfl
  | ⟨1, _⟩ => exact Nat.zero_add _

/-- A row of window 2's block is a row of its array. -/
theorem blk2 (c : Dev nD) (t : Fin cfg0.N) (X : Vec Ideal S256x2048 .f32) (hX : X = iblk m c 2 t) (r : Fin 256) (k : Fin 2048) :
    X (ix2 r k) = m ((c : Thread nD τ).loc main_arg2) (ix2 (row t r) k) := by
  subst hX
  obtain ⟨a0, a1, a2, a3, a4, a5, a6, a7, a8, a9⟩ := idx t
  refine (congrFun (V_main_arg2 m c) _).trans (congrArg _ (funext fun a => Fin.ext ?_))
  refine (win0_2.rect_emb_val t _ a).trans ?_
  rw [a2]
  match a with
  | ⟨0, _⟩ => rfl
  | ⟨1, _⟩ => exact Nat.zero_add _

/-- Window 1 shows its whole array. -/
theorem blk1 (c : Dev nD) (t : Fin cfg0.N) (X : Vec Ideal S2048x2048 .bf16) (hX : X = iblk m c 1 t) :
    X = m ((c : Thread nD τ).loc main_arg1) := by
  subst hX
  obtain ⟨a0, a1, a2, a3, a4, a5, a6, a7, a8, a9⟩ := idx t
  refine funext fun i => (congrFun (V_main_arg1 m c) _).trans (congrArg _ (funext fun a => Fin.ext ?_))
  refine (win0_1.rect_emb_val t _ a).trans ?_
  rw [a1]
  match a with
  | ⟨0, _⟩ => exact Nat.zero_add _
  | ⟨1, _⟩ => exact Nat.zero_add _

/-- Window 3 shows its whole array. -/
theorem blk3 (c : Dev nD) (t : Fin cfg0.N) (X : Vec Ideal S1x2048 .f32) (hX : X = iblk m c 3 t) :
    X = m ((c : Thread nD τ).loc main_arg3) := by
  subst hX
  obtain ⟨a0, a1, a2, a3, a4, a5, a6, a7, a8, a9⟩ := idx t
  refine funext fun i => (congrFun (V_main_arg3 m c) _).trans (congrArg _ (funext fun a => Fin.ext ?_))
  refine (win0_3.rect_emb_val t _ a).trans ?_
  rw [a3]
  match a with
  | ⟨0, _⟩ => exact Nat.zero_add _
  | ⟨1, _⟩ => exact Nat.zero_add _

/-- Window 4 shows its whole array. -/
theorem blk4 (c : Dev nD) (t : Fin cfg0.N) (X : Vec Ideal S1x2048 .f32) (hX : X = iblk m c 4 t) :
    X = m ((c : Thread nD τ).loc main_arg4) := by
  subst hX
  obtain ⟨a0, a1, a2, a3, a4, a5, a6, a7, a8, a9⟩ := idx t
  refine funext fun i => (congrFun (V_main_arg4 m c) _).trans (congrArg _ (funext fun a => Fin.ext ?_))
  refine (win0_4.rect_emb_val t _ a).trans ?_
  rw [a4]
  match a with
  | ⟨0, _⟩ => exact Nat.zero_add _
  | ⟨1, _⟩ => exact Nat.zero_add _

/-- Window 5 shows its whole array. -/
theorem blk5 (c : Dev nD) (t : Fin cfg0.N) (X : Vec Ideal S1x2048 .f32) (hX : X = iblk m c 5 t) :
    X = m ((c : Thread nD τ).loc main_arg5) := by
  subst hX
  obtain ⟨a0, a1, a2, a3, a4, a5, a6, a7, a8, a9⟩ := idx t
  refine funext fun i => (congrFun (V_main_arg5 m c) _).trans (congrArg _ (funext fun a => Fin.ext ?_))
  refine (win0_5.rect_emb_val t _ a).trans ?_
  rw [a5]
  match a with
  | ⟨0, _⟩ => exact Nat.zero_add _
  | ⟨1, _⟩ => exact Nat.zero_add _

/-- Window 6 shows its whole array. -/
theorem blk6 (c : Dev nD) (t : Fin cfg0.N) (X : Vec Ideal S1x2048 .f32) (hX : X = iblk m c 6 t) :
    X = m ((c : Thread nD τ).loc main_arg6) := by
  subst hX
  obtain ⟨a0, a1, a2, a3, a4, a5, a6, a7, a8, a9⟩ := idx t
  refine funext fun i => (congrFun (V_main_arg6 m c) _).trans (congrArg _ (funext fun a => Fin.ext ?_))
  refine (win0_6.rect_emb_val t _ a).trans ?_
  rw [a6]
  match a with
  | ⟨0, _⟩ => exact Nat.zero_add _
  | ⟨1, _⟩ => exact Nat.zero_add _

/-- A block of the new trunk. -/
theorem pay2_block (c : Dev nD) (t : Fin cfg0.N) (X0 : Vec Ideal S256x2048 .bf16) (X1 : Vec Ideal S2048x2048 .bf16) (X2 : Vec Ideal S256x2048 .f32) (X3 : Vec Ideal S1x2048 .f32)
    (h0 : X0 = iblk m c 0 t) (h1 : X1 = iblk m c 1 t) (h2 : X2 = iblk m c 2 t) (h3 : X3 = iblk m c 3 t) (y : S256x2048.Idx) :
    k0_pay2 X0 X1 X2 X3 y = trunk (m ((c : Thread nD τ).loc main_arg0)) (m ((c : Thread nD τ).loc main_arg1)) (m ((c : Thread nD τ).loc main_arg2)) (m ((c : Thread nD τ).loc main_arg3)) (ix2 (row t (y 0)) (y 1)) := by
  obtain ⟨r, n, rfl⟩ : ∃ (r : Fin 256) (n : Fin 2048), y = ix2 r n := ⟨y 0, y 1, eq_ix2 y⟩
  rw [pay2_apply, blk1 m c t X1 h1, blk3 m c t X3 h3]
  simp only [blk0 m c t X0 h0, blk2 m c t X2 h2]
  rfl

/-- The whole of the new trunk. -/
theorem final7 (c : Dev nD) : (dats m 0 c).arrAt 7 cfg0.N
    = trunk (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨a0, a1, a2, a3, a4, a5, a6, a7, a8, a9⟩ := idx t
  rw [after0_7]
  frame_out
  refine (pay2_block m c t _ _ _ _ rfl rfl rfl rfl y).trans (congrArg _ (funext fun a => Fin.ext ?_))
  refine Eq.symm ((win0_7.rect_emb_val t y a).trans ?_)
  rw [a7]
  match a with
  | ⟨0, _⟩ => rfl
  | ⟨1, _⟩ => exact Nat.zero_add _

/-- A block of the product. -/
theorem pay3_block (c : Dev nD) (t : Fin cfg0.N) (X0 : Vec Ideal S256x2048 .bf16) (X1 : Vec Ideal S2048x2048 .bf16)
    (h0 : X0 = iblk m c 0 t) (h1 : X1 = iblk m c 1 t) (y : S256x2048.Idx) :
    k0_pay3 X0 X1 y = product (m ((c : Thread nD τ).loc main_arg0)) (m ((c : Thread nD τ).loc main_arg1)) (ix2 (row t (y 0)) (y 1)) := by
  obtain ⟨r, n, rfl⟩ : ∃ (r : Fin 256) (n : Fin 2048), y = ix2 r n := ⟨y 0, y 1, eq_ix2 y⟩
  rw [pay3_apply, blk1 m c t X1 h1]
  simp only [blk0 m c t X0 h0]
  rfl

/-- The whole of the product. -/
theorem final8 (c : Dev nD) : (dats m 0 c).arrAt 8 cfg0.N
    = product (m ((c : Thread nD τ).loc main_arg0)) (m ((c : Thread nD τ).loc main_arg1)) := by
  refine (dats m 0 c).arrAt_eq_of_covers 8 _ (by decide +kernel) fun t hf y => ?_
  obtain ⟨a0, a1, a2, a3, a4, a5, a6, a7, a8, a9⟩ := idx t
  rw [after0_8]
  frame_out
  refine (pay3_block m c t _ _ rfl rfl y).trans (congrArg _ (funext fun a => Fin.ext ?_))
  refine Eq.symm ((win0_8.rect_emb_val t y a).trans ?_)
  rw [a8]
  match a with
  | ⟨0, _⟩ => rfl
  | ⟨1, _⟩ => exact Nat.zero_add _

/-- A block of the modulated norm. -/
theorem pay4_block (c : Dev nD) (t : Fin cfg0.N) (X0 : Vec Ideal S256x2048 .bf16) (X1 : Vec Ideal S2048x2048 .bf16) (X2 : Vec Ideal S256x2048 .f32) (X3 : Vec Ideal S1x2048 .f32) (X4 : Vec Ideal S1x2048 .f32) (X5 : Vec Ideal S1x2048 .f32) (X6 : Vec Ideal S1x2048 .f32)
    (h0 : X0 = iblk m c 0 t) (h1 : X1 = iblk m c 1 t) (h2 : X2 = iblk m c 2 t) (h3 : X3 = iblk m c 3 t) (h4 : X4 = iblk m c 4 t) (h5 : X5 = iblk m c 5 t) (h6 : X6 = iblk m c 6 t) (y : S256x2048.Idx) :
    k0_pay4 X0 X1 X2 X3 X4 X5 X6 y = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (y 0)) (y 1)) := by
  obtain ⟨r, n, rfl⟩ : ∃ (r : Fin 256) (n : Fin 2048), y = ix2 r n := ⟨y 0, y 1, eq_ix2 y⟩
  rw [pay4_apply, blk1 m c t X1 h1, blk3 m c t X3 h3, blk4 m c t X4 h4, blk5 m c t X5 h5, blk6 m c t X6 h6]
  simp only [blk0 m c t X0 h0, blk2 m c t X2 h2]
  rfl

/-- The whole of the modulated norm. -/
theorem final9 (c : Dev nD) : (dats m 0 c).arrAt 9 cfg0.N
    = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨a0, a1, a2, a3, a4, a5, a6, a7, a8, a9⟩ := idx t
  rw [after0_9]
  frame_out
  refine (pay4_block m c t _ _ _ _ _ _ _ rfl rfl rfl rfl rfl rfl rfl y).trans (congrArg _ (funext fun a => Fin.ext ?_))
  refine Eq.symm ((win0_9.rect_emb_val t y a).trans ?_)
  rw [a9]
  match a with
  | ⟨0, _⟩ => rfl
  | ⟨1, _⟩ => exact Nat.zero_add _

/-- The reference's new trunk. -/
theorem ref_trunk (x0 : Vec Ideal S4096x2048 .bf16) (x1 : Vec Ideal S2048x2048 .bf16) (x2 : Vec Ideal S4096x2048 .f32) (x3 : Vec Ideal S1x2048 .f32) :
    Cert.Reference10Ideal.Read.val_main_v5 (F := Ideal) x0 x1 x2 x3 = trunk x0 x1 x2 x3 := by
  refine funext fun i => (Cert.Reference10Ideal.Read.val_main_v5_apply x0 x1 x2 x3 i).trans ?_
  rw [Cert.Reference10Ideal.Read.val_main_v4_apply, Cert.Reference10Ideal.Read.val_main_v3_apply, Cert.Reference10Ideal.Read.val_main_v2_apply]
  refine congrArg₂ (fun a b : EReal => a + b) (congrArg x2 (eq_ix2 i)) (congrArg₂ (fun a b : EReal => a * b) (congrArg x3 (funext fun a => ?_)) (Finset.sum_congr rfl fun k _ => ?_))
  · match a with
    | ⟨0, _⟩ => rfl
    | ⟨1, _⟩ => rfl
  · refine congrArg₂ (fun a b : EReal => a * b) (congrArg x0 (funext fun a => ?_)) (congrArg x1 (funext fun a => ?_)) <;>
    match a with
    | ⟨0, _⟩ => rfl
    | ⟨1, _⟩ => rfl

/-- The reference's product. -/
theorem ref_product (x0 : Vec Ideal S4096x2048 .bf16) (x1 : Vec Ideal S2048x2048 .bf16) :
    Cert.Reference10Ideal.Read.val_main_v6 (F := Ideal) x0 x1 = product x0 x1 := by
  refine funext fun i => (Cert.Reference10Ideal.Read.val_main_v6_apply x0 x1 i).trans ?_
  refine (Cert.Reference10Ideal.Read.val_main_v2_apply x0 x1 i).trans (Finset.sum_congr rfl fun k _ => ?_)
  refine congrArg₂ (fun a b : EReal => a * b) (congrArg x0 (funext fun a => ?_)) (congrArg x1 (funext fun a => ?_)) <;>
  match a with
  | ⟨0, _⟩ => rfl
  | ⟨1, _⟩ => rfl

/-- The sum of the squares of a row of the reference's new trunk. -/
theorem ref_squares (x0 : Vec Ideal S4096x2048 .bf16) (x1 : Vec Ideal S2048x2048 .bf16) (x2 : Vec Ideal S4096x2048 .f32) (x3 : Vec Ideal S1x2048 .f32) (r : Fin 4096) :
    Cert.Reference10Ideal.Read.val_main_v8 (F := Ideal) x0 x1 x2 x3 (ix1 r)
      = ∑ k : Fin 2048, trunk x0 x1 x2 x3 (ix2 r k) * trunk x0 x1 x2 x3 (ix2 r k) := by
  refine (Cert.Reference10Ideal.Read.val_main_v8_apply x0 x1 x2 x3 _).trans ?_
  refine (congrArg (fun z : EReal => z + _) Ideal.ofBits_zero_f32).trans ((zero_add _).trans (Finset.sum_congr rfl fun k _ => ?_))
  rw [Cert.Reference10Ideal.Read.val_main_v7_apply, ref_trunk]
  have e : Cert.Reference10Ideal.Read.idx_main_v8 (ix1 r) k = ix2 r k := funext fun a => match a with
    | ⟨0, _⟩ => rfl
    | ⟨1, _⟩ => rfl
  rw [e]
  rfl

/-- The reference's modulated norm. -/
theorem ref_normed (x0 : Vec Ideal S4096x2048 .bf16) (x1 : Vec Ideal S2048x2048 .bf16) (x2 : Vec Ideal S4096x2048 .f32) (x3 x4 x5 x6 : Vec Ideal S1x2048 .f32) :
    Cert.Reference10Ideal.Read.val_main_v25 (F := Ideal) x0 x1 x2 x3 x4 x5 x6 = normed x0 x1 x2 x3 x4 x5 x6 := by
  refine funext fun i => (Cert.Reference10Ideal.Read.val_main_v25_apply x0 x1 x2 x3 x4 x5 x6 i).trans ?_
  obtain ⟨r, n, rfl⟩ : ∃ (r : Fin 4096) (n : Fin 2048), i = ix2 r n := ⟨i 0, i 1, eq_ix2 i⟩
  have e17 : Cert.Reference10Ideal.Read.idx_main_v17 (ix2 r n) = ix2 0 n := funext fun a => match a with
    | ⟨0, _⟩ => rfl
    | ⟨1, _⟩ => rfl
  have e21 : Cert.Reference10Ideal.Read.idx_main_v21 (ix2 r n) = ix2 0 n := funext fun a => match a with
    | ⟨0, _⟩ => rfl
    | ⟨1, _⟩ => rfl
  have e23 : Cert.Reference10Ideal.Read.idx_main_v23 (ix2 r n) = ix2 0 n := funext fun a => match a with
    | ⟨0, _⟩ => rfl
    | ⟨1, _⟩ => rfl
  have e9 : Cert.Reference10Ideal.Read.idx_main_v9 (Cert.Reference10Ideal.Read.idx_main_v15 (ix2 r n)) = ix1 r := funext fun a => match a with
    | ⟨0, _⟩ => rfl
  rw [Cert.Reference10Ideal.Read.val_main_v24_apply, Cert.Reference10Ideal.Read.val_main_v23_apply, Cert.Reference10Ideal.Read.val_main_v22_apply, Cert.Reference10Ideal.Read.val_main_v21_apply, Cert.Reference10Ideal.Read.val_main_v20_apply, Cert.Reference10Ideal.Read.val_main_v19_apply, Cert.Reference10Ideal.Read.val_main_v18_apply, Cert.Reference10Ideal.Read.val_main_v17_apply, Cert.Reference10Ideal.Read.val_main_v16_apply, Cert.Reference10Ideal.Read.val_main_v15_apply, Cert.Reference10Ideal.Read.val_main_v14_apply, Cert.Reference10Ideal.Read.val_main_v13_apply, Cert.Reference10Ideal.Read.val_main_v12_apply, Cert.Reference10Ideal.Read.val_main_v11_apply, Cert.Reference10Ideal.Read.val_main_v10_apply, Cert.Reference10Ideal.Read.val_main_v9_apply,
    e17, e21, e23, e9, ref_squares, ref_trunk, Cert.Reference10Ideal.Read.val_main_cst_0_apply, Cert.Reference10Ideal.Read.val_main_cst_1_apply, Cert.Reference10Ideal.Read.val_main_cst_2_apply]
  unfold normed modRow
  rw [← Ideal.ofBits_one_f32]
  rfl

/-- The kernel and the reference end with equal results. -/
theorem algebraic : Cert.algebraic_Kernel10Ideal_Reference10Ideal := by
  intro m g m' g' _ hagree
  refine ⟨fun c => trunk (m ((c.tc : Thread nD τ).loc main_arg0)) (m ((c.tc : Thread nD τ).loc main_arg1)) (m ((c.tc : Thread nD τ).loc main_arg2)) (m ((c.tc : Thread nD τ).loc main_arg3)), fun c => product (m ((c.tc : Thread nD τ).loc main_arg0)) (m ((c.tc : Thread nD τ).loc main_arg1)), fun c => normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)), ?_, ?_⟩
  · refine θ_run_mono (run_blocks m g) fun r h c => ?_
    obtain ⟨r0, r1, r2, ra⟩ := h c
    exact ⟨r0.trans (final7 m c), r1.trans (final8 m c), r2.trans (final9 m c), ra⟩
  · refine θ_run_mono (Cert.Reference10Ideal.Value.run m' g') fun r h c => ?_
    obtain ⟨r0, r1, r2, ra⟩ := h c
    obtain ⟨e0, e1, e2, e3, e4, e5, e6⟩ := hagree c
    refine ⟨r0.trans ((Cert.Reference10Ideal.Read.val_main_v5_eq _ _ _ _).trans ((ref_trunk _ _ _ _).trans (by rw [e0, e1, e2, e3]))),
      r1.trans ((Cert.Reference10Ideal.Read.val_main_v6_eq _ _).trans ((ref_product _ _).trans (by rw [e0, e1]))),
      r2.trans ((Cert.Reference10Ideal.Read.val_main_v25_eq _ _ _ _ _ _ _).trans ((ref_normed _ _ _ _ _ _ _).trans (by rw [e0, e1, e2, e3, e4, e5, e6]))), ra⟩

end Cert.OutFwd

end
-- ==== Proof.OutFwdLast.lean ====
/-
  The projection out of the last layer: the kernel's two results, row by row.
-/
module

public import proofs.«01_k».proof.Defs
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit
public import Idealize.ShloMosaic.Lib.Claim
public import Idealize.ShloMosaic.Lib.Pointwise

@[expose] public section

set_option maxRecDepth 16384

noncomputable section

namespace Cert.OutFwdLast

open Cert.Kernel11Ideal Cert.Kernel11Ideal.Gen Idealize.ShloMosaic Idealize.ShloMosaic.TcCoe Cert.Kernel11Ideal.Value

/-- The block each window shows at a grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- One row of the new trunk: the old row and the gated product of a row with the weights. -/
def resRow (y : Fin 2048 → EReal) (w : Vec Ideal S2048x2048 .bf16) (x : Fin 2048 → EReal) (gate : Vec Ideal S1x2048 .f32) (n : Fin 2048) : EReal :=
  x n + gate (ix2 0 n) * ∑ k, y k * w (ix2 k n)

/-- The block's new trunk, entry by entry. -/
theorem pay2_apply (v0 : Vec Ideal S256x2048 .bf16) (v1 : Vec Ideal S2048x2048 .bf16) (v3 : Vec Ideal S256x2048 .f32) (v4 : Vec Ideal S1x2048 .f32)
    (r : Fin 256) (n : Fin 2048) :
    k0_pay2 v0 v1 v3 v4 (ix2 r n) = resRow (fun k => v0 (ix2 r k)) v1 (fun k => v3 (ix2 r k)) v4 n := by
  unfold k0_pay2 k0_pay1 resRow
  pointwise

/-- The block's product, entry by entry. -/
theorem pay3_apply (v0 : Vec Ideal S256x2048 .bf16) (v1 : Vec Ideal S2048x2048 .bf16) (r : Fin 256) (n : Fin 2048) :
    k0_pay3 v0 v1 (ix2 r n) = ∑ k : Fin 2048, v0 (ix2 r k) * v1 (ix2 k n) := by
  unfold k0_pay3 k0_pay1
  pointwise

variable (m : (ℓ : Loc nD τ sig) → Buf (Elt Ideal) ℓ)

/-- The new trunk. -/
def trunk (x0 : Vec Ideal S4096x2048 .bf16) (x1 : Vec Ideal S2048x2048 .bf16) (x2 : Vec Ideal S4096x2048 .f32) (x3 : Vec Ideal S1x2048 .f32) : Vec Ideal S4096x2048 .f32 :=
  fun i => resRow (fun k => x0 (ix2 (i 0) k)) x1 (fun k => x2 (ix2 (i 0) k)) x3 (i 1)

/-- The product of the rows with the weights. -/
def product (x0 : Vec Ideal S4096x2048 .bf16) (x1 : Vec Ideal S2048x2048 .bf16) : Vec Ideal S4096x2048 .bf16 :=
  fun i => (∑ k : Fin 2048, x0 (ix2 (i 0) k) * x1 (ix2 k (i 1)) : EReal)

/-- The row of the array a block's row is. -/
def row (t : Fin cfg0.N) (r : Fin 256) : Fin 4096 := ⟨t.val * 256 + r.val, by have h : t.val < 16 := t.isLt; omega⟩

/-- A row of window 0's block is a row of its array. -/
theorem blk0 (c : Dev nD) (t : Fin cfg0.N) (X : Vec Ideal S256x2048 .bf16) (hX : X = iblk m c 0 t) (r : Fin 256) (k : Fin 2048) :
    X (ix2 r k) = m ((c : Thread nD τ).loc main_arg0) (ix2 (row t r) k) := by
  subst hX
  obtain ⟨a0, a1, a2, a3, a4, a5⟩ := idx t
  refine (congrFun (V_main_arg0 m c) _).trans (congrArg _ (funext fun a => Fin.ext ?_))
  refine (win0_0.rect_emb_val t _ a).trans ?_
  rw [a0]
  match a with
  | ⟨0, _⟩ => rfl
  | ⟨1, _⟩ => exact Nat.zero_add _

/-- A row of window 2's block is a row of its array. -/
theorem blk2 (c : Dev nD) (t : Fin cfg0.N) (X : Vec Ideal S256x2048 .f32) (hX : X = iblk m c 2 t) (r : Fin 256) (k : Fin 2048) :
    X (ix2 r k) = m ((c : Thread nD τ).loc main_arg2) (ix2 (row t r) k) := by
  subst hX
  obtain ⟨a0, a1, a2, a3, a4, a5⟩ := idx t
  refine (congrFun (V_main_arg2 m c) _).trans (congrArg _ (funext fun a => Fin.ext ?_))
  refine (win0_2.rect_emb_val t _ a).trans ?_
  rw [a2]
  match a with
  | ⟨0, _⟩ => rfl
  | ⟨1, _⟩ => exact Nat.zero_add _

/-- Window 1 shows its whole array. -/
theorem blk1 (c : Dev nD) (t : Fin cfg0.N) (X : Vec Ideal S2048x2048 .bf16) (hX : X = iblk m c 1 t) :
    X = m ((c : Thread nD τ).loc main_arg1) := by
  subst hX
  obtain ⟨a0, a1, a2, a3, a4, a5⟩ := idx t
  refine funext fun i => (congrFun (V_main_arg1 m c) _).trans (congrArg _ (funext fun a => Fin.ext ?_))
  refine (win0_1.rect_emb_val t _ a).trans ?_
  rw [a1]
  match a with
  | ⟨0, _⟩ => exact Nat.zero_add _
  | ⟨1, _⟩ => exact Nat.zero_add _

/-- Window 3 shows its whole array. -/
theorem blk3 (c : Dev nD) (t : Fin cfg0.N) (X : Vec Ideal S1x2048 .f32) (hX : X = iblk m c 3 t) :
    X = m ((c : Thread nD τ).loc main_arg3) := by
  subst hX
  obtain ⟨a0, a1, a2, a3, a4, a5⟩ := idx t
  refine funext fun i => (congrFun (V_main_arg3 m c) _).trans (congrArg _ (funext fun a => Fin.ext ?_))
  refine (win0_3.rect_emb_val t _ a).trans ?_
  rw [a3]
  match a with
  | ⟨0, _⟩ => exact Nat.zero_add _
  | ⟨1, _⟩ => exact Nat.zero_add _

/-- A block of the new trunk. -/
theorem pay2_block (c : Dev nD) (t : Fin cfg0.N) (X0 : Vec Ideal S256x2048 .bf16) (X1 : Vec Ideal S2048x2048 .bf16) (X2 : Vec Ideal S256x2048 .f32) (X3 : Vec Ideal S1x2048 .f32)
    (h0 : X0 = iblk m c 0 t) (h1 : X1 = iblk m c 1 t) (h2 : X2 = iblk m c 2 t) (h3 : X3 = iblk m c 3 t) (y : S256x2048.Idx) :
    k0_pay2 X0 X1 X2 X3 y = trunk (m ((c : Thread nD τ).loc main_arg0)) (m ((c : Thread nD τ).loc main_arg1)) (m ((c : Thread nD τ).loc main_arg2)) (m ((c : Thread nD τ).loc main_arg3)) (ix2 (row t (y 0)) (y 1)) := by
  obtain ⟨r, n, rfl⟩ : ∃ (r : Fin 256) (n : Fin 2048), y = ix2 r n := ⟨y 0, y 1, eq_ix2 y⟩
  rw [pay2_apply, blk1 m c t X1 h1, blk3 m c t X3 h3]
  simp only [blk0 m c t X0 h0, blk2 m c t X2 h2]
  rfl

/-- The whole of the new trunk. -/
theorem final4 (c : Dev nD) : (dats m 0 c).arrAt 4 cfg0.N
    = trunk (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨a0, a1, a2, a3, a4, a5⟩ := idx t
  rw [after0_4]
  frame_out
  refine (pay2_block m c t _ _ _ _ rfl rfl rfl rfl y).trans (congrArg _ (funext fun a => Fin.ext ?_))
  refine Eq.symm ((win0_4.rect_emb_val t y a).trans ?_)
  rw [a4]
  match a with
  | ⟨0, _⟩ => rfl
  | ⟨1, _⟩ => exact Nat.zero_add _

/-- A block of the product. -/
theorem pay3_block (c : Dev nD) (t : Fin cfg0.N) (X0 : Vec Ideal S256x2048 .bf16) (X1 : Vec Ideal S2048x2048 .bf16)
    (h0 : X0 = iblk m c 0 t) (h1 : X1 = iblk m c 1 t) (y : S256x2048.Idx) :
    k0_pay3 X0 X1 y = product (m ((c : Thread nD τ).loc main_arg0)) (m ((c : Thread nD τ).loc main_arg1)) (ix2 (row t (y 0)) (y 1)) := by
  obtain ⟨r, n, rfl⟩ : ∃ (r : Fin 256) (n : Fin 2048), y = ix2 r n := ⟨y 0, y 1, eq_ix2 y⟩
  rw [pay3_apply, blk1 m c t X1 h1]
  simp only [blk0 m c t X0 h0]
  rfl

/-- The whole of the product. -/
theorem final5 (c : Dev nD) : (dats m 0 c).arrAt 5 cfg0.N
    = product (m ((c : Thread nD τ).loc main_arg0)) (m ((c : Thread nD τ).loc main_arg1)) := by
  refine (dats m 0 c).arrAt_eq_of_covers 5 _ (by decide +kernel) fun t hf y => ?_
  obtain ⟨a0, a1, a2, a3, a4, a5⟩ := idx t
  rw [after0_5]
  frame_out
  refine (pay3_block m c t _ _ rfl rfl y).trans (congrArg _ (funext fun a => Fin.ext ?_))
  refine Eq.symm ((win0_5.rect_emb_val t y a).trans ?_)
  rw [a5]
  match a with
  | ⟨0, _⟩ => rfl
  | ⟨1, _⟩ => exact Nat.zero_add _

/-- The reference's new trunk. -/
theorem ref_trunk (x0 : Vec Ideal S4096x2048 .bf16) (x1 : Vec Ideal S2048x2048 .bf16) (x2 : Vec Ideal S4096x2048 .f32) (x3 : Vec Ideal S1x2048 .f32) :
    Cert.Reference11Ideal.Read.val_main_v5 (F := Ideal) x0 x1 x2 x3 = trunk x0 x1 x2 x3 := by
  refine funext fun i => (Cert.Reference11Ideal.Read.val_main_v5_apply x0 x1 x2 x3 i).trans ?_
  rw [Cert.Reference11Ideal.Read.val_main_v4_apply, Cert.Reference11Ideal.Read.val_main_v3_apply, Cert.Reference11Ideal.Read.val_main_v2_apply]
  refine congrArg₂ (fun a b : EReal => a + b) (congrArg x2 (eq_ix2 i)) (congrArg₂ (fun a b : EReal => a * b) (congrArg x3 (funext fun a => ?_)) (Finset.sum_congr rfl fun k _ => ?_))
  · match a with
    | ⟨0, _⟩ => rfl
    | ⟨1, _⟩ => rfl
  · refine congrArg₂ (fun a b : EReal => a * b) (congrArg x0 (funext fun a => ?_)) (congrArg x1 (funext fun a => ?_)) <;>
    match a with
    | ⟨0, _⟩ => rfl
    | ⟨1, _⟩ => rfl

/-- The reference's product. -/
theorem ref_product (x0 : Vec Ideal S4096x2048 .bf16) (x1 : Vec Ideal S2048x2048 .bf16) :
    Cert.Reference11Ideal.Read.val_main_v6 (F := Ideal) x0 x1 = product x0 x1 := by
  refine funext fun i => (Cert.Reference11Ideal.Read.val_main_v6_apply x0 x1 i).trans ?_
  refine (Cert.Reference11Ideal.Read.val_main_v2_apply x0 x1 i).trans (Finset.sum_congr rfl fun k _ => ?_)
  refine congrArg₂ (fun a b : EReal => a * b) (congrArg x0 (funext fun a => ?_)) (congrArg x1 (funext fun a => ?_)) <;>
  match a with
  | ⟨0, _⟩ => rfl
  | ⟨1, _⟩ => rfl

/-- The kernel and the reference end with equal results. -/
theorem algebraic : Cert.algebraic_Kernel11Ideal_Reference11Ideal := by
  intro m g m' g' _ hagree
  refine ⟨fun c => trunk (m ((c.tc : Thread nD τ).loc main_arg0)) (m ((c.tc : Thread nD τ).loc main_arg1)) (m ((c.tc : Thread nD τ).loc main_arg2)) (m ((c.tc : Thread nD τ).loc main_arg3)), fun c => product (m ((c.tc : Thread nD τ).loc main_arg0)) (m ((c.tc : Thread nD τ).loc main_arg1)), ?_, ?_⟩
  · refine θ_run_mono (run_blocks m g) fun r h c => ?_
    obtain ⟨r0, r1, ra⟩ := h c
    exact ⟨r0.trans (final4 m c), r1.trans (final5 m c), ra⟩
  · refine θ_run_mono (Cert.Reference11Ideal.Value.run m' g') fun r h c => ?_
    obtain ⟨r0, r1, ra⟩ := h c
    obtain ⟨e0, e1, e2, e3⟩ := hagree c
    refine ⟨r0.trans ((Cert.Reference11Ideal.Read.val_main_v5_eq _ _ _ _).trans ((ref_trunk _ _ _ _).trans (by rw [e0, e1, e2, e3]))),
      r1.trans ((Cert.Reference11Ideal.Read.val_main_v6_eq _ _).trans ((ref_product _ _).trans (by rw [e0, e1]))), ra⟩

end Cert.OutFwdLast

end
-- ==== Proof.NormSpec.lean ====
/-
  The gradient of the modulated norm, of the residual around it and of the gated add below, as functions of natural coordinates with extended real values.
  `X` is the trunk, `D` the normed rows' gradient, `R` the trunk's own, `g` the norm's gain, `s` the modulation's scale, `O` the product that the gate `G`
  scales.
-/
module

public import proofs.«01_k».proof.Proof.Coe

@[expose] public section

set_option maxRecDepth 16384

noncomputable section

namespace Cert.Norm

open Cert.Sgu Idealize.ShloMosaic

variable (X D R O : ℕ → ℕ → EReal) (g s G : ℕ → EReal)

/-- The mean square of a row, with the norm's epsilon. -/
def msq (r : ℕ) : EReal := Ideal.div (∑ k : Fin 2048, X r k.val * X r k.val) ((2048 : ℝ) : EReal) + ((eps : ℝ) : EReal)

/-- The reciprocal of a row's root mean square. -/
def rs (r : ℕ) : EReal := Ideal.rsqrt (msq X r)

/-- The normalised row. -/
def hat (r n : ℕ) : EReal := X r n * rs X r

/-- The normalised row's gradient. -/
def dhat (r n : ℕ) : EReal := D r n * g n * (((1 : ℝ) : EReal) + s n)

/-- The trunk's gradient. -/
def dx (r n : ℕ) : EReal :=
  R r n + rs X r * (dhat D g s r n - hat X r n * Ideal.div (∑ k : Fin 2048, dhat D g s r k.val * hat X r k.val) ((2048 : ℝ) : EReal))

/-- The gradient of the modulation's shift. -/
def dshift (n : ℕ) : EReal := ∑ r : Fin 4096, D r.val n

/-- The gradient of the modulation's scale. -/
def dscale (n : ℕ) : EReal := ∑ r : Fin 4096, D r.val n * hat X r.val n * g n

/-- The gradient of the norm's gain. -/
def dgain (n : ℕ) : EReal := ∑ r : Fin 4096, D r.val n * hat X r.val n * (((1 : ℝ) : EReal) + s n)

/-- The gradient of the product below the gate. -/
def dout (r n : ℕ) : EReal := G n * dx X D R g s r n

/-- The gradient of the gate. -/
def dgate (n : ℕ) : EReal := ∑ r : Fin 4096, dx X D R g s r.val n * O r.val n

theorem square_nonneg (x : EReal) : 0 ≤ x * x := by
  rcases le_total 0 x with h | h
  · exact EReal.mul_nonneg_iff.mpr (.inl ⟨h, h⟩)
  · exact EReal.mul_nonneg_iff.mpr (.inr ⟨h, h⟩)

theorem msq_pos (r : ℕ) : 0 < msq X r := by
  rw [msq, Ideal.div_coe (by norm_num)]
  refine lt_of_lt_of_le (EReal.coe_pos.mpr eps_pos) (le_add_of_nonneg_left ?_)
  exact EReal.mul_nonneg_iff.mpr (.inl ⟨Finset.sum_nonneg fun k _ => square_nonneg _, EReal.coe_nonneg.mpr (by norm_num)⟩)

/-- A row's mean square is infinite, or a positive real number. -/
theorem msq_cases (r : ℕ) : msq X r = ⊤ ∨ ∃ v : ℝ, 0 < v ∧ msq X r = (v : EReal) := by
  by_cases h : msq X r = ⊤
  · exact .inl h
  · have e := EReal.coe_toReal h (ne_bot_of_gt (msq_pos X r))
    exact .inr ⟨(msq X r).toReal, EReal.coe_pos.mp (e.symm ▸ msq_pos X r), e.symm⟩

/-- A real factor that is not negative comes out of a sum. -/
theorem sum_mul_real {ι : Type*} (t : Finset ι) (f : ι → EReal) {a : ℝ} (h : 0 ≤ a) : ∑ i ∈ t, f i * (a : EReal) = (∑ i ∈ t, f i) * (a : EReal) := by
  classical
  induction t using Finset.induction_on with
  | empty => simp
  | insert i t hi ih =>
    rw [Finset.sum_insert hi, Finset.sum_insert hi, ih,
      EReal.right_distrib_of_nonneg_of_ne_top (EReal.coe_nonneg.mpr h) (EReal.coe_ne_top a)]

/-- Two equal summands, each a product with a real number. -/
theorem add_self_mul (b : EReal) (k : ℝ) : b * ((k : ℝ) : EReal) + b * ((k : ℝ) : EReal) = b * ((2 * k : ℝ) : EReal) := by
  have h := EReal.right_distrib_of_nonneg (c := b * (k : EReal)) (zero_le_one (α := EReal)) (zero_le_one (α := EReal))
  rw [one_mul] at h
  have e : (1 + 1 : EReal) = ((2 : ℝ) : EReal) := by
    rw [← EReal.coe_one, ← EReal.coe_add]
    norm_num
  rw [← h, e, EReal.coe_mul, mul_left_comm]

/-- The same trunk gradient with the derivative of the reciprocal root written through the root's own value over the mean square, and the square's two equal
    halves apart. -/
theorem dx_eq (r n : ℕ) : R r n + D r n * (((1 : ℝ) : EReal) + s n) * g n * rs X r
      + X r n * Ideal.div ((∑ k : Fin 2048, X r k.val * (D r k.val * (((1 : ℝ) : EReal) + s k.val) * g k.val))
          * (((-(1 / 2) : ℝ) : EReal) * Ideal.div (rs X r) (msq X r))) ((2048 : ℝ) : EReal)
      + Ideal.div ((∑ k : Fin 2048, X r k.val * (D r k.val * (((1 : ℝ) : EReal) + s k.val) * g k.val))
          * (((-(1 / 2) : ℝ) : EReal) * Ideal.div (rs X r) (msq X r))) ((2048 : ℝ) : EReal) * X r n
    = dx X D R g s r n := by
  obtain e | ⟨v, hv, e⟩ := msq_cases X r
  · have e0 : rs X r = 0 := by rw [rs, e]; rfl
    have e1 : Ideal.div (0 : EReal) (⊤ : EReal) = 0 := by rw [Ideal.div, if_neg EReal.top_ne_zero, zero_mul]
    have e2 : Ideal.div (0 : EReal) ((2048 : ℝ) : EReal) = 0 := by rw [Ideal.div_coe (by norm_num), zero_mul]
    rw [dx, e0, e, e1, mul_zero, mul_zero, mul_zero, e2, mul_zero, zero_mul, zero_mul, add_zero, add_zero]
  · have er : rs X r = (((Real.sqrt v)⁻¹ : ℝ) : EReal) := by rw [rs, e, coe_rsqrt hv]
    have hp : 0 < (Real.sqrt v)⁻¹ := inv_pos.mpr (Real.sqrt_pos.mpr hv)
    have hs : (Real.sqrt v)⁻¹ * (Real.sqrt v)⁻¹ = v⁻¹ := by rw [← mul_inv, Real.mul_self_sqrt hv.le]
    generalize (Real.sqrt v)⁻¹ = ρ at er hp hs
    have ed : ∀ k : ℕ, dhat D g s r k = D r k * (((1 : ℝ) : EReal) + s k) * g k := fun k => by rw [dhat, mul_right_comm]
    have es : ∑ k : Fin 2048, dhat D g s r k.val * hat X r k.val
        = (∑ k : Fin 2048, X r k.val * (D r k.val * (((1 : ℝ) : EReal) + s k.val) * g k.val)) * (ρ : EReal) := by
      rw [← sum_mul_real _ _ hp.le]
      refine Finset.sum_congr rfl fun k _ => ?_
      rw [ed, hat, er, ← mul_assoc]
      exact congrArg (· * _) (mul_comm _ _)
    rw [dx, es, ed, hat, er, e]
    generalize (∑ k : Fin 2048, X r k.val * (D r k.val * (((1 : ℝ) : EReal) + s k.val) * g k.val)) = T
    generalize D r n * (((1 : ℝ) : EReal) + s n) * g n = E
    rw [coe_div _ hv.ne', ← EReal.coe_mul, Ideal.div_coe (by norm_num), Ideal.div_coe (by norm_num)]
    have eL : ∀ a b : ℝ, X r n * (T * (a : EReal) * (b : EReal)) = X r n * T * ((a * b : ℝ) : EReal) := fun a b => by
      rw [EReal.coe_mul, ← mul_assoc, ← mul_assoc, ← mul_assoc]
    have eR : X r n * (ρ : EReal) * (T * (ρ : EReal) * ((1 / 2048 : ℝ) : EReal)) = X r n * T * ((ρ * ρ * (1 / 2048) : ℝ) : EReal) := by
      rw [EReal.coe_mul, EReal.coe_mul]
      ac_rfl
    rw [mul_comm _ (X r n), eL, eR, add_assoc, add_self_mul, sub_eq_add_neg,
      EReal.left_distrib_of_nonneg_of_ne_top (EReal.coe_nonneg.mpr hp.le) (EReal.coe_ne_top ρ), ← add_assoc, mul_comm E]
    congr 1
    rw [← mul_neg, ← EReal.coe_neg, mul_comm (ρ : EReal), mul_assoc (X r n * T), ← EReal.coe_mul]
    refine congrArg (fun a : ℝ => X r n * T * (a : EReal)) ?_
    rw [div_eq_mul_inv ρ v, ← hs]
    ring

/-- All rows, 512 per grid point. -/
theorem sum_rows (f : ℕ → EReal) : ∑ t : Fin 8, ∑ k : Fin 512, f (512 * t.val + k.val) = ∑ r : Fin 4096, f r.val := by
  rw [← Equiv.sum_comp (finProdFinEquiv (m := 8) (n := 512)) (fun r : Fin 4096 => f r.val), Fintype.sum_prod_type]
  refine Finset.sum_congr rfl fun t _ => Finset.sum_congr rfl fun k _ => ?_
  rw [finProdFinEquiv_apply_val, add_comm]

end Cert.Norm

end
-- ==== Proof.NormRef.lean ====
/-
  The reference's gradient of the modulated norm, read at an index: it is the function of `NormSpec`.
-/
module

public import proofs.«01_k».proof.Proof.NormSpec
public import proofs.«01_k».proof.Proof.Gen.Reference12Ideal.Read

@[expose] public section

set_option maxRecDepth 16384

noncomputable section

namespace Cert.Norm.Ref

open Cert.Reference12Ideal Cert.Reference12Ideal.Gen Cert.Reference12Ideal.Read Idealize.ShloMosaic Cert.Sgu

variable {X D R O : ℕ → ℕ → EReal} {g s G : ℕ → EReal}
variable {x0 x2 : (⟨S4096x2048, .f32⟩ : BufTy).Contents (Elt Ideal)} {x1 x5 : (⟨S4096x2048, .bf16⟩ : BufTy).Contents (Elt Ideal)}
  {x3 x4 x6 : (⟨S1x2048, .f32⟩ : BufTy).Contents (Elt Ideal)}
/-- The row coordinate of a one-row array is nought. -/
theorem row_zero (i : S1x2048.Idx) : (i 0).val = 0 := Nat.lt_one_iff.mp (i 0).isLt

variable (h0 : ∀ i, x0 i = X (i 0).val (i 1).val) (h1 : ∀ i, x1 i = D (i 0).val (i 1).val)
  (h2 : ∀ i, x2 i = R (i 0).val (i 1).val) (h3 : ∀ i, x3 i = g (i 1).val)
  (h4 : ∀ i, x4 i = s (i 1).val) (h5 : ∀ i, x5 i = O (i 0).val (i 1).val)
  (h6 : ∀ i, x6 i = G (i 1).val)

include h0

theorem msq_at (i : S4096x1.Idx) : val_main_v7 x0 i = msq X (i 0).val := by
  simp only [val_main_v7_apply, val_main_v6_apply, val_main_v5_apply, val_main_v4_apply, val_main_v3_apply, val_main_v2_apply, val_main_v1_apply,
    val_main_cst_0_apply, val_main_cst_1_apply, val_main_cst_2_apply, h0, Ideal.addf_def, Ideal.mulf_def, Ideal.hostDivf_def, Ideal.ofBits_def,
    bits_2048, Ideal.ofBits_zero_f32, bits_eps]
  rw [zero_add]; rfl

theorem rs_at (i : S4096x1.Idx) : val_main_v8 x0 i = rs X (i 0).val := by
  rw [val_main_v8_apply, msq_at h0, Ideal.hostUnary_rsqrt_def]; rfl

theorem slope_at (i : S4096x1.Idx) : val_main_v11 x0 i = ((-(1 / 2) : ℝ) : EReal) * Ideal.div (rs X (i 0).val) (msq X (i 0).val) := by
  simp only [val_main_v11_apply, val_main_v10_apply, val_main_v9_apply, val_main_cst_3_apply, rs_at h0, msq_at h0, Ideal.mulf_def, Ideal.hostDivf_def,
    Ideal.ofBits_def, bits_neg_half]

theorem hat_at (i : S4096x2048.Idx) : val_main_v13 x0 i = hat X (i 0).val (i 1).val := by
  simp only [val_main_v13_apply, val_main_v12_apply, h0, rs_at h0, Ideal.mulf_def]; rfl

include h1

theorem dscale_at (h3 : ∀ i, x3 i = g (i 1).val) (i : S1x2048.Idx) : val_main_v27 x0 x1 x3 i = dscale X D g (i 1).val := by
  simp only [val_main_v27_apply, val_main_v26_apply, val_main_v25_apply, val_main_v22_apply, val_main_v15_apply, val_main_v14_apply,
    val_main_cst_6_apply, hat_at h0, h1, h3, Ideal.extf_def, Ideal.addf_def, Ideal.mulf_def, Ideal.ofBits_def, Ideal.ofBits_zero_f32,
    row_zero, Nat.zero_mul, zero_add]
  rw [dscale]
  refine Finset.sum_congr rfl fun k _ => ?_
  rw [mul_right_comm, mul_comm (hat X k.val (i 1).val)]

theorem one_add_at (h4 : ∀ i, x4 i = s (i 1).val) (i : S1x2048.Idx) : val_main_v17 x4 i = ((1 : ℝ) : EReal) + s (i 1).val := by
  simp only [val_main_v17_apply, val_main_v16_apply, val_main_cst_4_apply, h4, Ideal.addf_def, Ideal.ofBits_def, bits_one]

omit h0 in
theorem dn_at (h4 : ∀ i, x4 i = s (i 1).val) (i : S4096x2048.Idx) :
    val_main_v29 x1 x4 i = D (i 0).val (i 1).val * (((1 : ℝ) : EReal) + s (i 1).val) := by
  simp only [val_main_v29_apply, val_main_v28_apply, val_main_v22_apply, val_main_v17_apply, val_main_v16_apply, val_main_cst_4_apply, h4, h1,
    Ideal.extf_def, Ideal.addf_def, Ideal.mulf_def, Ideal.ofBits_def, bits_one]

omit h0 in
theorem dshift_at (i : S1x2048.Idx) : val_main_v24 x1 i = dshift D (i 1).val := by
  simp only [val_main_v24_apply, val_main_v23_apply, val_main_v22_apply, val_main_cst_5_apply, h1, Ideal.extf_def, Ideal.addf_def, Ideal.ofBits_def,
    Ideal.ofBits_zero_f32, row_zero, Nat.zero_mul, zero_add]
  rfl

theorem dgain_at (h4 : ∀ i, x4 i = s (i 1).val) (i : S1x2048.Idx) : val_main_v32 x0 x1 x4 i = dgain X D s (i 1).val := by
  simp only [val_main_v32_apply, val_main_v31_apply, val_main_v30_apply, val_main_cst_7_apply, hat_at h0, dn_at h1 h4, Ideal.addf_def, Ideal.mulf_def,
    Ideal.ofBits_def, Ideal.ofBits_zero_f32, row_zero, Nat.zero_mul, zero_add]
  rw [dgain]
  refine Finset.sum_congr rfl fun k _ => ?_
  rw [mul_left_comm, mul_assoc]

include h2 h3 h4

theorem dx_at (i : S4096x2048.Idx) : val_main_v49 x0 x1 x2 x3 x4 i = dx X D R g s (i 0).val (i 1).val := by
  rw [← dx_eq]
  simp only [val_main_v49_apply, val_main_v48_apply, val_main_v47_apply, val_main_v46_apply, val_main_v45_apply, val_main_v44_apply, val_main_v43_apply,
    val_main_v42_apply, val_main_v41_apply, val_main_v40_apply, val_main_v39_apply, val_main_v38_apply, val_main_v37_apply, val_main_v36_apply,
    val_main_v35_apply, val_main_v34_apply, val_main_v33_apply, val_main_cst_8_apply, val_main_cst_9_apply, val_main_cst_10_apply, h0, h2, h3,
    dn_at h1 h4, rs_at h0, slope_at h0, Ideal.addf_def, Ideal.mulf_def, Ideal.hostDivf_def, Ideal.ofBits_def, Ideal.ofBits_zero_f32, bits_2048,
    Fin.sum_univ_one, zero_add, Fin.val_eq_zero, mul_one, add_zero]

include h6

theorem dout_at (i : S4096x2048.Idx) : val_main_v58 x0 x1 x2 x3 x4 x6 i = dout X D R g s G (i 0).val (i 1).val := by
  simp only [val_main_v58_apply, val_main_v54_apply, val_main_v53_apply, dx_at h0 h1 h2 h3 h4, h6, Ideal.truncf_def, Ideal.mulf_def]
  rfl

omit h6
include h5

theorem dgate_at (i : S1x2048.Idx) : val_main_v57 x0 x1 x2 x3 x4 x5 i = dgate X D R O g s (i 1).val := by
  simp only [val_main_v57_apply, val_main_v56_apply, val_main_v55_apply, val_main_v50_apply, val_main_cst_11_apply, dx_at h0 h1 h2 h3 h4, h5,
    Ideal.extf_def, Ideal.addf_def, Ideal.mulf_def, Ideal.ofBits_def, Ideal.ofBits_zero_f32, row_zero, Nat.zero_mul,
    zero_add]
  rfl

end Cert.Norm.Ref

end
-- ==== Proof.NormRow.lean ====
/-
  The kernel's values on one block of 512 rows of the modulated norm's gradient. `p` is the block's first row.
-/
module

public import proofs.«01_k».proof.Proof.NormSpec
public import proofs.«01_k».proof.Proof.Gen.Kernel12Ideal.Value
public import Idealize.ShloMosaic.Lib.Pipeline.ValueKit
public import Idealize.ShloMosaic.Lib.Pointwise

@[expose] public section

set_option maxRecDepth 16384

noncomputable section

namespace Cert.Norm.Ker

open Cert.Kernel12Ideal Cert.Kernel12Ideal.Gen Idealize.ShloMosaic Idealize.ShloMosaic.TcCoe Cert.Sgu

variable {X D R O : ℕ → ℕ → EReal} {g s G : ℕ → EReal} {p : ℕ}
variable {b0 b2 : Vec Ideal S512x2048 .f32} {b1 b5 : Vec Ideal S512x2048 .bf16} {b3 b4 b6 : Vec Ideal S1x2048 .f32}
variable (h0 : ∀ y, b0 y = X (p + (y 0).val) (y 1).val) (h1 : ∀ y, b1 y = D (p + (y 0).val) (y 1).val)
  (h2 : ∀ y, b2 y = R (p + (y 0).val) (y 1).val) (h3 : ∀ y, b3 y = g (y 1).val)
  (h4 : ∀ y, b4 y = s (y 1).val) (h5 : ∀ y, b5 y = O (p + (y 0).val) (y 1).val)
  (h6 : ∀ y, b6 y = G (y 1).val)

include h0 in
theorem rs_at (y : S512x1.Idx) : k0_pay4 (F := Ideal) b0 y = rs X (p + (y 0).val) := by
  unfold k0_pay4
  pointwise
  simp only [h0, bits_2048, bits_eps]
  rfl

include h0 in
theorem hat_at (y : S512x2048.Idx) : k0_pay5 (F := Ideal) b0 y = hat X (p + (y 0).val) (y 1).val := by
  unfold k0_pay5
  pointwise
  simp only [rs_at h0, h0]
  rfl

include h1 in
theorem d_at (y : S512x2048.Idx) : k0_pay3 (F := Ideal) b1 y = D (p + (y 0).val) (y 1).val := by
  unfold k0_pay3
  pointwise
  exact h1 y

include h4 in
theorem one_add_at (y : S1x2048.Idx) : k0_pay6 (F := Ideal) b4 y = ((1 : ℝ) : EReal) + s (y 1).val := by
  unfold k0_pay6
  pointwise
  rw [h4, EReal.coe_one]

include h0 h1 h2 h3 h4 in
theorem dx_at (y : S512x2048.Idx) : k0_pay7 (F := Ideal) b0 b1 b3 b4 b2 y = dx X D R g s (p + (y 0).val) (y 1).val := by
  unfold k0_pay7
  pointwise
  simp only [hat_at h0, rs_at h0, d_at h1, one_add_at h4, h2, h3, bits_2048]
  rfl

include h1 in
theorem dshift_at (y : S1x2048.Idx) : k0_pay8 (F := Ideal) b1 y = ∑ k : Fin 512, D (p + k.val) (y 1).val := by
  unfold k0_pay8
  pointwise
  simp only [d_at h1]
  rfl

include h0 h1 h3 in
theorem dscale_at (y : S1x2048.Idx) : k0_pay10 (F := Ideal) (k0_pay3 (F := Ideal) b1) (k0_pay5 (F := Ideal) b0) b3 y
    = ∑ k : Fin 512, D (p + k.val) (y 1).val * hat X (p + k.val) (y 1).val * g (y 1).val := by
  unfold k0_pay10
  pointwise
  simp only [d_at h1, hat_at h0, h3]
  rfl

include h0 h1 h4 in
theorem dgain_at (y : S1x2048.Idx) : k0_pay12 (F := Ideal) (k0_pay3 (F := Ideal) b1) (k0_pay5 (F := Ideal) b0) (k0_pay6 (F := Ideal) b4) y
    = ∑ k : Fin 512, D (p + k.val) (y 1).val * hat X (p + k.val) (y 1).val * (((1 : ℝ) : EReal) + s (y 1).val) := by
  unfold k0_pay12
  pointwise
  simp only [d_at h1, hat_at h0, one_add_at h4]
  rfl

include h0 h1 h2 h3 h4 h6 in
theorem dout_at (y : S512x2048.Idx) : k0_pay14 (F := Ideal) (k0_pay7 (F := Ideal) b0 b1 b3 b4 b2) b6 y
    = dout X D R g s G (p + (y 0).val) (y 1).val := by
  unfold k0_pay14
  pointwise
  simp only [dx_at h0 h1 h2 h3 h4, h6]
  rfl

include h0 h1 h2 h3 h4 h5 in
theorem dgate_at (y : S1x2048.Idx) : k0_pay1 (F := Ideal) (k0_pay15 (F := Ideal) (k0_pay7 (F := Ideal) b0 b1 b3 b4 b2) b5) y
    = ∑ k : Fin 512, dx X D R g s (p + k.val) (y 1).val * O (p + k.val) (y 1).val := by
  unfold k0_pay1 k0_pay15
  pointwise
  simp only [dx_at h0 h1 h2 h3 h4, h5]
  rfl

/-- What a later point adds to, and what it adds: the shift's gradient. -/
theorem step9 (a b : Vec Ideal S1x2048 .f32) (y : S1x2048.Idx) : k0_pay9 (F := Ideal) a b y = b y + a y := by
  unfold k0_pay9
  pointwise

/-- The same of the scale's gradient. -/
theorem step11 (u v : FVec Ideal S512x2048 .f32) (a b : Vec Ideal S1x2048 .f32) (y : S1x2048.Idx) :
    k0_pay11 (F := Ideal) u v a b y = b y + k0_pay10 (F := Ideal) u v a y := by
  unfold k0_pay11
  pointwise

/-- The same of the gain's gradient. -/
theorem step13 (u v : FVec Ideal S512x2048 .f32) (a : FVec Ideal S1x2048 .f32) (b : Vec Ideal S1x2048 .f32) (y : S1x2048.Idx) :
    k0_pay13 (F := Ideal) u v a b y = b y + k0_pay12 (F := Ideal) u v a y := by
  unfold k0_pay13
  pointwise

/-- The same of the gate's gradient. -/
theorem step2 (u : FVec Ideal S512x2048 .f32) (b : Vec Ideal S1x2048 .f32) (y : S1x2048.Idx) :
    k0_pay2 (F := Ideal) u b y = b y + k0_pay1 (F := Ideal) u y := by
  unfold k0_pay2
  pointwise

end Cert.Norm.Ker

end
-- ==== Proof.NormKer.lean ====
/-
  The gradient of the modulated norm, of its residual and of the gated add below, as the kernel leaves it: six arrays after the run.
  The two row gradients are written block by block, the others are accumulated over the eight grid points.
-/
module

public import proofs.«01_k».proof.Proof.NormRow

@[expose] public section

set_option maxRecDepth 16384

noncomputable section

namespace Cert.Norm.Ker

open Cert.Kernel12Ideal Cert.Kernel12Ideal.Gen Idealize.ShloMosaic Idealize.ShloMosaic.TcCoe Cert.Kernel12Ideal.Value Cert.Sgu

variable (m : (ℓ : Loc nD τ sig) → Buf (Elt Ideal) ℓ)
variable {X D R O : ℕ → ℕ → EReal} {g s G : ℕ → EReal}

/-- The block each window shows at a grid point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![t.val, 0]
    ∧ win0_11.index t = ![t.val, 0] :=
  (by decide +kernel : ∀ t : Fin grid0.N, _)

variable (c : Dev nD)
  (h0 : ∀ i : S4096x2048.Idx, m ((c : Thread nD τ).loc main_arg0) i = X (i 0).val (i 1).val)
  (h1 : ∀ i : S4096x2048.Idx, m ((c : Thread nD τ).loc main_arg1) i = D (i 0).val (i 1).val)
  (h2 : ∀ i : S4096x2048.Idx, m ((c : Thread nD τ).loc main_arg2) i = R (i 0).val (i 1).val)
  (h3 : ∀ i : S1x2048.Idx, m ((c : Thread nD τ).loc main_arg3) i = g (i 1).val)
  (h4 : ∀ i : S1x2048.Idx, m ((c : Thread nD τ).loc main_arg4) i = s (i 1).val)
  (h5 : ∀ i : S4096x2048.Idx, m ((c : Thread nD τ).loc main_arg5) i = O (i 0).val (i 1).val)
  (h6 : ∀ i : S1x2048.Idx, m ((c : Thread nD τ).loc main_arg6) i = G (i 1).val)

include h0 in
theorem blk0 (t : Fin cfg0.N) (y : S512x2048.Idx) : iblk m c 0 t y = X (512 * t.val + (y 0).val) (y 1).val := by
  refine (congrFun (V_main_arg0 m c) _).trans ((h0 _).trans ?_)
  obtain ⟨a0, a1, a2, a3, a4, a5, a6, a7, a11⟩ := idx t
  congr 1 <;> refine (win0_0.rect_emb_val t y _).trans ?_ <;> rw [a0]
  · show t.val * 512 + (y 0).val = _; omega
  · show 0 * 2048 + (y 1).val = _; omega

include h1 in
theorem blk1 (t : Fin cfg0.N) (y : S512x2048.Idx) : iblk m c 1 t y = D (512 * t.val + (y 0).val) (y 1).val := by
  refine (congrFun (V_main_arg1 m c) _).trans ((h1 _).trans ?_)
  obtain ⟨a0, a1, a2, a3, a4, a5, a6, a7, a11⟩ := idx t
  congr 1 <;> refine (win0_1.rect_emb_val t y _).trans ?_ <;> rw [a1]
  · show t.val * 512 + (y 0).val = _; omega
  · show 0 * 2048 + (y 1).val = _; omega

include h2 in
theorem blk2 (t : Fin cfg0.N) (y : S512x2048.Idx) : iblk m c 2 t y = R (512 * t.val + (y 0).val) (y 1).val := by
  refine (congrFun (V_main_arg2 m c) _).trans ((h2 _).trans ?_)
  obtain ⟨a0, a1, a2, a3, a4, a5, a6, a7, a11⟩ := idx t
  congr 1 <;> refine (win0_2.rect_emb_val t y _).trans ?_ <;> rw [a2]
  · show t.val * 512 + (y 0).val = _; omega
  · show 0 * 2048 + (y 1).val = _; omega

include h3 in
theorem blk3 (t : Fin cfg0.N) (y : S1x2048.Idx) : iblk m c 3 t y = g (y 1).val := by
  refine (congrFun (V_main_arg3 m c) _).trans ((h3 _).trans ?_)
  obtain ⟨a0, a1, a2, a3, a4, a5, a6, a7, a11⟩ := idx t
  congr 1
  exact win0_3.rect_emb_val_of_index_zero t 1 (by rw [a3]; rfl) y

include h4 in
theorem blk4 (t : Fin cfg0.N) (y : S1x2048.Idx) : iblk m c 4 t y = s (y 1).val := by
  refine (congrFun (V_main_arg4 m c) _).trans ((h4 _).trans ?_)
  obtain ⟨a0, a1, a2, a3, a4, a5, a6, a7, a11⟩ := idx t
  congr 1
  exact win0_4.rect_emb_val_of_index_zero t 1 (by rw [a4]; rfl) y

include h5 in
theorem blk5 (t : Fin cfg0.N) (y : S512x2048.Idx) : iblk m c 5 t y = O (512 * t.val + (y 0).val) (y 1).val := by
  refine (congrFun (V_main_arg5 m c) _).trans ((h5 _).trans ?_)
  obtain ⟨a0, a1, a2, a3, a4, a5, a6, a7, a11⟩ := idx t
  congr 1 <;> refine (win0_5.rect_emb_val t y _).trans ?_ <;> rw [a5]
  · show t.val * 512 + (y 0).val = _; omega
  · show 0 * 2048 + (y 1).val = _; omega

include h6 in
theorem blk6 (t : Fin cfg0.N) (y : S1x2048.Idx) : iblk m c 6 t y = G (y 1).val := by
  refine (congrFun (V_main_arg6 m c) _).trans ((h6 _).trans ?_)
  obtain ⟨a0, a1, a2, a3, a4, a5, a6, a7, a11⟩ := idx t
  congr 1
  exact win0_6.rect_emb_val_of_index_zero t 1 (by rw [a6]; rfl) y

set_option maxHeartbeats 4000000 in
/-- What one grid point leaves: its blocks of the row gradients, and the column sums it adds to what the point before left, or to nought. -/
theorem point (c : Dev nD) (t : Fin cfg0.N) (p : ℕ)
    {b0 : Vec Ideal S512x2048 .f32} (i0 : iblk m c 0 t = b0) (e0 : ∀ y, b0 y = X (p + (y 0).val) (y 1).val)
    {b1 : Vec Ideal S512x2048 .bf16} (i1 : iblk m c 1 t = b1) (e1 : ∀ y, b1 y = D (p + (y 0).val) (y 1).val)
    {b2 : Vec Ideal S512x2048 .f32} (i2 : iblk m c 2 t = b2) (e2 : ∀ y, b2 y = R (p + (y 0).val) (y 1).val)
    {b3 : Vec Ideal S1x2048 .f32} (i3 : iblk m c 3 t = b3) (e3 : ∀ y, b3 y = g (y 1).val)
    {b4 : Vec Ideal S1x2048 .f32} (i4 : iblk m c 4 t = b4) (e4 : ∀ y, b4 y = s (y 1).val)
    {b5 : Vec Ideal S512x2048 .bf16} (i5 : iblk m c 5 t = b5) (e5 : ∀ y, b5 y = O (p + (y 0).val) (y 1).val)
    {b6 : Vec Ideal S1x2048 .f32} (i6 : iblk m c 6 t = b6) (e6 : ∀ y, b6 y = G (y 1).val)
    (p_dshift : Vec Ideal S1x2048 .f32) (q_dshift : p_dshift = if t.val % 8 = 0 then (fun _ => (0 : EReal))
      else (outsAt0 m c (t.val - 1) (Nat.lt_of_le_of_lt (Nat.sub_le _ _) t.isLt)).2.1)
    (p_dscale : Vec Ideal S1x2048 .f32) (q_dscale : p_dscale = if t.val % 8 = 0 then (fun _ => (0 : EReal))
      else (outsAt0 m c (t.val - 1) (Nat.lt_of_le_of_lt (Nat.sub_le _ _) t.isLt)).2.2.1)
    (p_dgain : Vec Ideal S1x2048 .f32) (q_dgain : p_dgain = if t.val % 8 = 0 then (fun _ => (0 : EReal))
      else (outsAt0 m c (t.val - 1) (Nat.lt_of_le_of_lt (Nat.sub_le _ _) t.isLt)).2.2.2.1)
    (p_dgate : Vec Ideal S1x2048 .f32) (q_dgate : p_dgate = if t.val % 8 = 0 then (fun _ => (0 : EReal))
      else (outsAt0 m c (t.val - 1) (Nat.lt_of_le_of_lt (Nat.sub_le _ _) t.isLt)).2.2.2.2.2) :
    (∀ y : S512x2048.Idx, (outsAt0 m c t.val t.isLt).1 y = dx X D R g s (p + (y 0).val) (y 1).val)
    ∧ (∀ y : S1x2048.Idx, (outsAt0 m c t.val t.isLt).2.1 y = p_dshift y + (∑ k : Fin 512, D (p + k.val) (y 1).val))
    ∧ (∀ y : S1x2048.Idx, (outsAt0 m c t.val t.isLt).2.2.1 y = p_dscale y + (∑ k : Fin 512, D (p + k.val) (y 1).val * hat X (p + k.val) (y 1).val * g (y 1).val))
    ∧ (∀ y : S1x2048.Idx, (outsAt0 m c t.val t.isLt).2.2.2.1 y = p_dgain y + (∑ k : Fin 512, D (p + k.val) (y 1).val * hat X (p + k.val) (y 1).val * (((1 : ℝ) : EReal) + s (y 1).val)))
    ∧ (∀ y : S512x2048.Idx, (outsAt0 m c t.val t.isLt).2.2.2.2.1 y = dout X D R g s G (p + (y 0).val) (y 1).val)
    ∧ (∀ y : S1x2048.Idx, (outsAt0 m c t.val t.isLt).2.2.2.2.2 y = p_dgate y + (∑ k : Fin 512, dx X D R g s (p + k.val) (y 1).val * O (p + k.val) (y 1).val)) := by
  have hN : t.val < 8 := lt_of_lt_of_eq t.isLt N_0
  obtain ⟨ht, hu⟩ | ⟨ht, hu⟩ : (t.val % 8 = 0 ∧ ¬1 ≤ t.val) ∨ (¬t.val % 8 = 0 ∧ 1 ≤ t.val) := by omega
  · rw [outsAt0_A m c t ht hu ht hu ht hu ht hu]
    rw [if_pos ht] at q_dshift q_dscale q_dgain q_dgate
    frame_out
    subst q_dshift q_dscale q_dgain q_dgate
    rw [i0, i1, i2, i3, i4, i5, i6]
    exact ⟨fun y => Cert.Norm.Ker.dx_at e0 e1 e2 e3 e4 y, fun y => (Cert.Norm.Ker.dshift_at e1 y).trans (zero_add _).symm, fun y => (Cert.Norm.Ker.dscale_at e0 e1 e3 y).trans (zero_add _).symm, fun y => (Cert.Norm.Ker.dgain_at e0 e1 e4 y).trans (zero_add _).symm, fun y => Cert.Norm.Ker.dout_at e0 e1 e2 e3 e4 e6 y, fun y => (Cert.Norm.Ker.dgate_at e0 e1 e2 e3 e4 e5 y).trans (zero_add _).symm⟩
  · rw [outsAt0_B m c t ht hu ht hu ht hu ht hu]
    rw [if_neg ht] at q_dshift q_dscale q_dgain q_dgate
    frame_out
    rw [← q_dshift, ← q_dscale, ← q_dgain, ← q_dgate]
    rw [i0, i1, i2, i3, i4, i5, i6]
    exact ⟨fun y => Cert.Norm.Ker.dx_at e0 e1 e2 e3 e4 y, fun y => (Cert.Norm.Ker.step9 _ _ y).trans (congrArg (_ + ·) (Cert.Norm.Ker.dshift_at e1 y)), fun y => (Cert.Norm.Ker.step11 _ _ _ _ y).trans (congrArg (_ + ·) (Cert.Norm.Ker.dscale_at e0 e1 e3 y)), fun y => (Cert.Norm.Ker.step13 _ _ _ _ y).trans (congrArg (_ + ·) (Cert.Norm.Ker.dgain_at e0 e1 e4 y)), fun y => Cert.Norm.Ker.dout_at e0 e1 e2 e3 e4 e6 y, fun y => (Cert.Norm.Ker.step2 _ _ y).trans (congrArg (_ + ·) (Cert.Norm.Ker.dgate_at e0 e1 e2 e3 e4 e5 y))⟩

/-- A sum over the grid, 512 rows to a point, is the sum over the rows. -/
theorem grid_rows (f : ℕ → EReal) : ∑ t : Fin cfg0.N, ∑ k : Fin 512, f (512 * t.val + k.val) = ∑ r : Fin 4096, f r.val := by
  rw [← sum_rows f]
  show ∑ t : Fin grid0.N, ∑ k : Fin 512, f (512 * t.val + k.val) = _
  rw [← Equiv.sum_comp (finCongr N_0.symm)]
  exact Finset.sum_congr rfl fun t _ => rfl

include h0 h1 h2 h3 h4 h5 h6

/-- The trunk's gradient, block by block. -/
theorem final7 : (dats m 0 c).arrAt 7 cfg0.N = fun i : S4096x2048.Idx => dx X D R g s (i 0).val (i 1).val := by
  refine (dats m 0 c).arrAt_eq_of_covers 7 _ (by decide +kernel) fun t hf y => ?_
  obtain ⟨a0, a1, a2, a3, a4, a5, a6, a7, a11⟩ := idx t
  rw [after0_7]
  refine ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).1 _).trans ?_
  congr 1
  · refine Eq.trans ?_ (win0_7.rect_emb_val t y 0).symm
    rw [a7]
    show 512 * t.val + (y 0).val = t.val * 512 + (y 0).val
    omega
  · refine Eq.trans ?_ (win0_7.rect_emb_val t y 1).symm
    rw [a7]
    show (y 1).val = 0 * 2048 + (y 1).val
    omega

/-- The gradient of the modulation's shift, accumulated over the grid. -/
theorem final8 : (dats m 0 c).arrAt 8 cfg0.N = fun i : S1x2048.Idx => dshift D (i 1).val := by
  refine (dats m 0 c).arrAt_eq_of_after_last 8 t0_7 (by decide +kernel) _ fun j => ?_
  blk_simp
  rw [after0_8, Pipeline.eq_sum_fin_of_reset_step_apply_last (fun n h => (outsAt0 m c n h).2.1) 8 (fun _ => 0)
    (fun t y => (∑ k : Fin 512, D (512 * t.val + k.val) (y 1).val))
    (fun t h y => ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.1 y).trans (by rw [if_pos h]))
    (fun t h y => ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.1 y).trans (by rw [if_neg h]))
    (le_of_eq N_0) t0_7 rfl j, zero_add]
  exact grid_rows fun r => D r (j 1).val

/-- The gradient of the modulation's scale, accumulated over the grid. -/
theorem final9 : (dats m 0 c).arrAt 9 cfg0.N = fun i : S1x2048.Idx => dscale X D g (i 1).val := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0)
    (fun t y => (∑ k : Fin 512, D (512 * t.val + k.val) (y 1).val * hat X (512 * t.val + k.val) (y 1).val * g (y 1).val))
    (fun t h y => ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.2.1 y).trans (by rw [if_pos h]))
    (fun t h y => ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.2.1 y).trans (by rw [if_neg h]))
    (le_of_eq N_0) t0_7 rfl j, zero_add]
  exact grid_rows fun r => D r (j 1).val * hat X r (j 1).val * g (j 1).val

/-- The gradient of the norm's gain, accumulated over the grid. -/
theorem final10 : (dats m 0 c).arrAt 10 cfg0.N = fun i : S1x2048.Idx => dgain X D s (i 1).val := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0)
    (fun t y => (∑ k : Fin 512, D (512 * t.val + k.val) (y 1).val * hat X (512 * t.val + k.val) (y 1).val * (((1 : ℝ) : EReal) + s (y 1).val)))
    (fun t h y => ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.2.2.1 y).trans (by rw [if_pos h]))
    (fun t h y => ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.2.2.1 y).trans (by rw [if_neg h]))
    (le_of_eq N_0) t0_7 rfl j, zero_add]
  exact grid_rows fun r => D r (j 1).val * hat X r (j 1).val * (((1 : ℝ) : EReal) + s (j 1).val)

/-- The gradient of the product below the gate, block by block. -/
theorem final11 : (dats m 0 c).arrAt 11 cfg0.N = fun i : S4096x2048.Idx => dout X D R g s G (i 0).val (i 1).val := by
  refine (dats m 0 c).arrAt_eq_of_covers 11 _ (by decide +kernel) fun t hf y => ?_
  obtain ⟨a0, a1, a2, a3, a4, a5, a6, a7, a11⟩ := idx t
  rw [after0_11]
  refine ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.2.2.2.1 _).trans ?_
  congr 1
  · refine Eq.trans ?_ (win0_11.rect_emb_val t y 0).symm
    rw [a11]
    show 512 * t.val + (y 0).val = t.val * 512 + (y 0).val
    omega
  · refine Eq.trans ?_ (win0_11.rect_emb_val t y 1).symm
    rw [a11]
    show (y 1).val = 0 * 2048 + (y 1).val
    omega

/-- The gradient of the gate, accumulated over the grid. -/
theorem final12 : (dats m 0 c).arrAt 12 cfg0.N = fun i : S1x2048.Idx => dgate X D R O g s (i 1).val := by
  refine (dats m 0 c).arrAt_eq_of_after_last 12 t0_7 (by decide +kernel) _ fun j => ?_
  blk_simp
  rw [after0_12, Pipeline.eq_sum_fin_of_reset_step_apply_last (fun n h => (outsAt0 m c n h).2.2.2.2.2) 8 (fun _ => 0)
    (fun t y => (∑ k : Fin 512, dx X D R g s (512 * t.val + k.val) (y 1).val * O (512 * t.val + k.val) (y 1).val))
    (fun t h y => ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.2.2.2.2 y).trans (by rw [if_pos h]))
    (fun t h y => ((point m c t (512 * t.val) rfl (blk0 m c h0 t) rfl (blk1 m c h1 t) rfl (blk2 m c h2 t) rfl (blk3 m c h3 t) rfl (blk4 m c h4 t) rfl (blk5 m c h5 t) rfl (blk6 m c h6 t)
        _ rfl _ rfl _ rfl _ rfl).2.2.2.2.2 y).trans (by rw [if_neg h]))
    (le_of_eq N_0) t0_7 rfl j, zero_add]
  exact grid_rows fun r => dx X D R g s r (j 1).val * O r (j 1).val

end Cert.Norm.Ker

end
-- ==== Proof.NormFirst.lean ====
/-
  The gradient of the modulated norm and of its residual, as the kernel leaves it: four arrays after the run.
  The trunk's gradient is written block by block, the others are accumulated over the eight grid points.
-/
module

public import proofs.«01_k».proof.Proof.NormKer
public import proofs.«01_k».proof.Proof.Gen.Kernel13Ideal.Value

@[expose] public section

set_option maxRecDepth 16384

noncomputable section

namespace Cert.Norm.First

open Cert.Kernel13Ideal Cert.Kernel13Ideal.Gen Idealize.ShloMosaic Idealize.ShloMosaic.TcCoe Cert.Kernel13Ideal.Value Cert.Sgu

variable (m : (ℓ : Loc nD τ sig) → Buf (Elt Ideal) ℓ)
variable {X D R : ℕ → ℕ → EReal} {g s : ℕ → EReal}

/-- The block each window shows at a grid point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] :=
  (by decide +kernel : ∀ t : Fin grid0.N, _)

variable (c : Dev nD)
  (h0 : ∀ i : S4096x2048.Idx, m ((c : Thread nD τ).loc main_arg0) i = X (i 0).val (i 1).val)
  (h1 : ∀ i : S4096x2048.Idx, m ((c : Thread nD τ).loc main_arg1) i = D (i 0).val (i 1).val)
  (h2 : ∀ i : S4096x2048.Idx, m ((c : Thread nD τ).loc main_arg2) i = R (i 0).val (i 1).val)
  (h3 : ∀ i : S1x2048.Idx, m ((c : Thread nD τ).loc main_arg3) i = g (i 1).val)
  (h4 : ∀ i : S1x2048.Idx, m ((c : Thread nD τ).loc main_arg4) i = s (i 1).val)

include h0 in
theorem blk0 (t : Fin cfg0.N) (y : S512x2048.Idx) : iblk m c 0 t y = X (512 * t.val + (y 0).val) (y 1).val := by
  refine (congrFun (V_main_arg0 m c) _).trans ((h0 _).trans ?_)
  obtain ⟨a0, a1, a2, a3, a4, a5⟩ := idx t
  congr 1 <;> refine (win0_0.rect_emb_val t y _).trans ?_ <;> rw [a0]
  · show t.val * 512 + (y 0).val = _; omega
  · show 0 * 2048 + (y 1).val = _; omega

include h1 in
theorem blk1 (t : Fin cfg0.N) (y : S512x2048.Idx) : iblk m c 1 t y = D (512 * t.val + (y 0).val) (y 1).val := by
  refine (congrFun (V_main_arg1 m c) _).trans ((h1 _).trans ?_)
  obtain ⟨a0, a1, a2, a3, a4, a5⟩ := idx t
  congr 1 <;> refine (win0_1.rect_emb_val t y _).trans ?_ <;> rw [a1]
  · show t.val * 512 + (y 0).val = _; omega
  · show 0 * 2048 + (y 1).val = _; omega

include h2 in
theorem blk2 (t : Fin cfg0.N) (y : S512x2048.Idx) : iblk m c 2 t y = R (512 * t.val + (y 0).val) (y 1).val := by
  refine (congrFun (V_main_arg2 m c) _).trans ((h2 _).trans ?_)
  obtain ⟨a0, a1, a2, a3, a4, a5⟩ := idx t
  congr 1 <;> refine (win0_2.rect_emb_val t y _).trans ?_ <;> rw [a2]
  · show t.val * 512 + (y 0).val = _; omega
  · show 0 * 2048 + (y 1).val = _; omega

include h3 in
theorem blk3 (t : Fin cfg0.N) (y : S1x2048.Idx) : iblk m c 3 t y = g (y 1).val := by
  refine (congrFun (V_main_arg3 m c) _).trans ((h3 _).trans ?_)
  obtain ⟨a0, a1, a2, a3, a4, a5⟩ := idx t
  congr 1
  exact win0_3.rect_emb_val_of_index_zero t 1 (by rw [a3]; rfl) y

include h4 in
theorem blk4 (t : Fin cfg0.N) (y : S1x2048.Idx) : iblk m c 4 t y = s (y 1).val := by
  refine (congrFun (V_main_arg4 m c) _).trans ((h4 _).trans ?_)
  obtain ⟨a0, a1, a2, a3, a4, a5⟩ := idx t
  congr 1
  exact win0_4.rect_emb_val_of_index_zero t 1 (by rw [a4]; rfl) y

set_option maxHeartbeats 4000000 in
/-- What one grid point leaves: its blocks of the row gradients, and the column sums it adds to what the point before left, or to nought. -/
theorem point (c : Dev nD) (t : Fin cfg0.N) (p : ℕ)
    {b0 : Vec Ideal S512x2048 .f32} (i0 : iblk m c 0 t = b0) (e0 : ∀ y, b0 y = X (p + (y 0).val) (y 1).val)
    {b1 : Vec Ideal S512x2048 .bf16} (i1 : iblk m c 1 t = b1) (e1 : ∀ y, b1 y = D (p + (y 0).val) (y 1).val)
    {b2 : Vec Ideal S512x2048 .f32} (i2 : iblk m c 2 t = b2) (e2 : ∀ y, b2 y = R (p + (y 0).val) (y 1).val)
    {b3 : Vec Ideal S1x2048 .f32} (i3 : iblk m c 3 t = b3) (e3 : ∀ y, b3 y = g (y 1).val)
    {b4 : Vec Ideal S1x2048 .f32} (i4 : iblk m c 4 t = b4) (e4 : ∀ y, b4 y = s (y 1).val)
    (p_dshift : Vec Ideal S1x2048 .f32) (q_dshift : p_dshift = if t.val % 8 = 0 then (fun _ => (0 : EReal))
      else (outsAt0 m c (t.val - 1) (Nat.lt_of_le_of_lt (Nat.sub_le _ _) t.isLt)).2.1)
    (p_dscale : Vec Ideal S1x2048 .f32) (q_dscale : p_dscale = if t.val % 8 = 0 then (fun _ => (0 : EReal))
      else (outsAt0 m c (t.val - 1) (Nat.lt_of_le_of_lt (Nat.sub_le _ _) t.isLt)).2.2.1)
    (p_dgain : Vec Ideal S1x2048 .f32) (q_dgain : p_dgain = if t.val % 8 = 0 then (fun _ => (0 : EReal))
      else (outsAt0 m c (t.val - 1) (Nat.lt_of_le_of_lt (Nat.sub_le _ _) t.isLt)).2.2.2) :
    (∀ y : S512x2048.Idx, (outsAt0 m c t.val t.isLt).1 y = dx X D R g s (p + (y 0).val) (y 1).val)
    ∧ (∀ y : S1x2048.Idx, (outsAt0 m c t.val t.isLt).2.1 y = p_dshift y + (∑ k : Fin 512, D (p + k.val) (y 1).val))
    ∧ (∀ y : S1x2048.Idx, (outsAt0 m c t.val t.isLt).2.2.1 y = p_dscale y + (∑ k : Fin 512, D (p + k.val) (y 1).val * hat X (p + k.val) (y 1).val * g (y 1).val))
    ∧ (∀ y : S1x2048.Idx, (outsAt0 m c t.val t.isLt).2.2.2 y = p_dgain y + (∑ k : Fin 512, D (p + k.val) (y 1).val * hat X (p + k.val) (y 1).val * (((1 : ℝ) : EReal) + s (y 1).val))) := by
  have hN : t.val < 8 := lt_of_lt_of_eq t.isLt N_0
  obtain ⟨ht, hu⟩ | ⟨ht, hu⟩ : (t.val % 8 = 0 ∧ ¬1 ≤ t.val) ∨ (¬t.val % 8 = 0 ∧ 1 ≤ t.val) := by omega
  · rw [outsAt0_A m c t ht hu ht hu ht hu]
    rw [if_pos ht] at q_dshift q_dscale q_dgain
    frame_out
    subst q_dshift q_dscale q_dgain
    rw [i0, i1, i2, i3, i4]
    exact ⟨fun y => Cert.Norm.Ker.dx_at e0 e1 e2 e3 e4 y, fun y => (Cert.Norm.Ker.dshift_at e1 y).trans (zero_add _).symm, fun y => (Cert.Norm.Ker.dscale_at e0 e1 e3 y).trans (zero_add _).symm, fun y => (Cert.Norm.Ker.dgain_at e0 e1 e4 y).trans (zero_add _).symm⟩
  · rw [outsAt0_B m c t ht hu ht hu ht hu]
    rw [if_neg ht] at q_dshift q_dscale q_dgain
    frame_out
    rw [← q_dshift, ← q_dscale, ← q_dgain]
    rw [i0, i1, i2, i3, i4]
    exact ⟨fun y => Cert.Norm.Ker.dx_at e0 e1 e2 e3 e4 y, fun y => (Cert.Norm.Ker.step9 _ _ y).trans (congrArg (_ + ·) (Cert.Norm.Ker.dshift_at e1 y)), fun y => (Cert.Norm.Ker.step11 _ _ _ _ y).trans (congrArg (_ + ·) (Cert.Norm.Ker.dscale_at e0 e1 e3 y)), fun y => (Cert.Norm.Ker.step13 _ _ _ _ y).trans (congrArg (_ + ·) (Cert.Norm.Ker.dgain_at e0 e1 e4 y))⟩

/-- A sum over the grid, 512 rows to a point, is the sum over the rows. -/
theorem grid_rows (f : ℕ → EReal) : ∑ t : Fin cfg0.N, ∑ k : Fin 512, f (512 * t.val + k.val) = ∑ r : Fin 4096, f r.val := by
  rw [← sum_rows f]
  show ∑ t : Fin grid0.N, ∑ k : Fin 512, f (512 * t.val + k.val) = _
  rw [← Equiv.sum_comp (finCongr N_0.symm)]
  exact Finset.sum_congr rfl fun t _ => rfl

include h0 h1 h2 h3 h4

/-- The trunk's gradient, block by block. -/
theorem final5 : (dats m 0 c).arrAt 5 cfg0.N = fun i : S4096x2048.Idx => dx X D R g s (i 0).val (i 1).val := by
  refine (dats m 0 c).arrAt_eq_of_covers 5 _ (by decide +kernel) fun t hf y => ?_
  obtain ⟨a0, a1, a2, a3, a4, a5⟩ := idx t
  rw [after0_5]
  refine ((point m c t (512 * t.val) rfl (blk0 m c h0 t) rfl (blk1 m c h1 t) rfl (blk2 m c h2 t) rfl (blk3 m c h3 t) rfl (blk4 m c h4 t)
        _ rfl _ rfl _ rfl).1 _).trans ?_
  congr 1
  · refine Eq.trans ?_ (win0_5.rect_emb_val t y 0).symm
    rw [a5]
    show 512 * t.val + (y 0).val = t.val * 512 + (y 0).val
    omega
  · refine Eq.trans ?_ (win0_5.rect_emb_val t y 1).symm
    rw [a5]
    show (y 1).val = 0 * 2048 + (y 1).val
    omega

/-- The gradient of the modulation's shift, accumulated over the grid. -/
theorem final6 : (dats m 0 c).arrAt 6 cfg0.N = fun i : S1x2048.Idx => dshift D (i 1).val := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t y => (∑ k : Fin 512, D (512 * t.val + k.val) (y 1).val))
    (fun t h y => ((point m c t (512 * t.val) rfl (blk0 m c h0 t) rfl (blk1 m c h1 t) rfl (blk2 m c h2 t) rfl (blk3 m c h3 t) rfl (blk4 m c h4 t)
        _ rfl _ rfl _ rfl).2.1 y).trans (by rw [if_pos h]))
    (fun t h y => ((point m c t (512 * t.val) rfl (blk0 m c h0 t) rfl (blk1 m c h1 t) rfl (blk2 m c h2 t) rfl (blk3 m c h3 t) rfl (blk4 m c h4 t)
        _ rfl _ rfl _ rfl).2.1 y).trans (by rw [if_neg h]))
    (le_of_eq N_0) t0_7 rfl j, zero_add]
  exact grid_rows fun r => D r (j 1).val

/-- The gradient of the modulation's scale, accumulated over the grid. -/
theorem final7 : (dats m 0 c).arrAt 7 cfg0.N = fun i : S1x2048.Idx => dscale X D g (i 1).val := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t y => (∑ k : Fin 512, D (512 * t.val + k.val) (y 1).val * hat X (512 * t.val + k.val) (y 1).val * g (y 1).val))
    (fun t h y => ((point m c t (512 * t.val) rfl (blk0 m c h0 t) rfl (blk1 m c h1 t) rfl (blk2 m c h2 t) rfl (blk3 m c h3 t) rfl (blk4 m c h4 t)
        _ rfl _ rfl _ rfl).2.2.1 y).trans (by rw [if_pos h]))
    (fun t h y => ((point m c t (512 * t.val) rfl (blk0 m c h0 t) rfl (blk1 m c h1 t) rfl (blk2 m c h2 t) rfl (blk3 m c h3 t) rfl (blk4 m c h4 t)
        _ rfl _ rfl _ rfl).2.2.1 y).trans (by rw [if_neg h]))
    (le_of_eq N_0) t0_7 rfl j, zero_add]
  exact grid_rows fun r => D r (j 1).val * hat X r (j 1).val * g (j 1).val

/-- The gradient of the norm's gain, accumulated over the grid. -/
theorem final8 : (dats m 0 c).arrAt 8 cfg0.N = fun i : S1x2048.Idx => dgain X D s (i 1).val := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t y => (∑ k : Fin 512, D (512 * t.val + k.val) (y 1).val * hat X (512 * t.val + k.val) (y 1).val * (((1 : ℝ) : EReal) + s (y 1).val)))
    (fun t h y => ((point m c t (512 * t.val) rfl (blk0 m c h0 t) rfl (blk1 m c h1 t) rfl (blk2 m c h2 t) rfl (blk3 m c h3 t) rfl (blk4 m c h4 t)
        _ rfl _ rfl _ rfl).2.2.2 y).trans (by rw [if_pos h]))
    (fun t h y => ((point m c t (512 * t.val) rfl (blk0 m c h0 t) rfl (blk1 m c h1 t) rfl (blk2 m c h2 t) rfl (blk3 m c h3 t) rfl (blk4 m c h4 t)
        _ rfl _ rfl _ rfl).2.2.2 y).trans (by rw [if_neg h]))
    (le_of_eq N_0) t0_7 rfl j, zero_add]
  exact grid_rows fun r => D r (j 1).val * hat X r (j 1).val * (((1 : ℝ) : EReal) + s (j 1).val)

end Cert.Norm.First

end
-- ==== Proof.NormAlgebra.lean ====
/-
  The gradient of the modulated norm: kernel and reference compute the same arrays.
-/
module

public import proofs.«01_k».proof.Proof.Entries
public import proofs.«01_k».proof.Proof.NormRef
public import proofs.«01_k».proof.Proof.NormKer
public import proofs.«01_k».proof.Proof.NormFirst
public import proofs.«01_k».proof.Proof.Gen.Reference12Ideal.Run
public import proofs.«01_k».proof.Proof.Gen.Reference13Ideal.Read
public import proofs.«01_k».proof.Proof.Gen.Reference13Ideal.Run
public import Idealize.ShloMosaic.Lib.Claim
public import proofs.«01_k».proof.Defs

@[expose] public section

set_option maxRecDepth 16384

noncomputable section

namespace Cert.Norm

open Idealize.ShloMosaic Cert.Sgu

/-- The gradient of the modulated norm and of the gated add below. -/
theorem algebraic12 : Cert.algebraic_Kernel12Ideal_Reference12Ideal := by
  intro m g0 m' g' _ hagree
  let X := fun (c : Dev Cert.Kernel12Ideal.nD) (a b : ℕ) => spread (at2 4096 2048) (m ((c.tc : Thread Cert.Kernel12Ideal.nD Cert.Kernel12Ideal.τ).loc Cert.Kernel12Ideal.main_arg0)) (a, b)
  let D := fun (c : Dev Cert.Kernel12Ideal.nD) (a b : ℕ) => spread (at2 4096 2048) (m ((c.tc : Thread Cert.Kernel12Ideal.nD Cert.Kernel12Ideal.τ).loc Cert.Kernel12Ideal.main_arg1)) (a, b)
  let R := fun (c : Dev Cert.Kernel12Ideal.nD) (a b : ℕ) => spread (at2 4096 2048) (m ((c.tc : Thread Cert.Kernel12Ideal.nD Cert.Kernel12Ideal.τ).loc Cert.Kernel12Ideal.main_arg2)) (a, b)
  let g := fun (c : Dev Cert.Kernel12Ideal.nD) => spread (at1 2048) (m ((c.tc : Thread Cert.Kernel12Ideal.nD Cert.Kernel12Ideal.τ).loc Cert.Kernel12Ideal.main_arg3))
  let s := fun (c : Dev Cert.Kernel12Ideal.nD) => spread (at1 2048) (m ((c.tc : Thread Cert.Kernel12Ideal.nD Cert.Kernel12Ideal.τ).loc Cert.Kernel12Ideal.main_arg4))
  let O := fun (c : Dev Cert.Kernel12Ideal.nD) (a b : ℕ) => spread (at2 4096 2048) (m ((c.tc : Thread Cert.Kernel12Ideal.nD Cert.Kernel12Ideal.τ).loc Cert.Kernel12Ideal.main_arg5)) (a, b)
  let G := fun (c : Dev Cert.Kernel12Ideal.nD) => spread (at1 2048) (m ((c.tc : Thread Cert.Kernel12Ideal.nD Cert.Kernel12Ideal.τ).loc Cert.Kernel12Ideal.main_arg6))
  have h0 := fun (c : Dev Cert.Kernel12Ideal.nD) i => spread_apply (at2_injective 4096 2048) (m ((c.tc : Thread Cert.Kernel12Ideal.nD Cert.Kernel12Ideal.τ).loc Cert.Kernel12Ideal.main_arg0)) i
  have h1 := fun (c : Dev Cert.Kernel12Ideal.nD) i => spread_apply (at2_injective 4096 2048) (m ((c.tc : Thread Cert.Kernel12Ideal.nD Cert.Kernel12Ideal.τ).loc Cert.Kernel12Ideal.main_arg1)) i
  have h2 := fun (c : Dev Cert.Kernel12Ideal.nD) i => spread_apply (at2_injective 4096 2048) (m ((c.tc : Thread Cert.Kernel12Ideal.nD Cert.Kernel12Ideal.τ).loc Cert.Kernel12Ideal.main_arg2)) i
  have h3 := fun (c : Dev Cert.Kernel12Ideal.nD) i => spread_apply (at1_injective 2048) (m ((c.tc : Thread Cert.Kernel12Ideal.nD Cert.Kernel12Ideal.τ).loc Cert.Kernel12Ideal.main_arg3)) i
  have h4 := fun (c : Dev Cert.Kernel12Ideal.nD) i => spread_apply (at1_injective 2048) (m ((c.tc : Thread Cert.Kernel12Ideal.nD Cert.Kernel12Ideal.τ).loc Cert.Kernel12Ideal.main_arg4)) i
  have h5 := fun (c : Dev Cert.Kernel12Ideal.nD) i => spread_apply (at2_injective 4096 2048) (m ((c.tc : Thread Cert.Kernel12Ideal.nD Cert.Kernel12Ideal.τ).loc Cert.Kernel12Ideal.main_arg5)) i
  have h6 := fun (c : Dev Cert.Kernel12Ideal.nD) i => spread_apply (at1_injective 2048) (m ((c.tc : Thread Cert.Kernel12Ideal.nD Cert.Kernel12Ideal.τ).loc Cert.Kernel12Ideal.main_arg6)) i
  refine ⟨fun c => fun i : Cert.Kernel12Ideal.S4096x2048.Idx => dx (X c) (D c) (R c) (g c) (s c) (i 0).val (i 1).val,
    fun c => fun i : Cert.Kernel12Ideal.S1x2048.Idx => dshift (D c) (i 1).val,
    fun c => fun i : Cert.Kernel12Ideal.S1x2048.Idx => dscale (X c) (D c) (g c) (i 1).val,
    fun c => fun i : Cert.Kernel12Ideal.S1x2048.Idx => dgain (X c) (D c) (s c) (i 1).val,
    fun c => fun i : Cert.Kernel12Ideal.S4096x2048.Idx => dout (X c) (D c) (R c) (g c) (s c) (G c) (i 0).val (i 1).val,
    fun c => fun i : Cert.Kernel12Ideal.S1x2048.Idx => dgate (X c) (D c) (R c) (O c) (g c) (s c) (i 1).val, ?_, ?_⟩
  · refine Idealize.ShloMosaic.θ_run_mono (Cert.Kernel12Ideal.Value.run_blocks m g0) fun r h c => ?_
    obtain ⟨r0, r1, r2, r3, r4, r5, ra⟩ := h c
    exact ⟨r0.trans (Ker.final7 m c (X := X c) (D := D c) (R := R c) (O := O c) (g := g c) (s := s c) (G := G c) (h0 c) (h1 c) (h2 c) (h3 c) (h4 c) (h5 c) (h6 c)),
      r1.trans (Ker.final8 m c (X := X c) (D := D c) (R := R c) (O := O c) (g := g c) (s := s c) (G := G c) (h0 c) (h1 c) (h2 c) (h3 c) (h4 c) (h5 c) (h6 c)),
      r2.trans (Ker.final9 m c (X := X c) (D := D c) (R := R c) (O := O c) (g := g c) (s := s c) (G := G c) (h0 c) (h1 c) (h2 c) (h3 c) (h4 c) (h5 c) (h6 c)),
      r3.trans (Ker.final10 m c (X := X c) (D := D c) (R := R c) (O := O c) (g := g c) (s := s c) (G := G c) (h0 c) (h1 c) (h2 c) (h3 c) (h4 c) (h5 c) (h6 c)),
      r4.trans (Ker.final11 m c (X := X c) (D := D c) (R := R c) (O := O c) (g := g c) (s := s c) (G := G c) (h0 c) (h1 c) (h2 c) (h3 c) (h4 c) (h5 c) (h6 c)),
      r5.trans (Ker.final12 m c (X := X c) (D := D c) (R := R c) (O := O c) (g := g c) (s := s c) (G := G c) (h0 c) (h1 c) (h2 c) (h3 c) (h4 c) (h5 c) (h6 c)), ra⟩
  · refine Idealize.ShloMosaic.θ_run_mono (Cert.Reference12Ideal.Value.run m' g') fun r h c => ?_
    obtain ⟨r0, r1, r2, r3, r4, r5, ra⟩ := h c
    obtain ⟨a0, a1, a2, a3, a4, a5, a6⟩ := hagree c
    have k0 := fun i => (congrFun a0 i).trans (h0 c i)
    have k1 := fun i => (congrFun a1 i).trans (h1 c i)
    have k2 := fun i => (congrFun a2 i).trans (h2 c i)
    have k3 := fun i => (congrFun a3 i).trans (h3 c i)
    have k4 := fun i => (congrFun a4 i).trans (h4 c i)
    have k5 := fun i => (congrFun a5 i).trans (h5 c i)
    have k6 := fun i => (congrFun a6 i).trans (h6 c i)
    exact ⟨(r0.trans (Cert.Reference12Ideal.Read.val_main_v49_eq _ _)).trans (funext fun i => Ref.dx_at k0 k1 k2 k3 k4 i),
      (r1.trans (Cert.Reference12Ideal.Read.val_main_v24_eq _)).trans (funext fun i => Ref.dshift_at k1 i),
      (r2.trans (Cert.Reference12Ideal.Read.val_main_v27_eq _ _ _)).trans (funext fun i => Ref.dscale_at k0 k1 k3 i),
      (r3.trans (Cert.Reference12Ideal.Read.val_main_v32_eq _ _ _)).trans (funext fun i => Ref.dgain_at k0 k1 k4 i),
      (r4.trans (Cert.Reference12Ideal.Read.val_main_v58_eq _ _)).trans (funext fun i => Ref.dout_at k0 k1 k2 k3 k4 k6 i),
      (r5.trans (Cert.Reference12Ideal.Read.val_main_v57_eq _ _)).trans (funext fun i => Ref.dgate_at k0 k1 k2 k3 k4 k5 i), ra⟩

/-- The gradient of the modulated norm, the first layer of the step, where no gated add lies below. -/
theorem algebraic13 : Cert.algebraic_Kernel13Ideal_Reference13Ideal := by
  intro m g0 m' g' _ hagree
  let X := fun (c : Dev Cert.Kernel13Ideal.nD) (a b : ℕ) => spread (at2 4096 2048) (m ((c.tc : Thread Cert.Kernel13Ideal.nD Cert.Kernel13Ideal.τ).loc Cert.Kernel13Ideal.main_arg0)) (a, b)
  let D := fun (c : Dev Cert.Kernel13Ideal.nD) (a b : ℕ) => spread (at2 4096 2048) (m ((c.tc : Thread Cert.Kernel13Ideal.nD Cert.Kernel13Ideal.τ).loc Cert.Kernel13Ideal.main_arg1)) (a, b)
  let R := fun (c : Dev Cert.Kernel13Ideal.nD) (a b : ℕ) => spread (at2 4096 2048) (m ((c.tc : Thread Cert.Kernel13Ideal.nD Cert.Kernel13Ideal.τ).loc Cert.Kernel13Ideal.main_arg2)) (a, b)
  let g := fun (c : Dev Cert.Kernel13Ideal.nD) => spread (at1 2048) (m ((c.tc : Thread Cert.Kernel13Ideal.nD Cert.Kernel13Ideal.τ).loc Cert.Kernel13Ideal.main_arg3))
  let s := fun (c : Dev Cert.Kernel13Ideal.nD) => spread (at1 2048) (m ((c.tc : Thread Cert.Kernel13Ideal.nD Cert.Kernel13Ideal.τ).loc Cert.Kernel13Ideal.main_arg4))
  have h0 := fun (c : Dev Cert.Kernel13Ideal.nD) i => spread_apply (at2_injective 4096 2048) (m ((c.tc : Thread Cert.Kernel13Ideal.nD Cert.Kernel13Ideal.τ).loc Cert.Kernel13Ideal.main_arg0)) i
  have h1 := fun (c : Dev Cert.Kernel13Ideal.nD) i => spread_apply (at2_injective 4096 2048) (m ((c.tc : Thread Cert.Kernel13Ideal.nD Cert.Kernel13Ideal.τ).loc Cert.Kernel13Ideal.main_arg1)) i
  have h2 := fun (c : Dev Cert.Kernel13Ideal.nD) i => spread_apply (at2_injective 4096 2048) (m ((c.tc : Thread Cert.Kernel13Ideal.nD Cert.Kernel13Ideal.τ).loc Cert.Kernel13Ideal.main_arg2)) i
  have h3 := fun (c : Dev Cert.Kernel13Ideal.nD) i => spread_apply (at1_injective 2048) (m ((c.tc : Thread Cert.Kernel13Ideal.nD Cert.Kernel13Ideal.τ).loc Cert.Kernel13Ideal.main_arg3)) i
  have h4 := fun (c : Dev Cert.Kernel13Ideal.nD) i => spread_apply (at1_injective 2048) (m ((c.tc : Thread Cert.Kernel13Ideal.nD Cert.Kernel13Ideal.τ).loc Cert.Kernel13Ideal.main_arg4)) i
  refine ⟨fun c => fun i : Cert.Kernel13Ideal.S4096x2048.Idx => dx (X c) (D c) (R c) (g c) (s c) (i 0).val (i 1).val,
    fun c => fun i : Cert.Kernel13Ideal.S1x2048.Idx => dshift (D c) (i 1).val,
    fun c => fun i : Cert.Kernel13Ideal.S1x2048.Idx => dscale (X c) (D c) (g c) (i 1).val,
    fun c => fun i : Cert.Kernel13Ideal.S1x2048.Idx => dgain (X c) (D c) (s c) (i 1).val, ?_, ?_⟩
  · refine Idealize.ShloMosaic.θ_run_mono (Cert.Kernel13Ideal.Value.run_blocks m g0) fun r h c => ?_
    obtain ⟨r0, r1, r2, r3, ra⟩ := h c
    exact ⟨r0.trans (First.final5 m c (X := X c) (D := D c) (R := R c) (g := g c) (s := s c) (h0 c) (h1 c) (h2 c) (h3 c) (h4 c)),
      r1.trans (First.final6 m c (X := X c) (D := D c) (R := R c) (g := g c) (s := s c) (h0 c) (h1 c) (h2 c) (h3 c) (h4 c)),
      r2.trans (First.final7 m c (X := X c) (D := D c) (R := R c) (g := g c) (s := s c) (h0 c) (h1 c) (h2 c) (h3 c) (h4 c)),
      r3.trans (First.final8 m c (X := X c) (D := D c) (R := R c) (g := g c) (s := s c) (h0 c) (h1 c) (h2 c) (h3 c) (h4 c)), ra⟩
  · refine Idealize.ShloMosaic.θ_run_mono (Cert.Reference13Ideal.Value.run m' g') fun r h c => ?_
    obtain ⟨r0, r1, r2, r3, ra⟩ := h c
    obtain ⟨a0, a1, a2, a3, a4⟩ := hagree c
    have k0 := fun i => (congrFun a0 i).trans (h0 c i)
    have k1 := fun i => (congrFun a1 i).trans (h1 c i)
    have k2 := fun i => (congrFun a2 i).trans (h2 c i)
    have k3 := fun i => (congrFun a3 i).trans (h3 c i)
    have k4 := fun i => (congrFun a4 i).trans (h4 c i)
    exact ⟨(r0.trans (Cert.Reference13Ideal.Read.val_main_v49_eq _ _)).trans (funext fun i => Ref.dx_at k0 k1 k2 k3 k4 i),
      (r1.trans (Cert.Reference13Ideal.Read.val_main_v24_eq _)).trans (funext fun i => Ref.dshift_at k1 i),
      (r2.trans (Cert.Reference13Ideal.Read.val_main_v27_eq _ _ _)).trans (funext fun i => Ref.dscale_at k0 k1 k3 i),
      (r3.trans (Cert.Reference13Ideal.Read.val_main_v32_eq _ _ _)).trans (funext fun i => Ref.dgain_at k0 k1 k4 i), ra⟩

end Cert.Norm

end
-- ==== Proof.LossSpec.lean ====
/-
  The loss of the step and its gradient through the final norm, as functions of natural coordinates with extended real values.
  `X` is the trunk, `T` the target, `g` the norm's gain, `O` the product that the gate `G` scales.
-/
module

public import proofs.«01_k».proof.Proof.NormSpec

@[expose] public section

set_option maxRecDepth 16384

noncomputable section

namespace Cert.Loss

open Cert.Sgu Cert.Norm Idealize.ShloMosaic

variable (X T O : ℕ → ℕ → EReal) (g G : ℕ → EReal)

/-- The difference from the target. -/
def err (r n : ℕ) : EReal := hat X r n * g n - T r n

/-- The loss's gradient with respect to the normed rows. -/
def dy (r n : ℕ) : EReal := err X T g r n * ((1 / 2048 : ℝ) : EReal)

/-- The trunk's gradient. -/
def dx (r n : ℕ) : EReal :=
  rs X r * (dy X T g r n * g n - hat X r n * Ideal.div (∑ k : Fin 2048, dy X T g r k.val * g k.val * hat X r k.val) ((2048 : ℝ) : EReal))

/-- The gradient of the norm's gain. -/
def dgain (n : ℕ) : EReal := ∑ r : Fin 4096, dy X T g r.val n * hat X r.val n

/-- The gradient of the product below the gate. -/
def dout (r n : ℕ) : EReal := G n * dx X T g r n

/-- The gradient of the gate. -/
def dgate (n : ℕ) : EReal := ∑ r : Fin 4096, dx X T g r.val n * O r.val n

/-- The squared differences of a column, summed over the rows. -/
def squares (n : ℕ) : EReal := ∑ r : Fin 4096, err X T g r.val n * err X T g r.val n

/-- The loss. -/
def loss : EReal := ((1 / 4096 : ℝ) : EReal) * ∑ n : Fin 2048, squares X T g n.val

theorem bits_two : Ideal.ofBits .f32 0x40000000#32 = ((2 : ℝ) : EReal) := by
  simp [Ideal.ofBits, Ideal.ieee, -EReal.coe_mul]; norm_num
theorem bits_row : Ideal.ofBits .f32 0x3A000000#32 = ((1 / 2048 : ℝ) : EReal) := by
  simp [Ideal.ofBits, Ideal.ieee, -EReal.coe_mul]; norm_num
theorem bits_mean : Ideal.ofBits .f32 0x39800000#32 = ((1 / 4096 : ℝ) : EReal) := by
  simp [Ideal.ofBits, Ideal.ieee, -EReal.coe_mul]; norm_num

/-- It is the norm's gradient with no modulation and nothing to add. -/
theorem dx_norm (r n : ℕ) : Norm.dx X (dy X T g) (fun _ _ => 0) g (fun _ => 0) r n = dx X T g r n := by
  simp only [Norm.dx, dhat, dx, EReal.coe_one, zero_add, add_zero, mul_one]

/-- The gradient with the derivative of the reciprocal root and the square's two equal halves written out. -/
theorem dx_eq (r n : ℕ) : dy X T g r n * g n * rs X r
      + X r n * Ideal.div ((∑ k : Fin 2048, X r k.val * (dy X T g r k.val * g k.val))
          * (((-(1 / 2) : ℝ) : EReal) * Ideal.div (rs X r) (msq X r))) ((2048 : ℝ) : EReal)
      + Ideal.div ((∑ k : Fin 2048, X r k.val * (dy X T g r k.val * g k.val))
          * (((-(1 / 2) : ℝ) : EReal) * Ideal.div (rs X r) (msq X r))) ((2048 : ℝ) : EReal) * X r n
    = dx X T g r n := by
  rw [← dx_norm, ← Norm.dx_eq]
  simp only [EReal.coe_one, add_zero, zero_add, mul_one]

/-- Half of the mean over a row's entries, differentiated: the row's share of the difference. -/
theorem dy_eq (e : EReal) : Ideal.div (((1 / 2 : ℝ) : EReal) * ((1 : ℝ) : EReal)) ((2048 : ℝ) : EReal) * (((2 : ℝ) : EReal) * e)
    = e * ((1 / 2048 : ℝ) : EReal) := by
  rw [← EReal.coe_mul, coe_div_2048, ← mul_assoc, ← EReal.coe_mul, mul_comm]
  norm_num

/-- The loss row by row: half the sum of the rows' means. -/
theorem loss_eq : ((1 / 2 : ℝ) : EReal) * ∑ r : Fin 4096, Ideal.div (∑ k : Fin 2048, err X T g r.val k.val * err X T g r.val k.val) ((2048 : ℝ) : EReal)
    = loss X T g := by
  have e : ∀ r : Fin 4096, Ideal.div (∑ k : Fin 2048, err X T g r.val k.val * err X T g r.val k.val) ((2048 : ℝ) : EReal)
      = (∑ k : Fin 2048, err X T g r.val k.val * err X T g r.val k.val) * ((1 / 2048 : ℝ) : EReal) := fun r => Ideal.div_coe (by norm_num) _
  rw [Finset.sum_congr rfl fun r _ => e r, sum_mul_real _ _ (by norm_num), Finset.sum_comm, mul_left_comm, ← EReal.coe_mul, mul_comm, loss]
  norm_num [squares]

end Cert.Loss

end
-- ==== Proof.LossRef.lean ====
/-
  The reference's loss and gradient, read at an index: they are the functions of `LossSpec`.
-/
module

public import proofs.«01_k».proof.Proof.LossSpec
public import proofs.«01_k».proof.Proof.Gen.Reference14Ideal.Read
public import Idealize.ShloMosaic.Lib.Pipeline.ValueKit

@[expose] public section

set_option maxRecDepth 16384

noncomputable section

namespace Cert.Loss.Ref

open Cert.Reference14Ideal Cert.Reference14Ideal.Gen Cert.Reference14Ideal.Read Idealize.ShloMosaic Cert.Sgu Cert.Norm

variable {X T O : ℕ → ℕ → EReal} {g G : ℕ → EReal}
variable {x0 x1 : (⟨S4096x2048, .f32⟩ : BufTy).Contents (Elt Ideal)} {x3 : (⟨S4096x2048, .bf16⟩ : BufTy).Contents (Elt Ideal)}
  {x2 x4 : (⟨S1x2048, .f32⟩ : BufTy).Contents (Elt Ideal)}

/-- The row coordinate of a one-row array is nought. -/
theorem row_zero (i : S1x2048.Idx) : (i 0).val = 0 := Nat.lt_one_iff.mp (i 0).isLt

variable (h0 : ∀ i, x0 i = X (i 0).val (i 1).val) (h1 : ∀ i, x1 i = T (i 0).val (i 1).val)
  (h2 : ∀ i, x2 i = g (i 1).val) (h3 : ∀ i, x3 i = O (i 0).val (i 1).val) (h4 : ∀ i, x4 i = G (i 1).val)

include h0

theorem msq_at (i : S4096x1.Idx) : val_main_v6 x0 i = msq X (i 0).val := by
  simp only [val_main_v6_apply, val_main_v5_apply, val_main_v4_apply, val_main_v3_apply, val_main_v2_apply, val_main_v1_apply, val_main_v0_apply,
    val_main_cst_apply, val_main_cst_0_apply, val_main_cst_1_apply, h0, Ideal.addf_def, Ideal.mulf_def, Ideal.hostDivf_def, Ideal.ofBits_def,
    bits_2048, Ideal.ofBits_zero_f32, bits_eps]
  rw [zero_add]; rfl

theorem rs_at (i : S4096x1.Idx) : val_main_v7 x0 i = rs X (i 0).val := by
  rw [val_main_v7_apply, msq_at h0, Ideal.hostUnary_rsqrt_def]; rfl

theorem slope_at (i : S4096x1.Idx) : val_main_v10 x0 i = ((-(1 / 2) : ℝ) : EReal) * Ideal.div (rs X (i 0).val) (msq X (i 0).val) := by
  simp only [val_main_v10_apply, val_main_v9_apply, val_main_v8_apply, val_main_cst_2_apply, rs_at h0, msq_at h0, Ideal.mulf_def, Ideal.hostDivf_def,
    Ideal.ofBits_def, bits_neg_half]

theorem hat_at (i : S4096x2048.Idx) : val_main_v12 x0 i = hat X (i 0).val (i 1).val := by
  simp only [val_main_v12_apply, val_main_v11_apply, h0, rs_at h0, Ideal.mulf_def]; rfl

include h1 h2

theorem err_at (i : S4096x2048.Idx) : val_main_v15 x0 x1 x2 i = err X T g (i 0).val (i 1).val := by
  simp only [val_main_v15_apply, val_main_v14_apply, val_main_v13_apply, hat_at h0, h1, h2, Ideal.mulf_def, Ideal.subf_def]; rfl

theorem dy_at (i : S4096x2048.Idx) : val_main_v29 x0 x1 x2 i = dy X T g (i 0).val (i 1).val := by
  simp only [val_main_v29_apply, val_main_v28_apply, val_main_v27_apply, val_main_v26_apply, val_main_v25_apply, val_main_v24_apply, val_main_v18_apply,
    val_main_v17_apply, val_main_cst_3_apply, val_main_cst_8_apply, val_main_cst_9_apply, val_main_cst_10_apply, err_at h0 h1 h2, Ideal.mulf_def,
    Ideal.hostDivf_def, Ideal.ofBits_def, bits_half, bits_one, bits_two, bits_2048, dy_eq]
  rfl

theorem dgain_at (i : S1x2048.Idx) : val_main_v32 x0 x1 x2 i = dgain X T g (i 1).val := by
  simp only [val_main_v32_apply, val_main_v31_apply, val_main_v30_apply, val_main_cst_11_apply, hat_at h0, dy_at h0 h1 h2, Ideal.mulf_def,
    Ideal.ofBits_def, Ideal.ofBits_zero_f32, row_zero, Nat.zero_mul, zero_add]
  exact Finset.sum_congr rfl fun k _ => mul_comm _ _

theorem dx_at (i : S4096x2048.Idx) : val_main_v48 x0 x1 x2 i = dx X T g (i 0).val (i 1).val := by
  rw [← dx_eq]
  simp only [val_main_v48_apply, val_main_v47_apply, val_main_v46_apply, val_main_v45_apply, val_main_v44_apply, val_main_v43_apply, val_main_v42_apply,
    val_main_v41_apply, val_main_v40_apply, val_main_v39_apply, val_main_v38_apply, val_main_v37_apply, val_main_v36_apply, val_main_v35_apply,
    val_main_v34_apply, val_main_v33_apply, val_main_cst_12_apply, val_main_cst_13_apply, val_main_cst_14_apply, h0, h2, dy_at h0 h1 h2, rs_at h0,
    slope_at h0, Ideal.addf_def, Ideal.mulf_def, Ideal.hostDivf_def, Ideal.ofBits_def, Ideal.ofBits_zero_f32, bits_2048,
    Fin.sum_univ_one, zero_add, Fin.val_eq_zero, mul_one, add_zero]

/-- The loss. -/
theorem loss_at (i : S1x1.Idx) : val_main_v57 x0 x1 x2 i = loss X T g := by
  rw [← loss_eq]
  simp only [val_main_v57_apply, val_main_v23_apply, val_main_v22_apply, val_main_v21_apply, val_main_v20_apply, val_main_v19_apply, val_main_v16_apply,
    val_main_cst_4_apply, val_main_cst_5_apply, val_main_cst_6_apply, val_main_cst_7_apply, err_at h0 h1 h2, Ideal.mulf_def, Ideal.hostDivf_def,
    Ideal.ofBits_def, Ideal.ofBits_zero_f32, bits_half, bits_2048, zero_add]
  exact congrArg (_ * ·) (Fin.sum_idx1 ![4096] fun r =>
    Ideal.div (∑ k : Fin 2048, err X T g r.val k.val * err X T g r.val k.val) ((2048 : ℝ) : EReal))

include h4 in
theorem dout_at (i : S4096x2048.Idx) : val_main_v58 x0 x1 x2 x4 i = dout X T g G (i 0).val (i 1).val := by
  simp only [val_main_v58_apply, val_main_v53_apply, val_main_v52_apply, dx_at h0 h1 h2, h4, Ideal.truncf_def, Ideal.mulf_def]
  rfl

include h3 in
theorem dgate_at (i : S1x2048.Idx) : val_main_v56 x0 x1 x2 x3 i = dgate X T O g (i 1).val := by
  simp only [val_main_v56_apply, val_main_v55_apply, val_main_v54_apply, val_main_v49_apply, val_main_cst_15_apply, dx_at h0 h1 h2, h3,
    Ideal.extf_def, Ideal.mulf_def, Ideal.ofBits_def, Ideal.ofBits_zero_f32, row_zero, Nat.zero_mul, zero_add]
  rfl

end Cert.Loss.Ref

end
-- ==== Proof.LossRow.lean ====
/-
  The kernel's values on one block of 512 rows of the loss and its gradient. `p` is the block's first row.
-/
module

public import proofs.«01_k».proof.Proof.LossSpec
public import proofs.«01_k».proof.Proof.Gen.Kernel14Ideal.Value
public import Idealize.ShloMosaic.Lib.Pipeline.ValueKit
public import Idealize.ShloMosaic.Lib.Pointwise

@[expose] public section

set_option maxRecDepth 16384

noncomputable section

namespace Cert.Loss.Ker

open Cert.Kernel14Ideal Cert.Kernel14Ideal.Gen Idealize.ShloMosaic Idealize.ShloMosaic.TcCoe Cert.Sgu Cert.Norm

variable {X T O : ℕ → ℕ → EReal} {g G : ℕ → EReal} {p : ℕ}
variable {b0 b1 : Vec Ideal S512x2048 .f32} {b3 : Vec Ideal S512x2048 .bf16} {b2 b4 : Vec Ideal S1x2048 .f32}
variable (h0 : ∀ y, b0 y = X (p + (y 0).val) (y 1).val) (h1 : ∀ y, b1 y = T (p + (y 0).val) (y 1).val)
  (h2 : ∀ y, b2 y = g (y 1).val) (h3 : ∀ y, b3 y = O (p + (y 0).val) (y 1).val) (h4 : ∀ y, b4 y = G (y 1).val)

include h0 in
theorem rs_at (y : S512x1.Idx) : k0_pay9 (F := Ideal) b0 y = rs X (p + (y 0).val) := by
  unfold k0_pay9
  pointwise
  simp only [h0, bits_2048, bits_eps]
  rfl

include h0 in
theorem hat_at (y : S512x2048.Idx) : k0_pay10 (F := Ideal) b0 y = hat X (p + (y 0).val) (y 1).val := by
  unfold k0_pay10
  pointwise
  simp only [rs_at h0, h0]
  rfl

include h0 h1 h2

theorem err_at (y : S512x2048.Idx) : k0_pay11 (F := Ideal) b0 b2 b1 y = err X T g (p + (y 0).val) (y 1).val := by
  unfold k0_pay11
  pointwise
  simp only [hat_at h0, h1, h2]
  rfl

theorem dy_at (y : S512x2048.Idx) : k0_pay12 (F := Ideal) b0 b2 b1 y = dy X T g (p + (y 0).val) (y 1).val := by
  unfold k0_pay12
  pointwise
  simp only [err_at h0 h1 h2, bits_row]
  rfl

theorem dx_at (y : S512x2048.Idx) : k0_pay13 (F := Ideal) b0 b2 b1 y = dx X T g (p + (y 0).val) (y 1).val := by
  unfold k0_pay13
  pointwise
  simp only [hat_at h0, rs_at h0, dy_at h0 h1 h2, h2, bits_2048]
  rfl

theorem dgain_at (y : S1x2048.Idx) : k0_pay14 (F := Ideal) b0 b2 b1 y
    = ∑ k : Fin 512, dy X T g (p + k.val) (y 1).val * hat X (p + k.val) (y 1).val := by
  unfold k0_pay14
  pointwise
  simp only [hat_at h0, dy_at h0 h1 h2]
  rfl

theorem squares_at (y : S1x2048.Idx) : k0_pay2 (F := Ideal) (k0_pay11 (F := Ideal) b0 b2 b1) y
    = ∑ k : Fin 512, err X T g (p + k.val) (y 1).val * err X T g (p + k.val) (y 1).val := by
  unfold k0_pay2
  pointwise
  simp only [err_at h0 h1 h2]
  rfl

include h4 in
theorem dout_at (y : S512x2048.Idx) : k0_pay5 (F := Ideal) (k0_pay13 (F := Ideal) b0 b2 b1) b4 y
    = dout X T g G (p + (y 0).val) (y 1).val := by
  unfold k0_pay5
  pointwise
  simp only [dx_at h0 h1 h2, h4]
  rfl

include h3 in
theorem dgate_at (y : S1x2048.Idx) : k0_pay6 (F := Ideal) (k0_pay13 (F := Ideal) b0 b2 b1) b3 y
    = ∑ k : Fin 512, dx X T g (p + k.val) (y 1).val * O (p + k.val) (y 1).val := by
  unfold k0_pay6
  pointwise
  simp only [dx_at h0 h1 h2, h3]
  rfl

omit h0 h1 h2

/-- What a later point adds to, and what it adds: the gain's gradient. -/
theorem step1 (a b : Vec Ideal S1x2048 .f32) (y : S1x2048.Idx) : k0_pay1 (F := Ideal) a b y = b y + a y := by
  unfold k0_pay1
  pointwise

/-- The first point's column sums of squares. -/
theorem first3 (u : FVec Ideal S512x2048 .f32) (y : S1x2048.Idx) : k0_pay3 (F := Ideal) u y = k0_pay2 (F := Ideal) u y := by
  unfold k0_pay3
  pointwise

/-- The same of the squares. -/
theorem step4 (u : FVec Ideal S512x2048 .f32) (b : Vec Ideal S1x2048 .f32) (y : S1x2048.Idx) :
    k0_pay4 (F := Ideal) u b y = b y + k0_pay2 (F := Ideal) u y := by
  unfold k0_pay4
  pointwise

/-- The same of the gate's gradient. -/
theorem step7 (u : FVec Ideal S512x2048 .f32) (v : Vec Ideal S512x2048 .bf16) (b : Vec Ideal S1x2048 .f32) (y : S1x2048.Idx) :
    k0_pay7 (F := Ideal) u v b y = b y + k0_pay6 (F := Ideal) u v y := by
  unfold k0_pay7
  pointwise

/-- The last point's loss, of the column sums. -/
theorem last8 (b : Vec Ideal S1x2048 .f32) (y : S1x1.Idx) :
    k0_pay8 (F := Ideal) b y = ((1 / 4096 : ℝ) : EReal) * ∑ k : Fin 2048, b (Idealize.ShloMosaic.ValueIdx.ix2 0 k) := by
  unfold k0_pay8
  pointwise
  rw [bits_mean]
  refine congrArg (_ * ·) (Finset.sum_congr rfl fun k _ => congrArg b (funext fun a => ?_))
  match a with
  | ⟨0, _⟩ => exact Subsingleton.elim (α := Fin 1) _ _
  | ⟨1, _⟩ => rfl

end Cert.Loss.Ker

end
-- ==== Proof.LossKer.lean ====
/-
  The loss and its gradient, as the kernel leaves them: five arrays after the run.
  The two row gradients are written block by block, the other sums are accumulated over the eight grid points; the last point reads the loss off the
  accumulated column sums of squares.
-/
module

public import proofs.«01_k».proof.Proof.LossRow

@[expose] public section

set_option maxRecDepth 16384

noncomputable section

namespace Cert.Loss.Ker

open Cert.Kernel14Ideal Cert.Kernel14Ideal.Gen Idealize.ShloMosaic Idealize.ShloMosaic.TcCoe Cert.Kernel14Ideal.Value Cert.Sgu Cert.Norm

variable (m : (ℓ : Loc nD τ sig) → Buf (Elt Ideal) ℓ)
variable {X T O : ℕ → ℕ → EReal} {g G : ℕ → EReal}

/-- The block each window shows at a grid point. -/
theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_6.index t = ![t.val, 0] ∧ win0_8.index t = ![t.val, 0] :=
  (by decide +kernel : ∀ t : Fin grid0.N, _)

variable (c : Dev nD)
  (h0 : ∀ i : S4096x2048.Idx, m ((c : Thread nD τ).loc main_arg0) i = X (i 0).val (i 1).val)
  (h1 : ∀ i : S4096x2048.Idx, m ((c : Thread nD τ).loc main_arg1) i = T (i 0).val (i 1).val)
  (h2 : ∀ i : S1x2048.Idx, m ((c : Thread nD τ).loc main_arg2) i = g (i 1).val)
  (h3 : ∀ i : S4096x2048.Idx, m ((c : Thread nD τ).loc main_arg3) i = O (i 0).val (i 1).val)
  (h4 : ∀ i : S1x2048.Idx, m ((c : Thread nD τ).loc main_arg4) i = G (i 1).val)

include h0 in
theorem blk0 (t : Fin cfg0.N) (y : S512x2048.Idx) : iblk m c 0 t y = X (512 * t.val + (y 0).val) (y 1).val := by
  refine (congrFun (V_main_arg0 m c) _).trans ((h0 _).trans ?_)
  obtain ⟨a0, a1, a2, a3, a4, a6, a8⟩ := idx t
  congr 1 <;> refine (win0_0.rect_emb_val t y _).trans ?_ <;> rw [a0]
  · show t.val * 512 + (y 0).val = _; omega
  · show 0 * 2048 + (y 1).val = _; omega

include h1 in
theorem blk1 (t : Fin cfg0.N) (y : S512x2048.Idx) : iblk m c 1 t y = T (512 * t.val + (y 0).val) (y 1).val := by
  refine (congrFun (V_main_arg1 m c) _).trans ((h1 _).trans ?_)
  obtain ⟨a0, a1, a2, a3, a4, a6, a8⟩ := idx t
  congr 1 <;> refine (win0_1.rect_emb_val t y _).trans ?_ <;> rw [a1]
  · show t.val * 512 + (y 0).val = _; omega
  · show 0 * 2048 + (y 1).val = _; omega

include h2 in
theorem blk2 (t : Fin cfg0.N) (y : S1x2048.Idx) : iblk m c 2 t y = g (y 1).val := by
  refine (congrFun (V_main_arg2 m c) _).trans ((h2 _).trans ?_)
  obtain ⟨a0, a1, a2, a3, a4, a6, a8⟩ := idx t
  congr 1
  exact win0_2.rect_emb_val_of_index_zero t 1 (by rw [a2]; rfl) y

include h3 in
theorem blk3 (t : Fin cfg0.N) (y : S512x2048.Idx) : iblk m c 3 t y = O (512 * t.val + (y 0).val) (y 1).val := by
  refine (congrFun (V_main_arg3 m c) _).trans ((h3 _).trans ?_)
  obtain ⟨a0, a1, a2, a3, a4, a6, a8⟩ := idx t
  congr 1 <;> refine (win0_3.rect_emb_val t y _).trans ?_ <;> rw [a3]
  · show t.val * 512 + (y 0).val = _; omega
  · show 0 * 2048 + (y 1).val = _; omega

include h4 in
theorem blk4 (t : Fin cfg0.N) (y : S1x2048.Idx) : iblk m c 4 t y = G (y 1).val := by
  refine (congrFun (V_main_arg4 m c) _).trans ((h4 _).trans ?_)
  obtain ⟨a0, a1, a2, a3, a4, a6, a8⟩ := idx t
  congr 1
  exact win0_4.rect_emb_val_of_index_zero t 1 (by rw [a4]; rfl) y

set_option maxHeartbeats 4000000 in
/-- What one grid point leaves: its blocks of the row gradients, the column sums it adds to what the point before left, or to nought, and at the last point
    the loss of the column sums. -/
theorem point (c : Dev nD) (t : Fin cfg0.N) (p : ℕ)
    {b0 : Vec Ideal S512x2048 .f32} (i0 : iblk m c 0 t = b0) (e0 : ∀ y, b0 y = X (p + (y 0).val) (y 1).val)
    {b1 : Vec Ideal S512x2048 .f32} (i1 : iblk m c 1 t = b1) (e1 : ∀ y, b1 y = T (p + (y 0).val) (y 1).val)
    {b2 : Vec Ideal S1x2048 .f32} (i2 : iblk m c 2 t = b2) (e2 : ∀ y, b2 y = g (y 1).val)
    {b3 : Vec Ideal S512x2048 .bf16} (i3 : iblk m c 3 t = b3) (e3 : ∀ y, b3 y = O (p + (y 0).val) (y 1).val)
    {b4 : Vec Ideal S1x2048 .f32} (i4 : iblk m c 4 t = b4) (e4 : ∀ y, b4 y = G (y 1).val)
    (p_dgain : Vec Ideal S1x2048 .f32) (q_dgain : p_dgain = if t.val % 8 = 0 then (fun _ => (0 : EReal))
      else (outsAt0 m c (t.val - 1) (Nat.lt_of_le_of_lt (Nat.sub_le _ _) t.isLt)).2.2.1)
    (p_dgate : Vec Ideal S1x2048 .f32) (q_dgate : p_dgate = if t.val % 8 = 0 then (fun _ => (0 : EReal))
      else (outsAt0 m c (t.val - 1) (Nat.lt_of_le_of_lt (Nat.sub_le _ _) t.isLt)).2.2.2.2.1)
    (p_squares : Vec Ideal S1x2048 .f32) (q_squares : p_squares = if t.val % 8 = 0 then (fun _ => (0 : EReal))
      else (outsAt0 m c (t.val - 1) (Nat.lt_of_le_of_lt (Nat.sub_le _ _) t.isLt)).2.2.2.2.2) :
    (t.val % 8 = 7 → ∀ y : S1x1.Idx, (outsAt0 m c t.val t.isLt).1 y
      = ((1 / 4096 : ℝ) : EReal) * ∑ k : Fin 2048, (outsAt0 m c t.val t.isLt).2.2.2.2.2 (ValueIdx.ix2 0 k))
    ∧ (∀ y : S512x2048.Idx, (outsAt0 m c t.val t.isLt).2.1 y = dx X T g (p + (y 0).val) (y 1).val)
    ∧ (∀ y : S1x2048.Idx, (outsAt0 m c t.val t.isLt).2.2.1 y = p_dgain y + ∑ k : Fin 512, dy X T g (p + k.val) (y 1).val * hat X (p + k.val) (y 1).val)
    ∧ (∀ y : S512x2048.Idx, (outsAt0 m c t.val t.isLt).2.2.2.1 y = dout X T g G (p + (y 0).val) (y 1).val)
    ∧ (∀ y : S1x2048.Idx, (outsAt0 m c t.val t.isLt).2.2.2.2.1 y = p_dgate y + ∑ k : Fin 512, dx X T g (p + k.val) (y 1).val * O (p + k.val) (y 1).val)
    ∧ (∀ y : S1x2048.Idx, (outsAt0 m c t.val t.isLt).2.2.2.2.2 y = p_squares y + ∑ k : Fin 512, err X T g (p + k.val) (y 1).val * err X T g (p + k.val) (y 1).val) := by
  have hN : t.val < 8 := lt_of_lt_of_eq t.isLt N_0
  obtain ⟨ht, hu, hl⟩ | ⟨ht, hu, hl⟩ | ⟨ht, hu, hl⟩ : (t.val % 8 = 0 ∧ ¬1 ≤ t.val ∧ ¬t.val % 8 = 7) ∨ (¬t.val % 8 = 0 ∧ 1 ≤ t.val ∧ ¬t.val % 8 = 7)
      ∨ (¬t.val % 8 = 0 ∧ 1 ≤ t.val ∧ t.val % 8 = 7) := by omega
  · rw [outsAt0_A m c t ht hu ht hu ht hu hl]
    rw [if_pos ht] at q_dgain q_dgate q_squares
    frame_out
    subst q_dgain q_dgate q_squares
    rw [i0, i1, i2, i3, i4]
    exact ⟨fun h => absurd h hl, fun y => dx_at e0 e1 e2 y, fun y => (dgain_at e0 e1 e2 y).trans (zero_add _).symm, fun y => dout_at e0 e1 e2 e4 y,
      fun y => (dgate_at e0 e1 e2 e3 y).trans (zero_add _).symm, fun y => ((first3 _ y).trans (squares_at e0 e1 e2 y)).trans (zero_add _).symm⟩
  · rw [outsAt0_B m c t ht hu ht hu ht hu hl]
    rw [if_neg ht] at q_dgain q_dgate q_squares
    frame_out
    rw [← q_dgain, ← q_dgate, ← q_squares]
    rw [i0, i1, i2, i3, i4]
    exact ⟨fun h => absurd h hl, fun y => dx_at e0 e1 e2 y, fun y => (step1 _ _ y).trans (congrArg (_ + ·) (dgain_at e0 e1 e2 y)),
      fun y => dout_at e0 e1 e2 e4 y, fun y => (step7 _ _ _ y).trans (congrArg (_ + ·) (dgate_at e0 e1 e2 e3 y)),
      fun y => (step4 _ _ y).trans (congrArg₂ (· + ·) (congrFun (Memref.IsWhole.read_unread _ _) y) (squares_at e0 e1 e2 y))⟩
  · rw [outsAt0_C m c t ht hu ht hu ht hu hl]
    rw [if_neg ht] at q_dgain q_dgate q_squares
    frame_out
    rw [← q_dgain, ← q_dgate, ← q_squares]
    rw [i0, i1, i2, i3, i4]
    exact ⟨fun _ y => last8 _ y, fun y => dx_at e0 e1 e2 y, fun y => (step1 _ _ y).trans (congrArg (_ + ·) (dgain_at e0 e1 e2 y)),
      fun y => dout_at e0 e1 e2 e4 y, fun y => (step7 _ _ _ y).trans (congrArg (_ + ·) (dgate_at e0 e1 e2 e3 y)),
      fun y => (step4 _ _ y).trans (congrArg₂ (· + ·) (congrFun (Memref.IsWhole.read_unread _ _) y) (squares_at e0 e1 e2 y))⟩

/-- A sum over the grid, 512 rows to a point, is the sum over the rows. -/
theorem grid_rows (f : ℕ → EReal) : ∑ t : Fin cfg0.N, ∑ k : Fin 512, f (512 * t.val + k.val) = ∑ r : Fin 4096, f r.val := by
  rw [← sum_rows f]
  show ∑ t : Fin grid0.N, ∑ k : Fin 512, f (512 * t.val + k.val) = _
  rw [← Equiv.sum_comp (finCongr N_0.symm)]
  exact Finset.sum_congr rfl fun t _ => rfl

include h0 h1 h2 h3 h4

/-- The column sums of squares, after the last point. -/
theorem squares_last (j : S1x2048.Idx) : (outsAt0 m c t0_7.val t0_7.isLt).2.2.2.2.2 j = squares X T g (j 1).val := by
  rw [Pipeline.eq_sum_fin_of_reset_step_apply_last (fun n h => (outsAt0 m c n h).2.2.2.2.2) 8 (fun _ => 0)
    (fun t y => ∑ k : Fin 512, err X T g (512 * t.val + k.val) (y 1).val * err X T g (512 * t.val + k.val) (y 1).val)
    (fun t h y => ((point m c t (512 * t.val) rfl (blk0 m c h0 t) rfl (blk1 m c h1 t) rfl (blk2 m c h2 t) rfl (blk3 m c h3 t) rfl (blk4 m c h4 t)
        _ rfl _ rfl _ rfl).2.2.2.2.2 y).trans (by rw [if_pos h]))
    (fun t h y => ((point m c t (512 * t.val) rfl (blk0 m c h0 t) rfl (blk1 m c h1 t) rfl (blk2 m c h2 t) rfl (blk3 m c h3 t) rfl (blk4 m c h4 t)
        _ rfl _ rfl _ rfl).2.2.2.2.2 y).trans (by rw [if_neg h]))
    (le_of_eq N_0) t0_7 rfl j, zero_add]
  exact grid_rows fun r => err X T g r (j 1).val * err X T g r (j 1).val

/-- The loss, left by the last point. -/
theorem final5 : (dats m 0 c).arrAt 5 cfg0.N = fun _ : S1x1.Idx => loss X T g := by
  refine (dats m 0 c).arrAt_eq_of_after_last 5 t0_7 (by decide +kernel) _ fun j => ?_
  blk_simp
  rw [after0_5]
  refine ((point m c t0_7 (512 * t0_7.val) rfl (blk0 m c h0 t0_7) rfl (blk1 m c h1 t0_7) rfl (blk2 m c h2 t0_7) rfl (blk3 m c h3 t0_7) rfl (blk4 m c h4 t0_7)
        _ rfl _ rfl _ rfl).1 rfl _).trans ?_
  exact congrArg (_ * ·) (Finset.sum_congr rfl fun k _ => squares_last m c h0 h1 h2 h3 h4 _)

/-- The trunk's gradient, block by block. -/
theorem final6 : (dats m 0 c).arrAt 6 cfg0.N = fun i : S4096x2048.Idx => dx X T g (i 0).val (i 1).val := by
  refine (dats m 0 c).arrAt_eq_of_covers 6 _ (by decide +kernel) fun t hf y => ?_
  obtain ⟨a0, a1, a2, a3, a4, a6, a8⟩ := idx t
  rw [after0_6]
  refine ((point m c t (512 * t.val) rfl (blk0 m c h0 t) rfl (blk1 m c h1 t) rfl (blk2 m c h2 t) rfl (blk3 m c h3 t) rfl (blk4 m c h4 t)
        _ rfl _ rfl _ rfl).2.1 _).trans ?_
  congr 1
  · refine Eq.trans ?_ (win0_6.rect_emb_val t y 0).symm
    rw [a6]
    show 512 * t.val + (y 0).val = t.val * 512 + (y 0).val
    omega
  · refine Eq.trans ?_ (win0_6.rect_emb_val t y 1).symm
    rw [a6]
    show (y 1).val = 0 * 2048 + (y 1).val
    omega

/-- The gradient of the product below the gate, block by block. -/
theorem final8 : (dats m 0 c).arrAt 8 cfg0.N = fun i : S4096x2048.Idx => dout X T g G (i 0).val (i 1).val := by
  refine (dats m 0 c).arrAt_eq_of_covers 8 _ (by decide +kernel) fun t hf y => ?_
  obtain ⟨a0, a1, a2, a3, a4, a6, a8⟩ := idx t
  rw [after0_8]
  refine ((point m c t (512 * t.val) rfl (blk0 m c h0 t) rfl (blk1 m c h1 t) rfl (blk2 m c h2 t) rfl (blk3 m c h3 t) rfl (blk4 m c h4 t)
        _ rfl _ rfl _ rfl).2.2.2.1 _).trans ?_
  congr 1
  · refine Eq.trans ?_ (win0_8.rect_emb_val t y 0).symm
    rw [a8]
    show 512 * t.val + (y 0).val = t.val * 512 + (y 0).val
    omega
  · refine Eq.trans ?_ (win0_8.rect_emb_val t y 1).symm
    rw [a8]
    show (y 1).val = 0 * 2048 + (y 1).val
    omega

/-- The gradient of the norm's gain, accumulated over the grid. -/
theorem final7 : (dats m 0 c).arrAt 7 cfg0.N = fun i : S1x2048.Idx => dgain X T g (i 1).val := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t y => ∑ k : Fin 512, dy X T g (512 * t.val + k.val) (y 1).val * hat X (512 * t.val + k.val) (y 1).val)
    (fun t h y => ((point m c t (512 * t.val) rfl (blk0 m c h0 t) rfl (blk1 m c h1 t) rfl (blk2 m c h2 t) rfl (blk3 m c h3 t) rfl (blk4 m c h4 t)
        _ rfl _ rfl _ rfl).2.2.1 y).trans (by rw [if_pos h]))
    (fun t h y => ((point m c t (512 * t.val) rfl (blk0 m c h0 t) rfl (blk1 m c h1 t) rfl (blk2 m c h2 t) rfl (blk3 m c h3 t) rfl (blk4 m c h4 t)
        _ rfl _ rfl _ rfl).2.2.1 y).trans (by rw [if_neg h]))
    (le_of_eq N_0) t0_7 rfl j, zero_add]
  exact grid_rows fun r => dy X T g r (j 1).val * hat X r (j 1).val

/-- The gradient of the gate, accumulated over the grid. -/
theorem final9 : (dats m 0 c).arrAt 9 cfg0.N = fun i : S1x2048.Idx => dgate X T O g (i 1).val := by
  refine (dats m 0 c).arrAt_eq_of_after_last 9 t0_7 (by decide +kernel) _ fun j => ?_
  blk_simp
  rw [after0_9, Pipeline.eq_sum_fin_of_reset_step_apply_last (fun n h => (outsAt0 m c n h).2.2.2.2.1) 8 (fun _ => 0)
    (fun t y => ∑ k : Fin 512, dx X T g (512 * t.val + k.val) (y 1).val * O (512 * t.val + k.val) (y 1).val)
    (fun t h y => ((point m c t (512 * t.val) rfl (blk0 m c h0 t) rfl (blk1 m c h1 t) rfl (blk2 m c h2 t) rfl (blk3 m c h3 t) rfl (blk4 m c h4 t)
        _ rfl _ rfl _ rfl).2.2.2.2.1 y).trans (by rw [if_pos h]))
    (fun t h y => ((point m c t (512 * t.val) rfl (blk0 m c h0 t) rfl (blk1 m c h1 t) rfl (blk2 m c h2 t) rfl (blk3 m c h3 t) rfl (blk4 m c h4 t)
        _ rfl _ rfl _ rfl).2.2.2.2.1 y).trans (by rw [if_neg h]))
    (le_of_eq N_0) t0_7 rfl j, zero_add]
  exact grid_rows fun r => dx X T g r (j 1).val * O r (j 1).val

end Cert.Loss.Ker

end
-- ==== Proof.Loss.lean ====
/-
  The loss and its gradient: kernel and reference compute the same arrays.
-/
module

public import proofs.«01_k».proof.Proof.Entries
public import proofs.«01_k».proof.Proof.LossRef
public import proofs.«01_k».proof.Proof.LossKer
public import proofs.«01_k».proof.Proof.Gen.Reference14Ideal.Run
public import Idealize.ShloMosaic.Lib.Claim
public import proofs.«01_k».proof.Defs

@[expose] public section

set_option maxRecDepth 16384

noncomputable section

namespace Cert.Loss

open Cert.Kernel14Ideal Idealize.ShloMosaic Cert.Sgu

/-- The kernel and the reference end with equal results. -/
theorem algebraic : Cert.algebraic_Kernel14Ideal_Reference14Ideal := by
  intro m g0 m' g' _ hagree
  let X := fun (c : Dev nD) (a b : ℕ) => spread (at2 4096 2048) (m ((c.tc : Thread nD τ).loc main_arg0)) (a, b)
  let T := fun (c : Dev nD) (a b : ℕ) => spread (at2 4096 2048) (m ((c.tc : Thread nD τ).loc main_arg1)) (a, b)
  let g := fun (c : Dev nD) => spread (at1 2048) (m ((c.tc : Thread nD τ).loc main_arg2))
  let O := fun (c : Dev nD) (a b : ℕ) => spread (at2 4096 2048) (m ((c.tc : Thread nD τ).loc main_arg3)) (a, b)
  let G := fun (c : Dev nD) => spread (at1 2048) (m ((c.tc : Thread nD τ).loc main_arg4))
  have h0 := fun (c : Dev nD) i => spread_apply (at2_injective 4096 2048) (m ((c.tc : Thread nD τ).loc main_arg0)) i
  have h1 := fun (c : Dev nD) i => spread_apply (at2_injective 4096 2048) (m ((c.tc : Thread nD τ).loc main_arg1)) i
  have h2 := fun (c : Dev nD) i => spread_apply (at1_injective 2048) (m ((c.tc : Thread nD τ).loc main_arg2)) i
  have h3 := fun (c : Dev nD) i => spread_apply (at2_injective 4096 2048) (m ((c.tc : Thread nD τ).loc main_arg3)) i
  have h4 := fun (c : Dev nD) i => spread_apply (at1_injective 2048) (m ((c.tc : Thread nD τ).loc main_arg4)) i
  refine ⟨fun c => fun _ : S1x1.Idx => loss (X c) (T c) (g c),
    fun c => fun i : S4096x2048.Idx => dx (X c) (T c) (g c) (i 0).val (i 1).val,
    fun c => fun i : S1x2048.Idx => dgain (X c) (T c) (g c) (i 1).val,
    fun c => fun i : S4096x2048.Idx => dout (X c) (T c) (g c) (G c) (i 0).val (i 1).val,
    fun c => fun i : S1x2048.Idx => dgate (X c) (T c) (O c) (g c) (i 1).val, ?_, ?_⟩
  · refine θ_run_mono (Cert.Kernel14Ideal.Value.run_blocks m g0) fun r h c => ?_
    obtain ⟨r0, r1, r2, r3, r4, ra⟩ := h c
    exact ⟨r0.trans (Ker.final5 m c (X := X c) (T := T c) (O := O c) (g := g c) (G := G c) (h0 c) (h1 c) (h2 c) (h3 c) (h4 c)),
      r1.trans (Ker.final6 m c (X := X c) (T := T c) (O := O c) (g := g c) (G := G c) (h0 c) (h1 c) (h2 c) (h3 c) (h4 c)),
      r2.trans (Ker.final7 m c (X := X c) (T := T c) (O := O c) (g := g c) (G := G c) (h0 c) (h1 c) (h2 c) (h3 c) (h4 c)),
      r3.trans (Ker.final8 m c (X := X c) (T := T c) (O := O c) (g := g c) (G := G c) (h0 c) (h1 c) (h2 c) (h3 c) (h4 c)),
      r4.trans (Ker.final9 m c (X := X c) (T := T c) (O := O c) (g := g c) (G := G c) (h0 c) (h1 c) (h2 c) (h3 c) (h4 c)), ra⟩
  · refine θ_run_mono (Cert.Reference14Ideal.Value.run m' g') fun r h c => ?_
    obtain ⟨r0, r1, r2, r3, r4, ra⟩ := h c
    obtain ⟨a0, a1, a2, a3, a4⟩ := hagree c
    have k0 := fun i => (congrFun a0 i).trans (h0 c i)
    have k1 := fun i => (congrFun a1 i).trans (h1 c i)
    have k2 := fun i => (congrFun a2 i).trans (h2 c i)
    have k3 := fun i => (congrFun a3 i).trans (h3 c i)
    have k4 := fun i => (congrFun a4 i).trans (h4 c i)
    exact ⟨(r0.trans (Cert.Reference14Ideal.Read.val_main_v57_eq _ _ _)).trans (funext fun i => Ref.loss_at k0 k1 k2 i),
      (r1.trans (Cert.Reference14Ideal.Read.val_main_v48_eq _ _)).trans (funext fun i => Ref.dx_at k0 k1 k2 i),
      (r2.trans (Cert.Reference14Ideal.Read.val_main_v32_eq _ _ _)).trans (funext fun i => Ref.dgain_at k0 k1 k2 i),
      (r3.trans (Cert.Reference14Ideal.Read.val_main_v58_eq _ _)).trans (funext fun i => Ref.dout_at k0 k1 k2 k4 i),
      (r4.trans (Cert.Reference14Ideal.Read.val_main_v56_eq _ _)).trans (funext fun i => Ref.dgate_at k0 k1 k2 k3 i), ra⟩

end Cert.Loss

end
-- ==== Proof.Weighted.lean ====
/-
  The sigmoid-weighted unit over the extended reals.
-/
module

public import proofs.«01_k».proof.Proof.Coe

@[expose] public section

noncomputable section

namespace Cert.Sgu

open Idealize.ShloMosaic

/-- The sigmoid-weighted unit: the argument times one over one plus the exponential of its negative. -/
def weighted (x : EReal) : EReal := x * Ideal.div 1 (1 + Ideal.exp (-x))

end Cert.Sgu

end
-- ==== Proof.ModDw.lean ====
/-
  The gradient of the modulation's weights: the batch's activations times the cotangents, in blocks of 1024 rows and 768 columns of each
  layer's weights.
-/
module

public import proofs.«01_k».proof.Defs
public import proofs.«01_k».proof.Proof.Gen.Kernel15Ideal.Value
public import proofs.«01_k».proof.Proof.Gen.Reference15Ideal.Read
public import proofs.«01_k».proof.Proof.Gen.Reference15Ideal.Run
public import proofs.«01_k».proof.Proof.Weighted
public import Idealize.ShloMosaic.Lib.Pipeline.ValueKit
public import Idealize.ShloMosaic.Lib.Claim
public import Idealize.ShloMosaic.Lib.Pointwise

@[expose] public section

set_option maxRecDepth 16384

noncomputable section

namespace Cert.ModDw

open Cert.Kernel15Ideal Cert.Kernel15Ideal.Gen Idealize.ShloMosaic Idealize.ShloMosaic.TcCoe Cert.Kernel15Ideal.Value

/-- The block each window shows at a grid point. -/
theorem idx : ∀ t : Fin cfg0.N, win0_0.index t = ![0, t.val % 4 / 2] ∧ win0_1.index t = ![t.val / 4, 0, t.val % 2]
    ∧ win0_2.index t = ![t.val / 4, t.val % 4 / 2, t.val % 2] :=
  (by decide +kernel : ∀ t : Fin grid0.N, _)

variable (m : (ℓ : Loc nD τ sig) → Buf (Elt Ideal) ℓ)

/-- The sum over the batch of the activation at a row times the cotangent at a column. -/
def product (x0 : Vec Ideal S8x2048 .f32) (x1 : Vec Ideal S2x8x1536 .f32) : Vec Ideal S2x2048x1536 .f32 := fun i =>
  (∑ k : Fin 8, Cert.Sgu.weighted (x0 (ix2 k (i 1))) * x1 (ix3 (i 0) k (i 2)) : EReal)

/-- One block's product. -/
theorem pay_apply (x0 : Vec Ideal S8x1024 .f32) (x1 : Vec Ideal S1x8x768 .f32) (i : S1x1024x768.Idx) :
    k0_pay1 x0 x1 i = ∑ k : Fin 8, Cert.Sgu.weighted (x0 (ix2 k (i 1))) * x1 (ix3 0 k (i 2)) := by
  unfold k0_pay1
  pointwise
  simp only [zero_sub]
  rfl

/-- The whole result: every block is the product at its place. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨a0, a1, a2⟩ := idx t
  have r0 : (((cfg0.win 2).blk t).view.emb y 0).val = t.val / 4 * 1 + (y 0).val := (win0_2.rect_emb_val t y 0).trans (by rw [a2]; rfl)
  have r1 : (((cfg0.win 2).blk t).view.emb y 1).val = t.val % 4 / 2 * 1024 + (y 1).val := (win0_2.rect_emb_val t y 1).trans (by rw [a2]; rfl)
  have r2 : (((cfg0.win 2).blk t).view.emb y 2).val = t.val % 2 * 768 + (y 2).val := (win0_2.rect_emb_val t y 2).trans (by rw [a2]; rfl)
  have hy : (y 0).val < 1 := (y 0).isLt
  rw [after0_2]
  frame_out
  refine (pay_apply _ _ _).trans (Finset.sum_congr rfl fun k _ => congrArg₂ (fun a b => Cert.Sgu.weighted a * b) ?_ ?_)
  · refine (congrFun (V_main_arg0 m c) _).trans (congrArg _ (funext fun a => Fin.ext ?_))
    refine (win0_0.rect_emb_val t _ a).trans ?_
    rw [a0]
    match a with
    | ⟨0, _⟩ => exact Nat.zero_add _
    | ⟨1, _⟩ => exact r1.symm
  · refine (congrFun (V_main_arg1 m c) _).trans (congrArg _ (funext fun a => Fin.ext ?_))
    refine (win0_1.rect_emb_val t _ a).trans ?_
    rw [a1]
    match a with
    | ⟨0, _⟩ =>
      show t.val / 4 * 1 + 0 = (((cfg0.win 2).blk t).view.emb y 0).val
      rw [r0]
      omega
    | ⟨1, _⟩ => exact Nat.zero_add _
    | ⟨2, _⟩ => exact r2.symm

/-- The reference's activation. -/
theorem ref_weighted (x0 : Vec Ideal S8x2048 .f32) (i : S8x2048.Idx) :
    Cert.Reference15Ideal.Read.val_main_v1 (F := Ideal) x0 i = Cert.Sgu.weighted (x0 i) := by
  rw [Cert.Reference15Ideal.Read.val_main_v1_apply, Cert.Reference15Ideal.Read.val_main_call0_v5_apply, Cert.Reference15Ideal.Read.val_main_call0_v4_apply,
    Cert.Reference15Ideal.Read.val_main_call0_v3_apply, Cert.Reference15Ideal.Read.val_main_call0_v2_apply, Cert.Reference15Ideal.Read.val_main_call0_v1_apply,
    Cert.Reference15Ideal.Read.val_main_call0_v0_apply, Cert.Reference15Ideal.Read.val_main_call0_cst_apply, Cert.Reference15Ideal.Read.val_main_call0_cst_0_apply]
  unfold Cert.Sgu.weighted
  rw [← Ideal.ofBits_one_f32]
  rfl

/-- The reference's result is that product. -/
theorem reference_eq (x0 : Vec Ideal S8x2048 .f32) (x1 : Vec Ideal S2x8x1536 .f32) :
    Cert.Reference15Ideal.Read.val_main_v6 (F := Ideal) x0 x1 = product x0 x1 := by
  refine funext fun i => (Cert.Reference15Ideal.Read.val_main_v6_apply x0 x1 i).trans ((Cert.Reference15Ideal.Read.val_main_v5_apply x0 x1 _).trans ?_)
  refine Finset.sum_congr rfl fun k _ => ?_
  rw [ref_weighted, Cert.Reference15Ideal.Read.val_main_v4_apply, mul_comm]
  refine congrArg₂ (fun a b => Cert.Sgu.weighted a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl
    | ⟨2, _⟩ => rfl

/-- The kernel and the reference end with equal results. -/
theorem algebraic : Cert.algebraic_Kernel15Ideal_Reference15Ideal := by
  intro m g m' g' _ hagree
  refine ⟨fun c => product (m ((c.tc : Thread nD τ).loc main_arg0)) (m ((c.tc : Thread nD τ).loc main_arg1)), ?_, ?_⟩
  · refine θ_run_mono (run_blocks m g) fun r h c => ?_
    obtain ⟨r0, ra⟩ := h c
    exact ⟨r0.trans (final m c), ra⟩
  · refine θ_run_mono (Cert.Reference15Ideal.Value.run m' g') fun r h c => ?_
    obtain ⟨r0, ra⟩ := h c
    obtain ⟨a0, a1⟩ := hagree c
    exact ⟨r0.trans ((Cert.Reference15Ideal.Read.val_main_v6_eq _ _).trans
      ((congrArg₂ (fun x y => Cert.Reference15Ideal.Read.val_main_v6 (F := Ideal) x y) a0 a1).trans (reference_eq _ _))), ra⟩

end Cert.ModDw

end
-- ==== Proof.NormFwd.lean ====
/-
  The modulated norm of the first layer: rows over their root mean square, in blocks of 256 rows.
-/
module

public import proofs.«01_k».proof.Defs
public import proofs.«01_k».proof.Proof.Gen.Kernel16Ideal.Value
public import proofs.«01_k».proof.Proof.Gen.Reference16Ideal.Read
public import proofs.«01_k».proof.Proof.Gen.Reference16Ideal.Run
public import Idealize.ShloMosaic.Lib.Pipeline.ValueKit
public import Idealize.ShloMosaic.Lib.Claim
public import Idealize.ShloMosaic.Lib.Pointwise

@[expose] public section

set_option maxRecDepth 16384

noncomputable section

namespace Cert.NormFwd

open Cert.Kernel16Ideal Cert.Kernel16Ideal.Gen Idealize.ShloMosaic Idealize.ShloMosaic.TcCoe Cert.Kernel16Ideal.Value

/-- The block each window shows at a grid point. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- One row of the modulated norm. -/
def modRow (z : Fin 2048 → EReal) (g s b : Vec Ideal S1x2048 .f32) (n : Fin 2048) : EReal :=
  z n * Ideal.rsqrt (Ideal.div (∑ k, z k * z k) (Ideal.ofBits .f32 0x45000000#32) + Ideal.ofBits .f32 0x358637BD#32) * g (ix2 0 n)
    * (1 + s (ix2 0 n)) + b (ix2 0 n)

/-- The block's modulated norm, entry by entry. -/
theorem pay_apply (v0 : Vec Ideal S256x2048 .f32) (v1 v2 v3 : Vec Ideal S1x2048 .f32) (i : S256x2048.Idx) :
    k0_pay1 v0 v1 v2 v3 i = modRow (fun k => v0 (ix2 (i 0) k)) v1 v2 v3 (i 1) := by
  obtain ⟨r, n, rfl⟩ : ∃ (r : Fin 256) (n : Fin 2048), i = ix2 r n := ⟨i 0, i 1, eq_ix2 i⟩
  unfold k0_pay1 modRow
  pointwise

/-- The modulated norm of an array of rows. -/
def normed (x0 : Vec Ideal S4096x2048 .f32) (x1 x2 x3 : Vec Ideal S1x2048 .f32) : Vec Ideal S4096x2048 .bf16 :=
  fun i => modRow (fun k => x0 (ix2 (i 0) k)) x1 x2 x3 (i 1)

variable (m : (ℓ : Loc nD τ sig) → Buf (Elt Ideal) ℓ)

/-- The whole result: every block is the norm of its rows. -/
theorem final (c : Dev nD) : (dats m 0 c).arrAt 4 cfg0.N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨a0, a1, a2, a3, a4⟩ := idx t
  have r0 : (((cfg0.win 4).blk t).view.emb y 0).val = t.val * 256 + (y 0).val := (win0_4.rect_emb_val t y 0).trans (by rw [a4]; rfl)
  have r1 : ((cfg0.win 4).blk t).view.emb y 1 = y 1 := Fin.ext ((win0_4.rect_emb_val t y 1).trans (by rw [a4]; exact Nat.zero_add _))
  rw [after0_4]
  frame_out
  refine (pay_apply _ _ _ _ _).trans ?_
  have e0 : ∀ k : Fin 2048, iblk m c 0 t (ix2 (y 0) k) = m ((c : Thread nD τ).loc main_arg0) (ix2 (((cfg0.win 4).blk t).view.emb y 0) k) := fun k => by
    refine (congrFun (V_main_arg0 m c) _).trans (congrArg _ (funext fun a => Fin.ext ?_))
    refine (win0_0.rect_emb_val t _ a).trans ?_
    rw [a0]
    match a with
    | ⟨0, _⟩ => exact r0.symm
    | ⟨1, _⟩ => exact Nat.zero_add _
  have e1 : (iblk m c 1 t : Vec Ideal S1x2048 .f32) = m ((c : Thread nD τ).loc main_arg1) := by
    refine funext fun i => (congrFun (V_main_arg1 m c) _).trans (congrArg _ (funext fun a => Fin.ext ?_))
    refine (win0_1.rect_emb_val t _ a).trans ?_
    rw [a1]
    match a with
    | ⟨0, _⟩ => exact Nat.zero_add _
    | ⟨1, _⟩ => exact Nat.zero_add _
  have e2 : (iblk m c 2 t : Vec Ideal S1x2048 .f32) = m ((c : Thread nD τ).loc main_arg2) := by
    refine funext fun i => (congrFun (V_main_arg2 m c) _).trans (congrArg _ (funext fun a => Fin.ext ?_))
    refine (win0_2.rect_emb_val t _ a).trans ?_
    rw [a2]
    match a with
    | ⟨0, _⟩ => exact Nat.zero_add _
    | ⟨1, _⟩ => exact Nat.zero_add _
  have e3 : (iblk m c 3 t : Vec Ideal S1x2048 .f32) = m ((c : Thread nD τ).loc main_arg3) := by
    refine funext fun i => (congrFun (V_main_arg3 m c) _).trans (congrArg _ (funext fun a => Fin.ext ?_))
    refine (win0_3.rect_emb_val t _ a).trans ?_
    rw [a3]
    match a with
    | ⟨0, _⟩ => exact Nat.zero_add _
    | ⟨1, _⟩ => exact Nat.zero_add _
  show _ = modRow (fun k => m ((c : Thread nD τ).loc main_arg0) (ix2 (((cfg0.win 4).blk t).view.emb y 0) k)) _ _ _ (((cfg0.win 4).blk t).view.emb y 1)
  rw [r1, ← funext e0, ← e1, ← e2, ← e3]

/-- The sum of the squares of a row. -/
theorem ref_squares (x0 : Vec Ideal S4096x2048 .f32) (r : Fin 4096) :
    Cert.Reference16Ideal.Read.val_main_v1 (F := Ideal) x0 (ix1 r) = ∑ k : Fin 2048, x0 (ix2 r k) * x0 (ix2 r k) := by
  refine (Cert.Reference16Ideal.Read.val_main_v1_apply x0 _).trans ?_
  refine (congrArg (fun z : EReal => z + _) Ideal.ofBits_zero_f32).trans ((zero_add _).trans (Finset.sum_congr rfl fun k _ => ?_))
  rw [Cert.Reference16Ideal.Read.val_main_v0_apply]
  have e : Cert.Reference16Ideal.Read.idx_main_v1 (ix1 r) k = ix2 r k := funext fun a => match a with
    | ⟨0, _⟩ => rfl
    | ⟨1, _⟩ => rfl
  rw [e]
  rfl

/-- The reference's modulated norm. -/
theorem reference_eq (x0 : Vec Ideal S4096x2048 .f32) (x1 x2 x3 : Vec Ideal S1x2048 .f32) :
    Cert.Reference16Ideal.Read.val_main_v18 (F := Ideal) x0 x1 x2 x3 = normed x0 x1 x2 x3 := by
  refine funext fun i => (Cert.Reference16Ideal.Read.val_main_v18_apply x0 x1 x2 x3 i).trans ?_
  obtain ⟨r, n, rfl⟩ : ∃ (r : Fin 4096) (n : Fin 2048), i = ix2 r n := ⟨i 0, i 1, eq_ix2 i⟩
  have e10 : Cert.Reference16Ideal.Read.idx_main_v10 (ix2 r n) = ix2 0 n := funext fun a => match a with
    | ⟨0, _⟩ => rfl
    | ⟨1, _⟩ => rfl
  have e14 : Cert.Reference16Ideal.Read.idx_main_v14 (ix2 r n) = ix2 0 n := funext fun a => match a with
    | ⟨0, _⟩ => rfl
    | ⟨1, _⟩ => rfl
  have e16 : Cert.Reference16Ideal.Read.idx_main_v16 (ix2 r n) = ix2 0 n := funext fun a => match a with
    | ⟨0, _⟩ => rfl
    | ⟨1, _⟩ => rfl
  have e2 : Cert.Reference16Ideal.Read.idx_main_v2 (Cert.Reference16Ideal.Read.idx_main_v8 (ix2 r n)) = ix1 r := funext fun a => match a with
    | ⟨0, _⟩ => rfl
  rw [Cert.Reference16Ideal.Read.val_main_v17_apply, Cert.Reference16Ideal.Read.val_main_v16_apply, Cert.Reference16Ideal.Read.val_main_v15_apply, Cert.Reference16Ideal.Read.val_main_v14_apply,
    Cert.Reference16Ideal.Read.val_main_v13_apply, Cert.Reference16Ideal.Read.val_main_v12_apply, Cert.Reference16Ideal.Read.val_main_v11_apply, Cert.Reference16Ideal.Read.val_main_v10_apply,
    Cert.Reference16Ideal.Read.val_main_v9_apply, Cert.Reference16Ideal.Read.val_main_v8_apply, Cert.Reference16Ideal.Read.val_main_v7_apply, Cert.Reference16Ideal.Read.val_main_v6_apply,
    Cert.Reference16Ideal.Read.val_main_v5_apply, Cert.Reference16Ideal.Read.val_main_v4_apply, Cert.Reference16Ideal.Read.val_main_v3_apply, Cert.Reference16Ideal.Read.val_main_v2_apply,
    e10, e14, e16, e2, ref_squares, Cert.Reference16Ideal.Read.val_main_cst_0_apply, Cert.Reference16Ideal.Read.val_main_cst_1_apply, Cert.Reference16Ideal.Read.val_main_cst_2_apply]
  unfold normed modRow
  rw [← Ideal.ofBits_one_f32]
  rfl

/-- The kernel and the reference end with equal results. -/
theorem algebraic : Cert.algebraic_Kernel16Ideal_Reference16Ideal := by
  intro m g m' g' _ hagree
  refine ⟨fun c => normed (m ((c.tc : Thread nD τ).loc main_arg0)) (m ((c.tc : Thread nD τ).loc main_arg1)) (m ((c.tc : Thread nD τ).loc main_arg2)) (m ((c.tc : Thread nD τ).loc main_arg3)), ?_, ?_⟩
  · refine θ_run_mono (run_blocks m g) fun r h c => ?_
    obtain ⟨r0, ra⟩ := h c
    exact ⟨r0.trans (final m c), ra⟩
  · refine θ_run_mono (Cert.Reference16Ideal.Value.run m' g') fun r h c => ?_
    obtain ⟨r0, ra⟩ := h c
    obtain ⟨a0, a1, a2, a3⟩ := hagree c
    exact ⟨r0.trans ((Cert.Reference16Ideal.Read.val_main_v18_eq _ _ _ _).trans ((reference_eq _ _ _ _).trans (by rw [a0, a1, a2, a3]))), ra⟩

end Cert.NormFwd

end
-- ==== Proof.ModFirst.lean ====
/-
  The modulation's rows of the first of two layers: the batch's activations times the weights, with the bias, in blocks of 768 columns.
-/
module

public import proofs.«01_k».proof.Defs
public import proofs.«01_k».proof.Proof.Gen.Kernel17Ideal.Value
public import proofs.«01_k».proof.Proof.Gen.Reference17Ideal.Read
public import proofs.«01_k».proof.Proof.Gen.Reference17Ideal.Run
public import proofs.«01_k».proof.Proof.Weighted
public import Idealize.ShloMosaic.Lib.Pipeline.ValueKit
public import Idealize.ShloMosaic.Lib.Claim
public import Idealize.ShloMosaic.Lib.Pointwise

@[expose] public section

set_option maxRecDepth 16384

noncomputable section

namespace Cert.ModFirst

open Cert.Kernel17Ideal Cert.Kernel17Ideal.Gen Idealize.ShloMosaic Idealize.ShloMosaic.TcCoe Cert.Kernel17Ideal.Value

/-- The block each window shows at a grid point. -/
theorem idx : ∀ t : Fin cfg0.N, win0_0.index t = ![0, 0] ∧ win0_1.index t = ![0, 0, t.val] ∧ win0_2.index t = ![0, t.val] ∧ win0_3.index t = ![0, t.val] :=
  (by decide +kernel : ∀ t : Fin grid0.N, _)

variable (m : (ℓ : Loc nD τ sig) → Buf (Elt Ideal) ℓ)

/-- The activations of a member of the batch against a column of the layer's weights, with the column's bias. -/
def affine (x0 : Vec Ideal S8x2048 .f32) (x1 : Vec Ideal S2x2048x1536 .f32) (x2 : Vec Ideal S1x1536 .f32) : Vec Ideal S8x1536 .f32 := fun i =>
  ((∑ k : Fin 2048, Cert.Sgu.weighted (x0 (ix2 (i 0) k)) * x1 (ix3 0 k (i 1))) + x2 (ix2 0 (i 1)) : EReal)

/-- One block's rows. -/
theorem pay_apply (x0 : Vec Ideal S8x2048 .f32) (x1 : Vec Ideal S1x2048x768 .f32) (x2 : Vec Ideal S1x768 .f32) (i : S8x768.Idx) :
    k0_pay1 x0 x1 x2 i = (∑ k : Fin 2048, Cert.Sgu.weighted (x0 (ix2 (i 0) k)) * x1 (ix3 0 k (i 1))) + x2 (ix2 0 (i 1)) := by
  unfold k0_pay1
  pointwise
  simp only [zero_sub]
  rfl

/-- The whole result: every block is the rows at its place. -/
theorem final (c : Dev nD) : (dats m 0 c).arrAt 3 cfg0.N
    = affine (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨a0, a1, a2, a3⟩ := idx t
  have r0 : (((cfg0.win 3).blk t).view.emb y 0).val = 0 * 8 + (y 0).val := (win0_3.rect_emb_val t y 0).trans (by rw [a3]; rfl)
  have r1 : (((cfg0.win 3).blk t).view.emb y 1).val = t.val * 768 + (y 1).val := (win0_3.rect_emb_val t y 1).trans (by rw [a3]; rfl)
  rw [after0_3]
  frame_out
  refine (pay_apply _ _ _ _).trans (congrArg₂ (fun a b : EReal => a + b) (Finset.sum_congr rfl fun k _ => congrArg₂ (fun a b => Cert.Sgu.weighted a * b) ?_ ?_) ?_)
  · refine (congrFun (V_main_arg0 m c) _).trans (congrArg _ (funext fun a => Fin.ext ?_))
    refine (win0_0.rect_emb_val t _ a).trans ?_
    rw [a0]
    match a with
    | ⟨0, _⟩ => exact r0.symm
    | ⟨1, _⟩ => exact Nat.zero_add _
  · refine (congrFun (V_main_arg1 m c) _).trans (congrArg _ (funext fun a => Fin.ext ?_))
    refine (win0_1.rect_emb_val t _ a).trans ?_
    rw [a1]
    match a with
    | ⟨0, _⟩ => rfl
    | ⟨1, _⟩ => exact Nat.zero_add _
    | ⟨2, _⟩ => exact r1.symm
  · refine (congrFun (V_main_arg2 m c) _).trans (congrArg _ (funext fun a => Fin.ext ?_))
    refine (win0_2.rect_emb_val t _ a).trans ?_
    rw [a2]
    match a with
    | ⟨0, _⟩ => rfl
    | ⟨1, _⟩ => exact r1.symm

/-- The reference's activation. -/
theorem ref_weighted (x0 : Vec Ideal S8x2048 .f32) (i : S8x2048.Idx) :
    Cert.Reference17Ideal.Read.val_main_v0 (F := Ideal) x0 i = Cert.Sgu.weighted (x0 i) := by
  rw [Cert.Reference17Ideal.Read.val_main_v0_apply, Cert.Reference17Ideal.Read.val_main_call0_v5_apply, Cert.Reference17Ideal.Read.val_main_call0_v4_apply,
    Cert.Reference17Ideal.Read.val_main_call0_v3_apply, Cert.Reference17Ideal.Read.val_main_call0_v2_apply, Cert.Reference17Ideal.Read.val_main_call0_v1_apply,
    Cert.Reference17Ideal.Read.val_main_call0_v0_apply, Cert.Reference17Ideal.Read.val_main_call0_cst_apply, Cert.Reference17Ideal.Read.val_main_call0_cst_0_apply]
  unfold Cert.Sgu.weighted
  rw [← Ideal.ofBits_one_f32]
  rfl

/-- The reference's result is those rows. -/
theorem reference_eq (x0 : Vec Ideal S8x2048 .f32) (x1 : Vec Ideal S2x2048x1536 .f32) (x2 : Vec Ideal S1x1536 .f32) :
    Cert.Reference17Ideal.Read.val_main_v5 (F := Ideal) x0 x1 x2 = affine x0 x1 x2 := by
  refine funext fun i => (Cert.Reference17Ideal.Read.val_main_v5_apply x0 x1 x2 i).trans ?_
  rw [Cert.Reference17Ideal.Read.val_main_v3_apply, Cert.Reference17Ideal.Read.val_main_v4_apply]
  refine congrArg₂ (fun a b : EReal => a + b) (Finset.sum_congr rfl fun k _ => ?_) (congrArg x2 (funext fun a => ?_))
  · rw [ref_weighted, Cert.Reference17Ideal.Read.val_main_v2_apply, Cert.Reference17Ideal.Read.val_main_v1_apply]
    refine congrArg₂ (fun a b => Cert.Sgu.weighted a * b) (congrArg x0 (funext fun a => ?_)) (congrArg x1 (funext fun a => Fin.ext ?_))
    · match a with
      | ⟨0, _⟩ => rfl
      | ⟨1, _⟩ => rfl
    · have hk : k.val < 2048 := k.isLt
      have hi : (i 1).val < 1536 := (i 1).isLt
      match a with
      | ⟨0, _⟩ => rfl
      | ⟨1, _⟩ =>
        show (k.val * 1536 + (i 1).val) / 1536 % 2048 = k.val
        omega
      | ⟨2, _⟩ =>
        show (k.val * 1536 + (i 1).val) % 1536 = (i 1).val
        omega
  · match a with
    | ⟨0, _⟩ => rfl
    | ⟨1, _⟩ => rfl

/-- The kernel and the reference end with equal results. -/
theorem algebraic : Cert.algebraic_Kernel17Ideal_Reference17Ideal := by
  intro m g m' g' _ hagree
  refine ⟨fun c => affine (m ((c.tc : Thread nD τ).loc main_arg0)) (m ((c.tc : Thread nD τ).loc main_arg1)) (m ((c.tc : Thread nD τ).loc main_arg2)), ?_, ?_⟩
  · refine θ_run_mono (run_blocks m g) fun r h c => ?_
    obtain ⟨r0, ra⟩ := h c
    exact ⟨r0.trans (final m c), ra⟩
  · refine θ_run_mono (Cert.Reference17Ideal.Value.run m' g') fun r h c => ?_
    obtain ⟨r0, ra⟩ := h c
    obtain ⟨a0, a1, a2⟩ := hagree c
    exact ⟨r0.trans ((Cert.Reference17Ideal.Read.val_main_v5_eq _ _ _).trans ((reference_eq _ _ _).trans (by rw [a0, a1, a2]))), ra⟩

end Cert.ModFirst

end
-- ==== Proof.ModSecond.lean ====
/-
  The modulation's rows of the second of two layers: the batch's activations times the weights, with the bias, in blocks of 768 columns.
-/
module

public import proofs.«01_k».proof.Defs
public import proofs.«01_k».proof.Proof.Gen.Kernel18Ideal.Value
public import proofs.«01_k».proof.Proof.Gen.Reference18Ideal.Read
public import proofs.«01_k».proof.Proof.Gen.Reference18Ideal.Run
public import proofs.«01_k».proof.Proof.Weighted
public import Idealize.ShloMosaic.Lib.Pipeline.ValueKit
public import Idealize.ShloMosaic.Lib.Claim
public import Idealize.ShloMosaic.Lib.Pointwise

@[expose] public section

set_option maxRecDepth 16384

noncomputable section

namespace Cert.ModSecond

open Cert.Kernel18Ideal Cert.Kernel18Ideal.Gen Idealize.ShloMosaic Idealize.ShloMosaic.TcCoe Cert.Kernel18Ideal.Value

/-- The block each window shows at a grid point. -/
theorem idx : ∀ t : Fin cfg0.N, win0_0.index t = ![0, 0] ∧ win0_1.index t = ![1, 0, t.val] ∧ win0_2.index t = ![0, t.val] ∧ win0_3.index t = ![0, t.val] :=
  (by decide +kernel : ∀ t : Fin grid0.N, _)

variable (m : (ℓ : Loc nD τ sig) → Buf (Elt Ideal) ℓ)

/-- The activations of a member of the batch against a column of the layer's weights, with the column's bias. -/
def affine (x0 : Vec Ideal S8x2048 .f32) (x1 : Vec Ideal S2x2048x1536 .f32) (x2 : Vec Ideal S1x1536 .f32) : Vec Ideal S8x1536 .f32 := fun i =>
  ((∑ k : Fin 2048, Cert.Sgu.weighted (x0 (ix2 (i 0) k)) * x1 (ix3 1 k (i 1))) + x2 (ix2 0 (i 1)) : EReal)

/-- One block's rows. -/
theorem pay_apply (x0 : Vec Ideal S8x2048 .f32) (x1 : Vec Ideal S1x2048x768 .f32) (x2 : Vec Ideal S1x768 .f32) (i : S8x768.Idx) :
    k0_pay1 x0 x1 x2 i = (∑ k : Fin 2048, Cert.Sgu.weighted (x0 (ix2 (i 0) k)) * x1 (ix3 0 k (i 1))) + x2 (ix2 0 (i 1)) := by
  unfold k0_pay1
  pointwise
  simp only [zero_sub]
  rfl

/-- The whole result: every block is the rows at its place. -/
theorem final (c : Dev nD) : (dats m 0 c).arrAt 3 cfg0.N
    = affine (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨a0, a1, a2, a3⟩ := idx t
  have r0 : (((cfg0.win 3).blk t).view.emb y 0).val = 0 * 8 + (y 0).val := (win0_3.rect_emb_val t y 0).trans (by rw [a3]; rfl)
  have r1 : (((cfg0.win 3).blk t).view.emb y 1).val = t.val * 768 + (y 1).val := (win0_3.rect_emb_val t y 1).trans (by rw [a3]; rfl)
  rw [after0_3]
  frame_out
  refine (pay_apply _ _ _ _).trans (congrArg₂ (fun a b : EReal => a + b) (Finset.sum_congr rfl fun k _ => congrArg₂ (fun a b => Cert.Sgu.weighted a * b) ?_ ?_) ?_)
  · refine (congrFun (V_main_arg0 m c) _).trans (congrArg _ (funext fun a => Fin.ext ?_))
    refine (win0_0.rect_emb_val t _ a).trans ?_
    rw [a0]
    match a with
    | ⟨0, _⟩ => exact r0.symm
    | ⟨1, _⟩ => exact Nat.zero_add _
  · refine (congrFun (V_main_arg1 m c) _).trans (congrArg _ (funext fun a => Fin.ext ?_))
    refine (win0_1.rect_emb_val t _ a).trans ?_
    rw [a1]
    match a with
    | ⟨0, _⟩ => rfl
    | ⟨1, _⟩ => exact Nat.zero_add _
    | ⟨2, _⟩ => exact r1.symm
  · refine (congrFun (V_main_arg2 m c) _).trans (congrArg _ (funext fun a => Fin.ext ?_))
    refine (win0_2.rect_emb_val t _ a).trans ?_
    rw [a2]
    match a with
    | ⟨0, _⟩ => rfl
    | ⟨1, _⟩ => exact r1.symm

/-- The reference's activation. -/
theorem ref_weighted (x0 : Vec Ideal S8x2048 .f32) (i : S8x2048.Idx) :
    Cert.Reference18Ideal.Read.val_main_v0 (F := Ideal) x0 i = Cert.Sgu.weighted (x0 i) := by
  rw [Cert.Reference18Ideal.Read.val_main_v0_apply, Cert.Reference18Ideal.Read.val_main_call0_v5_apply, Cert.Reference18Ideal.Read.val_main_call0_v4_apply,
    Cert.Reference18Ideal.Read.val_main_call0_v3_apply, Cert.Reference18Ideal.Read.val_main_call0_v2_apply, Cert.Reference18Ideal.Read.val_main_call0_v1_apply,
    Cert.Reference18Ideal.Read.val_main_call0_v0_apply, Cert.Reference18Ideal.Read.val_main_call0_cst_apply, Cert.Reference18Ideal.Read.val_main_call0_cst_0_apply]
  unfold Cert.Sgu.weighted
  rw [← Ideal.ofBits_one_f32]
  rfl

/-- The reference's result is those rows. -/
theorem reference_eq (x0 : Vec Ideal S8x2048 .f32) (x1 : Vec Ideal S2x2048x1536 .f32) (x2 : Vec Ideal S1x1536 .f32) :
    Cert.Reference18Ideal.Read.val_main_v5 (F := Ideal) x0 x1 x2 = affine x0 x1 x2 := by
  refine funext fun i => (Cert.Reference18Ideal.Read.val_main_v5_apply x0 x1 x2 i).trans ?_
  rw [Cert.Reference18Ideal.Read.val_main_v3_apply, Cert.Reference18Ideal.Read.val_main_v4_apply]
  refine congrArg₂ (fun a b : EReal => a + b) (Finset.sum_congr rfl fun k _ => ?_) (congrArg x2 (funext fun a => ?_))
  · rw [ref_weighted, Cert.Reference18Ideal.Read.val_main_v2_apply, Cert.Reference18Ideal.Read.val_main_v1_apply]
    refine congrArg₂ (fun a b => Cert.Sgu.weighted a * b) (congrArg x0 (funext fun a => ?_)) (congrArg x1 (funext fun a => Fin.ext ?_))
    · match a with
      | ⟨0, _⟩ => rfl
      | ⟨1, _⟩ => rfl
    · have hk : k.val < 2048 := k.isLt
      have hi : (i 1).val < 1536 := (i 1).isLt
      match a with
      | ⟨0, _⟩ => rfl
      | ⟨1, _⟩ =>
        show (k.val * 1536 + (i 1).val) / 1536 % 2048 = k.val
        omega
      | ⟨2, _⟩ =>
        show (k.val * 1536 + (i 1).val) % 1536 = (i 1).val
        omega
  · match a with
    | ⟨0, _⟩ => rfl
    | ⟨1, _⟩ => rfl

/-- The kernel and the reference end with equal results. -/
theorem algebraic : Cert.algebraic_Kernel18Ideal_Reference18Ideal := by
  intro m g m' g' _ hagree
  refine ⟨fun c => affine (m ((c.tc : Thread nD τ).loc main_arg0)) (m ((c.tc : Thread nD τ).loc main_arg1)) (m ((c.tc : Thread nD τ).loc main_arg2)), ?_, ?_⟩
  · refine θ_run_mono (run_blocks m g) fun r h c => ?_
    obtain ⟨r0, ra⟩ := h c
    exact ⟨r0.trans (final m c), ra⟩
  · refine θ_run_mono (Cert.Reference18Ideal.Value.run m' g') fun r h c => ?_
    obtain ⟨r0, ra⟩ := h c
    obtain ⟨a0, a1, a2⟩ := hagree c
    exact ⟨r0.trans ((Cert.Reference18Ideal.Read.val_main_v5_eq _ _ _).trans ((reference_eq _ _ _).trans (by rw [a0, a1, a2]))), ra⟩

end Cert.ModSecond

end
-- ==== Proof.GateSpec.lean ====
/-
  The gating unit, as functions of natural coordinates with extended real values. `X` holds the three projections u, v and z side by side, `g` and `b`
  the norm's gain and shift, `W` and `B` the spatial mix's matrices and biases.
-/
module

public import proofs.«01_k».proof.Proof.Coe

@[expose] public section

set_option maxRecDepth 16384

noncomputable section

namespace Cert.Gate

open Cert.Sgu Idealize.ShloMosaic

/-- GELU in its tanh form. -/
def gelu (x : EReal) : EReal :=
  x * (((1 / 2 : ℝ) : EReal) * (1 + Ideal.tanh (((kk : ℝ) : EReal) * (x + ((8943 / 200000 : ℝ) : EReal) * (x * x * x)))))

/-- SiLU. -/
def silu (x : EReal) : EReal := x * Ideal.div 1 (1 + Ideal.exp (-x))

variable (X : ℕ → ℕ → EReal) (g b : ℕ → EReal) (W : ℕ → ℕ → ℕ → EReal) (B : ℕ → ℕ → EReal)

/-- The activated value branch. -/
def gv (r c : ℕ) : EReal := gelu (X r (2048 + c))

/-- The row with its mean taken off. -/
def xc (r c : ℕ) : EReal := gv X r c - Ideal.div (∑ k : Fin 2048, gv X r k.val) ((2048 : ℝ) : EReal)

/-- The reciprocal standard deviation of a row, the epsilon under the root. -/
def rs (r : ℕ) : EReal := Ideal.rsqrt (Ideal.div (∑ k : Fin 2048, xc X r k.val * xc X r k.val) ((2048 : ℝ) : EReal) + ((eps : ℝ) : EReal))

/-- The norm's output. -/
def vn (r c : ℕ) : EReal := xc X r c * rs X r * g c + b c

/-- The spatial mix: inside each chunk of 128 rows, a product with the group's matrix, plus a bias. -/
def mixed (r c : ℕ) : EReal :=
  ∑ s : Fin 128, W (c / 256) (r % 128) s.val * vn X g b (r / 128 * 128 + s.val) c + B (c / 256) (r % 128)

/-- The unit's result. -/
def out (r c : ℕ) : EReal := gelu (X r c) * mixed X g b W B r c * silu (X r (4096 + c))

/-- GELU as the kernel multiplies it out. -/
theorem gelu_eq (x : EReal) :
    ((1 / 2 : ℝ) : EReal) * x * (1 + Ideal.tanh (((kk : ℝ) : EReal) * (x + ((8943 / 200000 : ℝ) : EReal) * x * x * x))) = gelu x := by
  rw [gelu, mul_comm ((1 / 2 : ℝ) : EReal) x, mul_assoc x, mul_assoc _ x x, mul_assoc _ x (x * x), mul_assoc x x x]

/-- One tile of the kernel's result, at indices that agree with the result's row `r` and column `c`. -/
theorem out_tile {r c r0 c0 r1 q t : ℕ} {qs ts ss rs cs : Fin 128 → ℕ} (hr : r0 = r) (hc : c0 = c) (hr1 : r1 = r) {c1 : ℕ} (hc1 : c1 = 4096 + c)
    (hqs : ∀ i, qs i = c / 256) (hts : ∀ i, ts i = r % 128) (hss : ∀ i, ss i = i.val) (hrs : ∀ i, rs i = r / 128 * 128 + i.val)
    (hcs : ∀ i, cs i = c) (hq : q = c / 256) (ht : t = r % 128) :
    gelu (X r0 c0) * (∑ i : Fin 128, W (qs i) (ts i) (ss i) * vn X g b (rs i) (cs i) + B q t)
        * (X r1 c1 * Ideal.div 1 (1 + Ideal.exp (-X r1 c1)))
      = out X g b W B r c := by
  simp only [hqs, hts, hss, hrs, hcs, hr, hc, hr1, hc1, hq, ht, out, mixed, silu]

end Cert.Gate

end
-- ==== Proof.GateRef.lean ====
/-
  The reference's gating unit, read at an index: it is the function of `GateSpec`.
-/
module

public import proofs.«01_k».proof.Proof.GateSpec
public import proofs.«01_k».proof.Proof.Gen.Reference19Ideal.Read
public import Idealize.ShloMosaic.Lib.Pipeline.ValueKit

@[expose] public section

set_option maxRecDepth 16384

noncomputable section

namespace Cert.Gate.Ref

open Cert.Reference19Ideal Cert.Reference19Ideal.Gen Cert.Reference19Ideal.Read Idealize.ShloMosaic Cert.Sgu

variable {X : ℕ → ℕ → EReal} {g b : ℕ → EReal} {W : ℕ → ℕ → ℕ → EReal} {B : ℕ → ℕ → EReal}
variable {x0 : (⟨S4096x6144, .bf16⟩ : BufTy).Contents (Elt Ideal)} {x1 x2 : (⟨S1x2048, .f32⟩ : BufTy).Contents (Elt Ideal)}
  {x3 : (⟨S8x128x128, .f32⟩ : BufTy).Contents (Elt Ideal)} {x4 : (⟨S8x128, .f32⟩ : BufTy).Contents (Elt Ideal)}
variable (h0 : ∀ i, x0 i = X (i 0).val (i 1).val) (h1 : ∀ i, x1 i = g (i 1).val) (h2 : ∀ i, x2 i = b (i 1).val)
  (h3 : ∀ i, x3 i = W (i 0).val (i 1).val (i 2).val) (h4 : ∀ i, x4 i = B (i 0).val (i 1).val)

theorem bits_8943 : Ideal.ofBits .f32 0x460BBC00#32 = ((8943 : ℝ) : EReal) := by
  simp [Ideal.ofBits, Ideal.ieee, -EReal.coe_mul]; norm_num
theorem bits_200000 : Ideal.ofBits .f32 0x48435000#32 = ((200000 : ℝ) : EReal) := by
  simp [Ideal.ofBits, Ideal.ieee, -EReal.coe_mul]; norm_num

/-- The cubic term's coefficient is a quotient of two whole numbers. -/
theorem coefficient (x : EReal) :
    Ideal.div (((8943 : ℝ) : EReal) * x) ((200000 : ℝ) : EReal) = ((8943 / 200000 : ℝ) : EReal) * x := by
  rw [Ideal.div_coe (by norm_num), mul_assoc, mul_comm x, ← mul_assoc, ← EReal.coe_mul]
  norm_num [div_eq_mul_inv]

include h0

theorem u_at (i : S4096x2048.Idx) : val_main_v1 x0 i = X (i 0).val (i 1).val := by
  rw [val_main_v1_apply, val_main_v0_apply]; exact h0 _
theorem v_at (i : S4096x2048.Idx) : val_main_v2 x0 i = X (i 0).val (2048 + (i 1).val) := by
  rw [val_main_v2_apply, val_main_v0_apply]; exact h0 _
theorem z_at (i : S4096x2048.Idx) : val_main_v3 x0 i = X (i 0).val (4096 + (i 1).val) := by
  rw [val_main_v3_apply, val_main_v0_apply]; exact h0 _

theorem gelu_at (i : S4096x2048.Idx) : val_main_v18 x0 i = gelu (X (i 0).val (i 1).val) := by
  simp only [val_main_v18_apply, val_main_v17_apply, val_main_v16_apply, val_main_v15_apply, val_main_v14_apply, val_main_v13_apply,
    val_main_v12_apply, val_main_v11_apply, val_main_v10_apply, val_main_v9_apply, val_main_v8_apply, val_main_v7_apply, val_main_v6_apply,
    val_main_v5_apply, val_main_v4_apply, val_main_cst_apply, val_main_cst_0_apply, val_main_cst_1_apply, val_main_cst_2_apply,
    val_main_cst_3_apply, u_at h0, Ideal.mulf_def, Ideal.addf_def, Ideal.hostDivf_def, Ideal.hostUnary_tanh_def, Ideal.ofBits_def, bits_8943,
    bits_200000, bits_kk, bits_half, bits_one, coefficient, EReal.coe_one]
  rfl

theorem gv_at (i : S4096x2048.Idx) : val_main_v33 x0 i = gv X (i 0).val (i 1).val := by
  simp only [val_main_v33_apply, val_main_v32_apply, val_main_v31_apply, val_main_v30_apply, val_main_v29_apply, val_main_v28_apply,
    val_main_v27_apply, val_main_v26_apply, val_main_v25_apply, val_main_v24_apply, val_main_v23_apply, val_main_v22_apply, val_main_v21_apply,
    val_main_v20_apply, val_main_v19_apply, val_main_cst_4_apply, val_main_cst_5_apply, val_main_cst_6_apply, val_main_cst_7_apply,
    val_main_cst_8_apply, v_at h0, Ideal.mulf_def, Ideal.addf_def, Ideal.hostDivf_def, Ideal.hostUnary_tanh_def, Ideal.ofBits_def, bits_8943,
    bits_200000, bits_kk, bits_half, bits_one, coefficient, EReal.coe_one]
  rfl

theorem xc_at (i : S4096x2048.Idx) : val_main_v39 x0 i = xc X (i 0).val (i 1).val := by
  simp only [val_main_v39_apply, val_main_v38_apply, val_main_v37_apply, val_main_v36_apply, val_main_v35_apply, val_main_v34_apply,
    val_main_cst_9_apply, val_main_cst_10_apply, gv_at h0, Ideal.subf_def, Ideal.hostDivf_def, Ideal.ofBits_def, bits_2048,
    Ideal.ofBits_zero_f32, zero_add]
  rfl

theorem rs_at (i : S4096x1.Idx) : val_main_v47 x0 i = rs X (i 0).val := by
  simp only [val_main_v47_apply, val_main_v46_apply, val_main_v45_apply, val_main_v44_apply, val_main_v43_apply, val_main_v42_apply,
    val_main_v41_apply, val_main_v40_apply, val_main_cst_11_apply, val_main_cst_12_apply, val_main_cst_13_apply, xc_at h0, Ideal.mulf_def,
    Ideal.addf_def, Ideal.hostDivf_def, Ideal.hostUnary_rsqrt_def, Ideal.ofBits_def, bits_2048, bits_eps, Ideal.ofBits_zero_f32, zero_add]
  rfl

theorem silu_at (i : S4096x2048.Idx) : val_main_v63 x0 i = silu (X (i 0).val (4096 + (i 1).val)) := by
  simp only [val_main_v63_apply, val_main_call0_v5_apply, val_main_call0_v4_apply, val_main_call0_v3_apply, val_main_call0_v2_apply,
    val_main_call0_v1_apply, val_main_call0_v0_apply, val_main_call0_cst_apply, val_main_call0_cst_0_apply, z_at h0, Ideal.hostNegf_def,
    Ideal.negf_def, Ideal.mulf_def, Ideal.addf_def, Ideal.hostDivf_def, Ideal.hostUnary_exp_def, Ideal.ofBits_def, bits_one, EReal.coe_one]
  rfl

include h1 h2

theorem vn_at (i : S4096x2048.Idx) : val_main_v53 x0 x1 x2 i = vn X g b (i 0).val (i 1).val := by
  simp only [val_main_v53_apply, val_main_v52_apply, val_main_v51_apply, val_main_v50_apply, val_main_v49_apply, val_main_v48_apply, xc_at h0,
    rs_at h0, h1, h2, Ideal.mulf_def, Ideal.addf_def]
  rfl

/-- The norm's output by chunk, row, group and lane. -/
theorem vn4_at (i : S32x128x8x256.Idx) : val_main_v54 x0 x1 x2 i
    = vn X g b ((i 0).val * 128 + (i 1).val) ((i 2).val * 256 + (i 3).val) := by
  rw [val_main_v54_apply, vn_at h0 h1 h2]
  have e0 : (i 0).val < 32 := (i 0).isLt; have e1 : (i 1).val < 128 := (i 1).isLt
  have e2 : (i 2).val < 8 := (i 2).isLt; have e3 : (i 3).val < 256 := (i 3).isLt
  congr 1
  · show ((((i 0).val * 128 + (i 1).val) * 8 + (i 2).val) * 256 + (i 3).val) / 2048 = _; omega
  · show ((((i 0).val * 128 + (i 1).val) * 8 + (i 2).val) * 256 + (i 3).val) % 2048 = _; omega

include h3 h4

theorem mixed_at (i : S4096x2048.Idx) : val_main_v61 x0 x1 x2 x3 x4 i = mixed X g b W B (i 0).val (i 1).val := by
  simp only [val_main_v61_apply, val_main_v60_apply, val_main_v59_apply, val_main_v58_apply, val_main_v57_apply, val_main_v56_apply,
    val_main_v55_apply, vn4_at h0 h1 h2, h3, h4, Ideal.addf_def]
  have e0 : (i 0).val < 4096 := (i 0).isLt; have e1 : (i 1).val < 2048 := (i 1).isLt
  rw [mixed]
  have a0 : ((i 0).val * 2048 + (i 1).val) / 262144 = (i 0).val / 128 := by omega
  have a1 : ((i 0).val * 2048 + (i 1).val) / 2048 % 128 = (i 0).val % 128 := by omega
  have a2 : ((i 0).val * 2048 + (i 1).val) / 256 % 8 = (i 1).val / 256 := by omega
  have a3 : ((i 0).val * 2048 + (i 1).val) % 256 = (i 1).val % 256 := by omega
  have a4 : (i 1).val / 256 * 256 + (i 1).val % 256 = (i 1).val := by omega
  simp only [a0, a1, a2, a3, a4]
  congr 1
  exact Finset.sum_congr rfl fun s _ => mul_comm _ _

/-- The unit's result. -/
theorem out_at (i : S4096x2048.Idx) : val_main_v65 x0 x1 x2 x3 x4 i = out X g b W B (i 0).val (i 1).val := by
  simp only [val_main_v65_apply, val_main_v64_apply, val_main_v62_apply, gelu_at h0, mixed_at h0 h1 h2 h3 h4, silu_at h0, Ideal.truncf_def,
    Ideal.mulf_def]
  rfl

end Cert.Gate.Ref

end
-- ==== Proof.GateKer.lean ====
/-
  The kernel's gating unit: each grid point computes 256 rows, the norm's output first and then one tile per chunk and channel group, and the array
  after the run is the function of `GateSpec`.
-/
module

public import proofs.«01_k».proof.Proof.GateSpec
public import proofs.«01_k».proof.Proof.Gen.Kernel19Ideal.Value
public import Idealize.ShloMosaic.Lib.Pipeline.ValueKit
public import Idealize.ShloMosaic.Lib.Pipeline.ReadBack

@[expose] public section

set_option maxRecDepth 16384

noncomputable section

namespace Cert.Gate.Ker

open Cert.Kernel19Ideal Cert.Kernel19Ideal.Gen Idealize.ShloMosaic Idealize.ShloMosaic.TcCoe Cert.Kernel19Ideal.Value Cert.Sgu

theorem cubic : (Named.named κ "cubic" 0x3D372713#32 : Ideal .f32) = ((8943 / 200000 : ℝ) : EReal) :=
  IdealRules.named_const.ideal_named_scalar _ _ _ _ rfl

variable {X : ℕ → ℕ → EReal} {g b : ℕ → EReal} {W : ℕ → ℕ → ℕ → EReal} {B : ℕ → ℕ → EReal} {p : ℕ}
variable {b0 b1 b2 : Vec Ideal S256x2048 .bf16} {b3 b4 : Vec Ideal S1x2048 .f32} {b5 : Vec Ideal S8x128x128 .bf16} {b6 : Vec Ideal S8x128x1 .f32}

/-- The norm's output on a block whose first row is `p`. -/
theorem vn_at (e1 : ∀ y, b1 y = X (p + (y 0).val) (2048 + (y 1).val)) (e3 : ∀ y, b3 y = g (y 1).val) (e4 : ∀ y, b4 y = b (y 1).val)
    (y : S256x2048.Idx) : k0_pay2 (F := Ideal) b1 b3 b4 y = vn X g b (p + (y 0).val) (y 1).val := by
  unfold k0_pay2
  pointwise
  simp only [e1, e3, e4, cubic, bits_half, bits_kk, bits_2048, bits_eps, gelu_eq]
  rfl

set_option maxHeartbeats 8000000 in
/-- One grid point's block of the result, its first row being `p`. -/
theorem point (hp : p % 128 = 0)
    (e0 : ∀ y, b0 y = X (p + (y 0).val) (y 1).val) (e1 : ∀ y, b1 y = X (p + (y 0).val) (2048 + (y 1).val))
    (e2 : ∀ y, b2 y = X (p + (y 0).val) (4096 + (y 1).val)) (e3 : ∀ y, b3 y = g (y 1).val) (e4 : ∀ y, b4 y = b (y 1).val)
    (e5 : ∀ y, b5 y = W (y 0).val (y 1).val (y 2).val) (e6 : ∀ y, b6 y = B (y 0).val (y 1).val) (y : S256x2048.Idx) :
    out0_7 (F := Ideal) b0 b1 b2 b3 b4 b5 b6 y = out X g b W B (p + (y 0).val) (y 1).val := by
  unfold out0_7 k0_pay60
  simp only [k0_pay4]
  have i0 : ∀ y, r0_0.idx y = y := fun y => funext fun a => Fin.ext (by fin_cases a <;> simp [LoadRect.idx, Rect.toLoadRect, Rect.unit])
  have i1 : ∀ y, r0_1.idx y = y := fun y => funext fun a => Fin.ext (by fin_cases a <;> simp [LoadRect.idx, Rect.toLoadRect, Rect.unit])
  have w0 : ∀ y, View.ld b1 r0_0 y = X (p + (y 0).val) (2048 + (y 1).val) := fun y => (congrArg b1 (i0 y)).trans (e1 y)
  have w3 : ∀ y, View.ld b3 r0_1 y = g (y 1).val := fun y => (congrArg b3 (i1 y)).trans (e3 y)
  have w4 : ∀ y, View.ld b4 r0_1 y = b (y 1).val := fun y => (congrArg b4 (i1 y)).trans (e4 y)
  generalize hV : k0_pay2 (View.ld b1 r0_0) (View.ld b3 r0_1) (View.ld b4 r0_1) = VN
  have eV : ∀ y, VN y = vn X g b (p + (y 0).val) (y 1).val := fun y => by rw [← hV]; exact vn_at w0 w3 w4 y
  clear hV w0 w3 w4 i0 i1
  have y0 : (y 0).val < 256 := (y 0).isLt
  have y1 : (y 1).val < 2048 := (y 1).isLt
  canon_tiles x h
  all_goals
    open_payloads
    pointwise
    simp only [e0, e2, e5, e6, eV, cubic, bits_half, bits_kk, zero_sub, gelu_eq]
    refine out_tile X g b W B ?_ ?_ ?_ ?_ (fun i => ?_) (fun i => ?_) (fun i => ?_) (fun i => ?_) (fun i => ?_) ?_ ?_
    all_goals
      (try blk_simp) <;>
        (try simp only [Fin.coe_ofNat_eq_mod, Nat.reduceMod, Fin.val_mk, Fin.val_zero, Fin.val_one]) <;> omega

variable (m : (ℓ : Loc nD τ sig) → Buf (Elt Ideal) ℓ)

/-- The block each window shows at a grid point. -/
theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0, 0]
    ∧ win0_7.index t = ![t.val, 0] :=
  (by decide +kernel : ∀ t : Fin grid0.N, _)

variable (c : Dev nD)
  (h0 : ∀ i : S4096x6144.Idx, m ((c : Thread nD τ).loc main_arg0) i = X (i 0).val (i 1).val)
  (h1 : ∀ i : S1x2048.Idx, m ((c : Thread nD τ).loc main_arg1) i = g (i 1).val)
  (h2 : ∀ i : S1x2048.Idx, m ((c : Thread nD τ).loc main_arg2) i = b (i 1).val)
  (h3 : ∀ i : S8x128x128.Idx, m ((c : Thread nD τ).loc main_arg3) i = W (i 0).val (i 1).val (i 2).val)
  (h4 : ∀ i : S8x128.Idx, m ((c : Thread nD τ).loc main_arg4) i = B (i 0).val (i 1).val)

include h0 in
theorem blk0 (t : Fin cfg0.N) (y : S256x2048.Idx) : iblk m c 0 t y = X (256 * t.val + (y 0).val) (y 1).val := by
  refine (congrFun (V_main_arg0 m c) _).trans ((h0 _).trans ?_)
  obtain ⟨a0, a1, a2, a3, a4, a5, a6, a7⟩ := idx t
  congr 1 <;> refine (win0_0.rect_emb_val t y _).trans ?_ <;> rw [a0]
  · show t.val * 256 + (y 0).val = _; omega
  · show 0 * 2048 + (y 1).val = _; omega

include h0 in
theorem blk1 (t : Fin cfg0.N) (y : S256x2048.Idx) : iblk m c 1 t y = X (256 * t.val + (y 0).val) (2048 + (y 1).val) := by
  refine (congrFun (V_main_arg0 m c) _).trans ((h0 _).trans ?_)
  obtain ⟨a0, a1, a2, a3, a4, a5, a6, a7⟩ := idx t
  congr 1 <;> refine (win0_1.rect_emb_val t y _).trans ?_ <;> rw [a1]
  · show t.val * 256 + (y 0).val = _; omega
  · show 1 * 2048 + (y 1).val = _; omega

include h0 in
theorem blk2 (t : Fin cfg0.N) (y : S256x2048.Idx) : iblk m c 2 t y = X (256 * t.val + (y 0).val) (4096 + (y 1).val) := by
  refine (congrFun (V_main_arg0 m c) _).trans ((h0 _).trans ?_)
  obtain ⟨a0, a1, a2, a3, a4, a5, a6, a7⟩ := idx t
  congr 1 <;> refine (win0_2.rect_emb_val t y _).trans ?_ <;> rw [a2]
  · show t.val * 256 + (y 0).val = _; omega
  · show 2 * 2048 + (y 1).val = _; omega

include h1 in
theorem blk3 (t : Fin cfg0.N) (y : S1x2048.Idx) : iblk m c 3 t y = g (y 1).val := by
  refine (congrFun (V_main_arg1 m c) _).trans ((h1 _).trans ?_)
  obtain ⟨a0, a1, a2, a3, a4, a5, a6, a7⟩ := idx t
  congr 1
  exact win0_3.rect_emb_val_of_index_zero t 1 (by rw [a3]; rfl) y

include h2 in
theorem blk4 (t : Fin cfg0.N) (y : S1x2048.Idx) : iblk m c 4 t y = b (y 1).val := by
  refine (congrFun (V_main_arg2 m c) _).trans ((h2 _).trans ?_)
  obtain ⟨a0, a1, a2, a3, a4, a5, a6, a7⟩ := idx t
  congr 1
  exact win0_4.rect_emb_val_of_index_zero t 1 (by rw [a4]; rfl) y

include h3 in
theorem blk5 (t : Fin cfg0.N) (y : S8x128x128.Idx) : iblk m c 5 t y = W (y 0).val (y 1).val (y 2).val := by
  obtain ⟨a0, a1, a2, a3, a4, a5, a6, a7⟩ := idx t
  blk_simp [iblk, idx t]
  entry_read
  pointwise
  refine (h3 _).trans ?_
  congr 1
  · exact win0_5.rect_emb_val_of_index_zero t 0 (by rw [a5]; rfl) y
  · exact win0_5.rect_emb_val_of_index_zero t 1 (by rw [a5]; rfl) y
  · exact win0_5.rect_emb_val_of_index_zero t 2 (by rw [a5]; rfl) y

include h4 in
theorem blk6 (t : Fin cfg0.N) (y : S8x128x1.Idx) : iblk m c 6 t y = B (y 0).val (y 1).val := by
  obtain ⟨a0, a1, a2, a3, a4, a5, a6, a7⟩ := idx t
  blk_simp [iblk, idx t]
  entry_read
  pointwise
  refine (h4 _).trans ?_
  congr 1
  · exact win0_6.rect_emb_val_of_index_zero t 0 (by rw [a6]; rfl) y
  · exact win0_6.rect_emb_val_of_index_zero t 1 (by rw [a6]; rfl) y

include h0 h1 h2 h3 h4 in
/-- The array after the run. -/
theorem final7 : (dats m 0 c).arrAt 7 cfg0.N = fun i : S4096x2048.Idx => out X g b W B (i 0).val (i 1).val := by
  refine (dats m 0 c).arrAt_eq_of_covers 7 _ (by decide +kernel) fun t hf y => ?_
  obtain ⟨a0, a1, a2, a3, a4, a5, a6, a7⟩ := idx t
  rw [after0_7]
  refine (point (p := 256 * t.val) (by omega) (blk0 m c h0 t) (blk1 m c h0 t) (blk2 m c h0 t) (blk3 m c h1 t) (blk4 m c h2 t) (blk5 m c h3 t)
    (blk6 m c h4 t) _).trans ?_
  congr 1
  · refine Eq.trans ?_ (win0_7.rect_emb_val t y 0).symm
    rw [a7]
    show 256 * t.val + (y 0).val = t.val * 256 + (y 0).val
    omega
  · refine Eq.trans ?_ (win0_7.rect_emb_val t y 1).symm
    rw [a7]
    show (y 1).val = 0 * 2048 + (y 1).val
    omega

end Cert.Gate.Ker

end
-- ==== Proof.GateFwd.lean ====
/-
  The gating unit forward: kernel and reference compute the same array.
-/
module

public import proofs.«01_k».proof.Proof.Entries
public import proofs.«01_k».proof.Proof.GateRef
public import proofs.«01_k».proof.Proof.GateKer
public import proofs.«01_k».proof.Proof.Gen.Reference19Ideal.Run
public import Idealize.ShloMosaic.Lib.Claim
public import proofs.«01_k».proof.Defs

@[expose] public section

set_option maxRecDepth 16384

noncomputable section

namespace Cert.GateFwd

open Cert.Kernel19Ideal Idealize.ShloMosaic Cert.Sgu Cert.Gate

/-- The kernel and the reference end with equal results. -/
theorem algebraic : Cert.algebraic_Kernel19Ideal_Reference19Ideal := by
  intro m g0 m' g' _ hagree
  let X := fun (c : Dev nD) (a b : ℕ) => spread (at2 4096 6144) (m ((c.tc : Thread nD τ).loc main_arg0)) (a, b)
  let g := fun (c : Dev nD) => spread (at1 2048) (m ((c.tc : Thread nD τ).loc main_arg1))
  let b := fun (c : Dev nD) => spread (at1 2048) (m ((c.tc : Thread nD τ).loc main_arg2))
  let W := fun (c : Dev nD) (a b d : ℕ) => spread (at3 8 128 128) (m ((c.tc : Thread nD τ).loc main_arg3)) (a, b, d)
  let B := fun (c : Dev nD) (a b : ℕ) => spread (at2 8 128) (m ((c.tc : Thread nD τ).loc main_arg4)) (a, b)
  have h0 := fun (c : Dev nD) i => spread_apply (at2_injective 4096 6144) (m ((c.tc : Thread nD τ).loc main_arg0)) i
  have h1 := fun (c : Dev nD) i => spread_apply (at1_injective 2048) (m ((c.tc : Thread nD τ).loc main_arg1)) i
  have h2 := fun (c : Dev nD) i => spread_apply (at1_injective 2048) (m ((c.tc : Thread nD τ).loc main_arg2)) i
  have h3 := fun (c : Dev nD) i => spread_apply (at3_injective 8 128 128) (m ((c.tc : Thread nD τ).loc main_arg3)) i
  have h4 := fun (c : Dev nD) i => spread_apply (at2_injective 8 128) (m ((c.tc : Thread nD τ).loc main_arg4)) i
  refine ⟨fun c => fun i : S4096x2048.Idx => out (X c) (g c) (b c) (W c) (B c) (i 0).val (i 1).val, ?_, ?_⟩
  · refine θ_run_mono (Cert.Kernel19Ideal.Value.run_blocks m g0) fun r h c => ?_
    obtain ⟨r0, ra⟩ := h c
    exact ⟨r0.trans (Ker.final7 (X := X c) (g := g c) (b := b c) (W := W c) (B := B c) m c (h0 c) (h1 c) (h2 c) (h3 c) (h4 c)), ra⟩
  · refine θ_run_mono (Cert.Reference19Ideal.Value.run m' g') fun r h c => ?_
    obtain ⟨r0, ra⟩ := h c
    obtain ⟨a0, a1, a2, a3, a4⟩ := hagree c
    have k0 := fun i => (congrFun a0 i).trans (h0 c i)
    have k1 := fun i => (congrFun a1 i).trans (h1 c i)
    have k2 := fun i => (congrFun a2 i).trans (h2 c i)
    have k3 := fun i => (congrFun a3 i).trans (h3 c i)
    have k4 := fun i => (congrFun a4 i).trans (h4 c i)
    exact ⟨(r0.trans (Cert.Reference19Ideal.Read.val_main_v65_eq _ _)).trans (funext fun i => Ref.out_at k0 k1 k2 k3 k4 i), ra⟩

end Cert.GateFwd

end
-- ==== Proof.MixSpec.lean ====
/-
  The attention's gate and the short convolution beside it, as functions of natural coordinates with extended real values. `A` is the attention's output,
  `P` the projection with its eight groups of 1024 columns, `K` the three taps.
-/
module

public import proofs.«01_k».proof.Proof.GateSpec
public import Idealize.ShloMosaic.Lib.Pipeline.ValueKit

@[expose] public section

set_option maxRecDepth 16384

noncomputable section

namespace Cert.Mix

open Idealize.ShloMosaic Cert.Gate

variable (A P K : ℕ → ℕ → EReal)

/-- The convolution's input. -/
def u (r c : ℕ) : EReal := P r (6144 + c) * P r (4096 + c)

/-- The row before, zero in front of the first. -/
def before (r c : ℕ) : EReal := if r = 0 then 0 else u P (r - 1) c

/-- The row after, zero behind the last. -/
def after (r c : ℕ) : EReal := if r = 4095 then 0 else u P (r + 1) c

/-- The three taps. -/
def conv (r c : ℕ) : EReal := K 0 c * before P r c + K 1 c * u P r c + K 2 c * after P r c

/-- The left half of the result. -/
def left (r c : ℕ) : EReal := A r c * silu (P r (3072 + c))

/-- The right half of the result. -/
def right (r c : ℕ) : EReal := P r (5120 + c) * conv P K r c * silu (P r (7168 + c))

/-- The result: the gated attention, and the convolution beside it. -/
def out (r c : ℕ) : EReal := if c < 1024 then left A P r c else right P K r (c - 1024)

/-- A comparison of a row's number, counted from a window's first row, with a constant. -/
theorem row_eq (b n k : ℕ) (h : b + n < 4294967296) (hk : k < 4294967296) :
    IntOp.cmpi .eq (IntOp.addi (BitVec.ofNat 32 b) (BitVec.ofNat 32 n)) (BitVec.ofNat 32 k) = BitVec.ofBool (decide (b + n = k)) := by
  have e : IntOp.addi (BitVec.ofNat 32 b) (BitVec.ofNat 32 n) = BitVec.ofNat 32 (b + n) := (BitVec.ofNat_add b n).symm
  rw [e]
  show BitVec.ofBool (BitVec.ofNat 32 (b + n) == BitVec.ofNat 32 k) = _
  congr 1
  rw [Bool.eq_iff_iff, beq_iff_eq, decide_eq_true_eq]
  refine ⟨fun q => ?_, fun q => by rw [q]⟩
  have := congrArg BitVec.toNat q
  simp only [BitVec.toNat_ofNat] at this
  omega

/-- A choice by a decided proposition. -/
theorem choose (p : Prop) [Decidable p] (a b : EReal) : Scalar.select (BitVec.ofBool (decide p)) a b = if p then a else b := by
  by_cases h : p <;> simp [h, Scalar.select]

/-- One tile of the convolution, at indices that agree with the result's row `r` and column `c`. -/
theorem right_tile {r c rg cg k0 d0 r1 c1 r2 c2 k1 d1 r3 c3 r4 c4 k2 d2 r5 c5 r6 c6 r7 c7 : ℕ} {z0 z1 : BitVec 1}
    (hz0 : z0 = BitVec.ofBool (decide (r = 0))) (hz1 : z1 = BitVec.ofBool (decide (r = 4095)))
    (hrg : rg = r) (hcg : cg = 5120 + c) (hk0 : k0 = 0) (hd0 : d0 = c) (hr1 : r ≠ 0 → r1 = r - 1) (hc1 : c1 = 6144 + c)
    (hr2 : r ≠ 0 → r2 = r - 1) (hc2 : c2 = 4096 + c) (hk1 : k1 = 1) (hd1 : d1 = c) (hr3 : r3 = r) (hc3 : c3 = 6144 + c)
    (hr4 : r4 = r) (hc4 : c4 = 4096 + c) (hk2 : k2 = 2) (hd2 : d2 = c) (hr5 : r ≠ 4095 → r5 = r + 1) (hc5 : c5 = 6144 + c)
    (hr6 : r ≠ 4095 → r6 = r + 1) (hc6 : c6 = 4096 + c) (hr7 : r7 = r) (hc7 : c7 = 7168 + c) :
    P rg cg * (Scalar.select z0 0 (K k0 d0 * (P r1 c1 * P r2 c2)) + K k1 d1 * (P r3 c3 * P r4 c4)
        + Scalar.select z1 0 (K k2 d2 * (P r5 c5 * P r6 c6)))
        * (P r7 c7 * Ideal.div 1 (1 + Ideal.exp (-P r7 c7)))
      = right P K r c := by
  subst hrg hcg hk0 hd0 hc1 hc2 hk1 hd1 hr3 hc3 hr4 hc4 hk2 hd2 hc5 hc6 hr7 hc7
  rw [hz0, hz1, choose, choose]
  simp only [right, conv, before, after, u, silu]
  split_ifs with a b b
  · simp only [mul_zero]
  · simp only [mul_zero, hr5 b, hr6 b]
  · simp only [mul_zero, hr1 a, hr2 a]
  · simp only [hr1 a, hr2 a, hr5 b, hr6 b]

end Cert.Mix

end
-- ==== Proof.MixRef.lean ====
/-
  The reference's gate and convolution, read at an index: they are the function of `MixSpec`.
-/
module

public import proofs.«01_k».proof.Proof.MixSpec
public import proofs.«01_k».proof.Proof.Gen.Reference20Ideal.Read
public import Idealize.ShloMosaic.Lib.Pipeline.ValueKit

@[expose] public section

set_option maxRecDepth 16384

noncomputable section

namespace Cert.Mix.Ref

open Cert.Reference20Ideal Cert.Reference20Ideal.Gen Cert.Reference20Ideal.Read Idealize.ShloMosaic Cert.Sgu Cert.Gate

variable {A P K : ℕ → ℕ → EReal}
variable {x0 : (⟨S4096x1024, .bf16⟩ : BufTy).Contents (Elt Ideal)} {x1 : (⟨S4096x8192, .bf16⟩ : BufTy).Contents (Elt Ideal)}
  {x2 : (⟨S3x1024, .f32⟩ : BufTy).Contents (Elt Ideal)}
variable (h0 : ∀ i, x0 i = A (i 0).val (i 1).val) (h1 : ∀ i, x1 i = P (i 0).val (i 1).val) (h2 : ∀ i, x2 i = K (i 0).val (i 1).val)

include h1

theorem za_at (i : S4096x1024.Idx) : val_main_v2 x1 i = P (i 0).val (3072 + (i 1).val) := by
  simp only [val_main_v2_apply, val_main_v1_apply, val_main_v0_apply]
  exact h1 _
theorem ub_at (i : S4096x1024.Idx) : val_main_v3 x1 i = P (i 0).val (4096 + (i 1).val) := by
  simp only [val_main_v3_apply, val_main_v1_apply, val_main_v0_apply]
  refine (h1 _).trans (congrArg (P _) ?_)
  show 3072 + (1024 + (i 1).val) = _; omega
theorem gb_at (i : S4096x1024.Idx) : val_main_v4 x1 i = P (i 0).val (5120 + (i 1).val) := by
  simp only [val_main_v4_apply, val_main_v1_apply, val_main_v0_apply]
  refine (h1 _).trans (congrArg (P _) ?_)
  show 3072 + (2048 + (i 1).val) = _; omega
theorem gc_at (i : S4096x1024.Idx) : val_main_v5 x1 i = P (i 0).val (6144 + (i 1).val) := by
  simp only [val_main_v5_apply, val_main_v1_apply, val_main_v0_apply]
  refine (h1 _).trans (congrArg (P _) ?_)
  show 3072 + (3072 + (i 1).val) = _; omega
theorem zb_at (i : S4096x1024.Idx) : val_main_v6 x1 i = P (i 0).val (7168 + (i 1).val) := by
  simp only [val_main_v6_apply, val_main_v1_apply, val_main_v0_apply]
  refine (h1 _).trans (congrArg (P _) ?_)
  show 3072 + (4096 + (i 1).val) = _; omega

theorem silu_a_at (i : S4096x1024.Idx) : val_main_v8 x1 i = silu (P (i 0).val (3072 + (i 1).val)) := by
  simp only [val_main_v8_apply, val_main_call0_v5_apply, val_main_call0_v4_apply, val_main_call0_v3_apply, val_main_call0_v2_apply,
    val_main_call0_v1_apply, val_main_call0_v0_apply, val_main_call0_cst_apply, val_main_call0_cst_0_apply, za_at h1, Ideal.hostNegf_def,
    Ideal.negf_def, Ideal.mulf_def, Ideal.addf_def, Ideal.hostDivf_def, Ideal.hostUnary_exp_def, Ideal.ofBits_def, bits_one, EReal.coe_one]
  rfl

theorem silu_b_at (i : S4096x1024.Idx) : val_main_v34 x1 i = silu (P (i 0).val (7168 + (i 1).val)) := by
  simp only [val_main_v34_apply, val_main_call1_v5_apply, val_main_call1_v4_apply, val_main_call1_v3_apply, val_main_call1_v2_apply,
    val_main_call1_v1_apply, val_main_call1_v0_apply, val_main_call1_cst_apply, val_main_call1_cst_0_apply, zb_at h1, Ideal.hostNegf_def,
    Ideal.negf_def, Ideal.mulf_def, Ideal.addf_def, Ideal.hostDivf_def, Ideal.hostUnary_exp_def, Ideal.ofBits_def, bits_one, EReal.coe_one]
  rfl

theorem u_at (i : S4096x1024.Idx) : val_main_v10 x1 i = u P (i 0).val (i 1).val := by
  simp only [val_main_v10_apply, gc_at h1, ub_at h1, Ideal.mulf_def]
  rfl

omit h1 in
theorem zero_at (i : S1x1024.Idx) : val_main_v11 (F := Ideal) i = 0 := by
  simp only [val_main_v11_apply, val_main_cst_apply, Ideal.ofBits_def, Ideal.ofBits_zero_f32]

theorem before_at (i : S4096x1024.Idx) : val_main_v13 x1 i = before P (i 0).val (i 1).val := by
  unfold val_main_v13
  rw [concatenate_pair_apply]
  by_cases h : (i 0).val < 1
  · refine (dif_pos h).trans ?_
    rw [zero_at, before, if_pos (by omega)]
  · refine (dif_neg h).trans ?_
    rw [val_main_v12_apply, u_at h1, before, if_neg (by omega)]
    rfl

theorem after_at (i : S4096x1024.Idx) : val_main_v15 x1 i = after P (i 0).val (i 1).val := by
  have i0 : (i 0).val < 4096 := (i 0).isLt
  unfold val_main_v15
  rw [concatenate_pair_apply]
  by_cases h : (i 0).val < 4095
  · refine (dif_pos h).trans ?_
    rw [val_main_v14_apply, u_at h1, after, if_neg (by omega)]
    congr 1
    · show 1 + (i 0).val = _; omega
  · refine (dif_neg h).trans ?_
    rw [zero_at, after, if_pos (by omega)]

include h2

theorem conv_at (i : S4096x1024.Idx) : val_main_v32 x1 x2 i = conv P K (i 0).val (i 1).val := by
  simp only [val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_v20_apply, val_main_v19_apply, val_main_v18_apply, val_main_v17_apply, val_main_v16_apply, h2,
    before_at h1, after_at h1, u_at h1, Ideal.mulf_def, Ideal.addf_def]
  have i1 : (i 1).val % 1024 = (i 1).val := Nat.mod_eq_of_lt (i 1).isLt
  simp only [i1]
  rfl

include h0

/-- The result. -/
theorem out_at (i : S4096x2048.Idx) : val_main_v37 x0 x1 x2 i = out A P K (i 0).val (i 1).val := by
  rw [val_main_v37_apply, Ideal.truncf_def]
  unfold val_main_v36
  rw [concatenate_pair_apply, out]
  by_cases h : (i 1).val < 1024
  · rw [if_pos h]
    refine (dif_pos h).trans ?_
    rw [val_main_v9_apply, val_main_v7_apply, silu_a_at h1, h0]
    rfl
  · rw [if_neg h]
    refine (dif_neg h).trans ?_
    rw [val_main_v35_apply, val_main_v33_apply, silu_b_at h1, conv_at h1 h2, gb_at h1]
    rfl

end Cert.Mix.Ref

end
-- ==== Proof.MixKer.lean ====
/-
  The kernel's gate and convolution: eight grid points compute 128 columns each of the gated attention, eight more 128 columns each of the convolution, in
  chunks of 512 rows read with a margin of 16. The array after the run is the function of `MixSpec`.
-/
module

public import proofs.«01_k».proof.Proof.MixSpec
public import proofs.«01_k».proof.Proof.Gen.Kernel20Ideal.Value
public import Idealize.ShloMosaic.Lib.Pipeline.ValueKit
public import Idealize.ShloMosaic.Lib.Pipeline.ReadBack

@[expose] public section

set_option maxRecDepth 16384

noncomputable section

namespace Cert.Mix.Ker

open Cert.Kernel20Ideal Cert.Kernel20Ideal.Gen Idealize.ShloMosaic Idealize.ShloMosaic.TcCoe Cert.Kernel20Ideal.Value Cert.Sgu Cert.Gate

variable {A P K : ℕ → ℕ → EReal} {q : ℕ}
variable {b0 b1 b2 b3 b4 b5 : Vec Ideal S4096x128 .bf16} {b6 : Vec Ideal S3x128 .f32}

variable (m : (ℓ : Loc nD τ sig) → Buf (Elt Ideal) ℓ)

/-- One grid point's block of the left half, its first column being `q`. -/
theorem left_point (c : Dev nD) (t : Fin cfg0.N) (ht : t.val < 8)
    (i0 : iblk m c 0 t = b0) (i1 : iblk m c 1 t = b1)
    (e0 : ∀ y, b0 y = A (y 0).val (q + (y 1).val)) (e1 : ∀ y, b1 y = P (y 0).val (3072 + (q + (y 1).val))) (y : S4096x128.Idx) :
    outsAt0 m c t.val t.isLt y = left A P (y 0).val (q + (y 1).val) := by
  rw [outsAt0_A m c t ht (by omega)]
  frame_out
  rw [i0, i1]
  clear i0 i1
  unfold k0_pay1
  pointwise
  simp only [e0, e1, zero_sub]
  rfl

set_option maxHeartbeats 8000000 in
/-- One grid point's block of the right half, its first column being `q`. -/
theorem right_point (c : Dev nD) (t : Fin cfg0.N) (ht : 8 ≤ t.val)
    (i2 : iblk m c 2 t = b2) (i3 : iblk m c 3 t = b3) (i4 : iblk m c 4 t = b4) (i5 : iblk m c 5 t = b5) (i6 : iblk m c 6 t = b6)
    (e2 : ∀ y, b2 y = P (y 0).val (4096 + (q + (y 1).val))) (e3 : ∀ y, b3 y = P (y 0).val (5120 + (q + (y 1).val)))
    (e4 : ∀ y, b4 y = P (y 0).val (6144 + (q + (y 1).val))) (e5 : ∀ y, b5 y = P (y 0).val (7168 + (q + (y 1).val)))
    (e6 : ∀ y, b6 y = K (y 0).val (q + (y 1).val)) (y : S4096x128.Idx) :
    outsAt0 m c t.val t.isLt y = right P K (y 0).val (q + (y 1).val) := by
  rw [outsAt0_B m c t (by omega) ht]
  frame_out
  rw [i2, i3, i4, i5, i6]
  clear i2 i3 i4 i5 i6
  have y0 : (y 0).val < 4096 := (y 0).isLt
  have y1 : (y 1).val < 128 := (y 1).isLt
  canon_tiles x h using View.cover_of_tiledBy _ ![512, 128] (by sl_kernel_rfl) y
  all_goals
    open_payloads
    pointwise
    simp only [e2, e3, e4, e5, e6, zero_sub]
    refine right_tile P K ((row_eq _ _ _ ?_ ?_).trans (congrArg (fun p : Bool => BitVec.ofBool p) (decide_eq_decide.mpr ?_)))
      ((row_eq _ _ _ ?_ ?_).trans (congrArg (fun p : Bool => BitVec.ofBool p) (decide_eq_decide.mpr ?_)))
      ?_ ?_ ?_ ?_ (fun hn => ?_) ?_ (fun hn => ?_) ?_ ?_ ?_ ?_ ?_ ?_ ?_ ?_ ?_ (fun hn => ?_) ?_ (fun hn => ?_) ?_ ?_ ?_
    all_goals
      (try blk_simp) <;>
        (try simp only [Fin.coe_ofNat_eq_mod, Nat.reduceMod, Fin.val_mk, Fin.val_zero, Fin.val_one]) <;> omega

/-- The block each window shows at a grid point. -/
theorem idx : ∀ t : Fin cfg0.N, win0_0.index t = ![0, min t.val 7] ∧ win0_1.index t = ![0, 24 + min t.val 7]
    ∧ win0_2.index t = ![0, 32 + (t.val - 8)] ∧ win0_3.index t = ![0, 40 + (t.val - 8)] ∧ win0_4.index t = ![0, 48 + (t.val - 8)]
    ∧ win0_5.index t = ![0, 56 + (t.val - 8)] ∧ win0_6.index t = ![0, t.val - 8] ∧ win0_7.index t = ![0, t.val] :=
  (by decide +kernel : ∀ t : Fin grid0.N, _)

variable (c : Dev nD)
  (h0 : ∀ i : S4096x1024.Idx, m ((c : Thread nD τ).loc main_arg0) i = A (i 0).val (i 1).val)
  (h1 : ∀ i : S4096x8192.Idx, m ((c : Thread nD τ).loc main_arg1) i = P (i 0).val (i 1).val)
  (h2 : ∀ i : S3x1024.Idx, m ((c : Thread nD τ).loc main_arg2) i = K (i 0).val (i 1).val)

include h0 in
theorem blk0 (t : Fin cfg0.N) (ht : t.val < 8) (y : S4096x128.Idx) : iblk m c 0 t y = A (y 0).val (128 * t.val + (y 1).val) := by
  refine (congrFun (V_main_arg0 m c) _).trans ((h0 _).trans ?_)
  obtain ⟨a0, a1, a2, a3, a4, a5, a6, a7⟩ := idx t
  congr 1 <;> refine (win0_0.rect_emb_val t y _).trans ?_ <;> rw [a0]
  · show 0 * 4096 + (y 0).val = _; omega
  · show min t.val 7 * 128 + (y 1).val = _; omega

include h1 in
theorem blk1 (t : Fin cfg0.N) (ht : t.val < 8) (y : S4096x128.Idx) :
    iblk m c 1 t y = P (y 0).val (3072 + (128 * t.val + (y 1).val)) := by
  refine (congrFun (V_main_arg1 m c) _).trans ((h1 _).trans ?_)
  obtain ⟨a0, a1, a2, a3, a4, a5, a6, a7⟩ := idx t
  congr 1 <;> refine (win0_1.rect_emb_val t y _).trans ?_ <;> rw [a1]
  · show 0 * 4096 + (y 0).val = _; omega
  · show (24 + min t.val 7) * 128 + (y 1).val = _; omega

include h1 in
theorem blk2 (t : Fin cfg0.N) (ht : 8 ≤ t.val) (y : S4096x128.Idx) :
    iblk m c 2 t y = P (y 0).val (4096 + (128 * (t.val - 8) + (y 1).val)) := by
  refine (congrFun (V_main_arg1 m c) _).trans ((h1 _).trans ?_)
  obtain ⟨a0, a1, a2, a3, a4, a5, a6, a7⟩ := idx t
  congr 1 <;> refine (win0_2.rect_emb_val t y _).trans ?_ <;> rw [a2]
  · show 0 * 4096 + (y 0).val = _; omega
  · show (32 + (t.val - 8)) * 128 + (y 1).val = _; omega

include h1 in
theorem blk3 (t : Fin cfg0.N) (ht : 8 ≤ t.val) (y : S4096x128.Idx) :
    iblk m c 3 t y = P (y 0).val (5120 + (128 * (t.val - 8) + (y 1).val)) := by
  refine (congrFun (V_main_arg1 m c) _).trans ((h1 _).trans ?_)
  obtain ⟨a0, a1, a2, a3, a4, a5, a6, a7⟩ := idx t
  congr 1 <;> refine (win0_3.rect_emb_val t y _).trans ?_ <;> rw [a3]
  · show 0 * 4096 + (y 0).val = _; omega
  · show (40 + (t.val - 8)) * 128 + (y 1).val = _; omega

include h1 in
theorem blk4 (t : Fin cfg0.N) (ht : 8 ≤ t.val) (y : S4096x128.Idx) :
    iblk m c 4 t y = P (y 0).val (6144 + (128 * (t.val - 8) + (y 1).val)) := by
  refine (congrFun (V_main_arg1 m c) _).trans ((h1 _).trans ?_)
  obtain ⟨a0, a1, a2, a3, a4, a5, a6, a7⟩ := idx t
  congr 1 <;> refine (win0_4.rect_emb_val t y _).trans ?_ <;> rw [a4]
  · show 0 * 4096 + (y 0).val = _; omega
  · show (48 + (t.val - 8)) * 128 + (y 1).val = _; omega

include h1 in
theorem blk5 (t : Fin cfg0.N) (ht : 8 ≤ t.val) (y : S4096x128.Idx) :
    iblk m c 5 t y = P (y 0).val (7168 + (128 * (t.val - 8) + (y 1).val)) := by
  refine (congrFun (V_main_arg1 m c) _).trans ((h1 _).trans ?_)
  obtain ⟨a0, a1, a2, a3, a4, a5, a6, a7⟩ := idx t
  congr 1 <;> refine (win0_5.rect_emb_val t y _).trans ?_ <;> rw [a5]
  · show 0 * 4096 + (y 0).val = _; omega
  · show (56 + (t.val - 8)) * 128 + (y 1).val = _; omega

include h2 in
theorem blk6 (t : Fin cfg0.N) (ht : 8 ≤ t.val) (y : S3x128.Idx) : iblk m c 6 t y = K (y 0).val (128 * (t.val - 8) + (y 1).val) := by
  refine (congrFun (V_main_arg2 m c) _).trans ((h2 _).trans ?_)
  obtain ⟨a0, a1, a2, a3, a4, a5, a6, a7⟩ := idx t
  congr 1 <;> refine (win0_6.rect_emb_val t y _).trans ?_ <;> rw [a6]
  · show 0 * 3 + (y 0).val = _; omega
  · show (t.val - 8) * 128 + (y 1).val = _; omega

include h0 h1 h2 in
/-- One grid point's block. -/
theorem block (t : Fin cfg0.N) (y : S4096x128.Idx) : outsAt0 m c t.val t.isLt y = out A P K (y 0).val (128 * t.val + (y 1).val) := by
  have y1 : (y 1).val < 128 := (y 1).isLt
  rw [out]
  by_cases ht : t.val < 8
  · rw [if_pos (by omega)]
    exact left_point m c t ht rfl rfl (blk0 m c h0 t ht) (blk1 m c h1 t ht) y
  · have hu : 8 ≤ t.val := by omega
    rw [if_neg (by omega), show 128 * t.val + (y 1).val - 1024 = 128 * (t.val - 8) + (y 1).val by omega]
    exact right_point m c t hu rfl rfl rfl rfl rfl (blk2 m c h1 t hu) (blk3 m c h1 t hu) (blk4 m c h1 t hu) (blk5 m c h1 t hu)
      (blk6 m c h2 t hu) y

include h0 h1 h2 in
/-- The array after the run. -/
theorem final7 : (dats m 0 c).arrAt 7 cfg0.N = fun i : S4096x2048.Idx => out A P K (i 0).val (i 1).val := by
  refine (dats m 0 c).arrAt_eq_of_covers 7 _ (by decide +kernel) fun t hf y => ?_
  obtain ⟨a0, a1, a2, a3, a4, a5, a6, a7⟩ := idx t
  rw [after0_7]
  refine (block m c h0 h1 h2 t _).trans ?_
  congr 1
  · refine Eq.trans ?_ (win0_7.rect_emb_val t y 0).symm
    rw [a7]
    show (y 0).val = 0 * 4096 + (y 0).val
    omega
  · refine Eq.trans ?_ (win0_7.rect_emb_val t y 1).symm
    rw [a7]
    show 128 * t.val + (y 1).val = t.val * 128 + (y 1).val
    omega

end Cert.Mix.Ker

end
-- ==== Proof.MixFwd.lean ====
/-
  The attention's gate and the short convolution forward: kernel and reference compute the same array.
-/
module

public import proofs.«01_k».proof.Proof.Entries
public import proofs.«01_k».proof.Proof.MixRef
public import proofs.«01_k».proof.Proof.MixKer
public import proofs.«01_k».proof.Proof.Gen.Reference20Ideal.Run
public import Idealize.ShloMosaic.Lib.Claim
public import proofs.«01_k».proof.Defs

@[expose] public section

set_option maxRecDepth 16384

noncomputable section

namespace Cert.MixFwd

open Cert.Kernel20Ideal Idealize.ShloMosaic Cert.Sgu Cert.Mix

/-- The kernel and the reference end with equal results. -/
theorem algebraic : Cert.algebraic_Kernel20Ideal_Reference20Ideal := by
  intro m g0 m' g' _ hagree
  let A := fun (c : Dev nD) (a b : ℕ) => spread (at2 4096 1024) (m ((c.tc : Thread nD τ).loc main_arg0)) (a, b)
  let P := fun (c : Dev nD) (a b : ℕ) => spread (at2 4096 8192) (m ((c.tc : Thread nD τ).loc main_arg1)) (a, b)
  let K := fun (c : Dev nD) (a b : ℕ) => spread (at2 3 1024) (m ((c.tc : Thread nD τ).loc main_arg2)) (a, b)
  have h0 := fun (c : Dev nD) i => spread_apply (at2_injective 4096 1024) (m ((c.tc : Thread nD τ).loc main_arg0)) i
  have h1 := fun (c : Dev nD) i => spread_apply (at2_injective 4096 8192) (m ((c.tc : Thread nD τ).loc main_arg1)) i
  have h2 := fun (c : Dev nD) i => spread_apply (at2_injective 3 1024) (m ((c.tc : Thread nD τ).loc main_arg2)) i
  refine ⟨fun c => fun i : S4096x2048.Idx => out (A c) (P c) (K c) (i 0).val (i 1).val, ?_, ?_⟩
  · refine θ_run_mono (Cert.Kernel20Ideal.Value.run_blocks m g0) fun r h c => ?_
    obtain ⟨r0, ra⟩ := h c
    exact ⟨r0.trans (Ker.final7 (A := A c) (P := P c) (K := K c) m c (h0 c) (h1 c) (h2 c)), ra⟩
  · refine θ_run_mono (Cert.Reference20Ideal.Value.run m' g') fun r h c => ?_
    obtain ⟨r0, ra⟩ := h c
    obtain ⟨a0, a1, a2⟩ := hagree c
    have k0 := fun i => (congrFun a0 i).trans (h0 c i)
    have k1 := fun i => (congrFun a1 i).trans (h1 c i)
    have k2 := fun i => (congrFun a2 i).trans (h2 c i)
    exact ⟨(r0.trans (Cert.Reference20Ideal.Read.val_main_v37_eq _ _)).trans (funext fun i => Ref.out_at k0 k1 k2 i), ra⟩

end Cert.MixFwd

end
-- ==== Proof.AdamSpec.lean ====
/-
  One step of the optimiser (AdamW) at one entry, as functions of extended reals: weight `w`, gradient `g`, moments `m` and `v`. The coefficients are the
  float words that both programs print.
-/
module

public import proofs.«01_k».proof.Proof.Coe

@[expose] public section

noncomputable section

namespace Cert.Adam

open Idealize.ShloMosaic

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The weight's change: both moments with their bias taken off, and the weight's decay. -/
def change (w g m v : EReal) : EReal :=
  Ideal.ofBits .f32 0xBA83126F#32 * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.Adam

end
-- ==== Proof.AdamMod.lean ====
/-
  The optimiser's step for the modulation's weights: kernel and reference compute the same arrays, entry by entry.
-/
module

public import proofs.«01_k».proof.Proof.AdamSpec
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Claim
public import proofs.«01_k».proof.Defs

@[expose] public section

set_option maxRecDepth 16384

noncomputable section

namespace Cert.Adam.Mod.Ref

open Cert.Reference21Ideal Cert.Reference21Ideal.Gen Cert.Reference21Ideal.Read Idealize.ShloMosaic

variable (w g a b : (⟨S4096x1536, .f32⟩ : BufTy).Contents (Elt Ideal))

theorem first_at (i : S4096x1536.Idx) : val_main_v4 g a i = first (g i) (a i) := by
  simp only [val_main_v4_apply, val_main_v3_apply, val_main_v2_apply, val_main_v1_apply, val_main_v0_apply, val_main_cst_apply,
    val_main_cst_0_apply, Ideal.mulf_def, Ideal.addf_def, Ideal.ofBits_def]
  rfl

theorem second_at (i : S4096x1536.Idx) : val_main_v10 g b i = second (g i) (b i) := by
  simp only [val_main_v10_apply, val_main_v9_apply, val_main_v8_apply, val_main_v7_apply, val_main_v6_apply, val_main_v5_apply,
    val_main_cst_1_apply, val_main_cst_2_apply, Ideal.mulf_def, Ideal.addf_def, Ideal.ofBits_def]
  rfl

theorem change_at (i : S4096x1536.Idx) : val_main_v23 w g a b i = change (w i) (g i) (a i) (b i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, first_at, second_at,
    Ideal.mulf_def, Ideal.addf_def, Ideal.hostDivf_def, Ideal.hostUnary_sqrt_def, Ideal.ofBits_def]
  rfl

end Cert.Adam.Mod.Ref

namespace Cert.Adam.Mod

open Cert.Kernel21Ideal Cert.Kernel21Ideal.Gen Idealize.ShloMosaic Idealize.ShloMosaic.TcCoe Cert.Kernel21Ideal.Value

section
variable (b0 b1 b2 b3 : Vec Ideal S256x1536 .f32)

theorem change_point (y : S256x1536.Idx) : out0_4 (F := Ideal) b0 b1 b2 b3 y = change (b0 y) (b1 y) (b2 y) (b3 y) := by
  unfold out0_4
  canon_tiles x h
  obtain rfl : y = x := funext fun a => Fin.ext (by fin_cases a <;> assumption)
  open_payloads
  pointwise
  rfl

theorem first_point (y : S256x1536.Idx) : out0_5 (F := Ideal) b0 b1 b2 b3 y = first (b1 y) (b2 y) := by
  unfold out0_5
  canon_tiles x h
  obtain rfl : y = x := funext fun a => Fin.ext (by fin_cases a <;> assumption)
  open_payloads
  pointwise
  rfl

theorem second_point (y : S256x1536.Idx) : out0_6 (F := Ideal) b0 b1 b2 b3 y = second (b1 y) (b3 y) := by
  unfold out0_6
  canon_tiles x h
  obtain rfl : y = x := funext fun a => Fin.ext (by fin_cases a <;> assumption)
  open_payloads
  pointwise
  rfl

end

variable (m : (ℓ : Loc nD τ sig) → Buf (Elt Ideal) ℓ) (c : Dev nD)

theorem read0 (t : Fin cfg0.N) (y : S256x1536.Idx) :
    iblk m c 0 t y = m ((c : Thread nD τ).loc main_arg0) (((cfg0.win 4).blk t).view.emb y) := by
  refine (congrFun (V_main_arg0 m c) _).trans (congrArg (m ((c : Thread nD τ).loc main_arg0)) (funext fun a => Fin.ext ?_))
  exact (win0_0.rect_emb_val t y a).trans (win0_4.rect_emb_val t y a).symm

theorem read1 (t : Fin cfg0.N) (y : S256x1536.Idx) :
    iblk m c 1 t y = m ((c : Thread nD τ).loc main_arg1) (((cfg0.win 4).blk t).view.emb y) := by
  refine (congrFun (V_main_arg1 m c) _).trans (congrArg (m ((c : Thread nD τ).loc main_arg1)) (funext fun a => Fin.ext ?_))
  exact (win0_1.rect_emb_val t y a).trans (win0_4.rect_emb_val t y a).symm

theorem read2 (t : Fin cfg0.N) (y : S256x1536.Idx) :
    iblk m c 2 t y = m ((c : Thread nD τ).loc main_arg2) (((cfg0.win 4).blk t).view.emb y) := by
  refine (congrFun (V_main_arg2 m c) _).trans (congrArg (m ((c : Thread nD τ).loc main_arg2)) (funext fun a => Fin.ext ?_))
  exact (win0_2.rect_emb_val t y a).trans (win0_4.rect_emb_val t y a).symm

theorem read3 (t : Fin cfg0.N) (y : S256x1536.Idx) :
    iblk m c 3 t y = m ((c : Thread nD τ).loc main_arg3) (((cfg0.win 4).blk t).view.emb y) := by
  refine (congrFun (V_main_arg3 m c) _).trans (congrArg (m ((c : Thread nD τ).loc main_arg3)) (funext fun a => Fin.ext ?_))
  exact (win0_3.rect_emb_val t y a).trans (win0_4.rect_emb_val t y a).symm

/-- The weights' change after the run, as a function of the arguments. -/
def changeOf (i : S4096x1536.Idx) : EReal := change (m ((c : Thread nD τ).loc main_arg0) i) (m ((c : Thread nD τ).loc main_arg1) i) (m ((c : Thread nD τ).loc main_arg2) i) (m ((c : Thread nD τ).loc main_arg3) i)

theorem change_block (t : Fin cfg0.N) (y : S256x1536.Idx) :
    out0_4 (F := Ideal) (iblk m c 0 t) (iblk m c 1 t) (iblk m c 2 t) (iblk m c 3 t) y = changeOf m c (((cfg0.win 4).blk t).view.emb y) := by
  refine (change_point _ _ _ _ y).trans ?_
  rw [read0 m c t y, read1 m c t y, read2 m c t y, read3 m c t y]
  rfl

theorem change_final : (dats m 0 c).arrAt 4 cfg0.N = changeOf m c := by
  refine (dats m 0 c).arrAt_eq_of_covers 4 _ (by decide +kernel) fun t hf y => ?_
  rw [after0_4]
  refine (cast_eq _ _).trans ?_
  refine (change_block m c t _).trans ?_
  rfl

/-- The first moment after the run, as a function of the arguments. -/
def firstOf (i : S4096x1536.Idx) : EReal := first (m ((c : Thread nD τ).loc main_arg1) i) (m ((c : Thread nD τ).loc main_arg2) i)

theorem first_block (t : Fin cfg0.N) (y : S256x1536.Idx) :
    out0_5 (F := Ideal) (iblk m c 0 t) (iblk m c 1 t) (iblk m c 2 t) (iblk m c 3 t) y = firstOf m c (((cfg0.win 4).blk t).view.emb y) := by
  refine (first_point (iblk m c 0 t) _ _ (iblk m c 3 t) y).trans ?_
  rw [read1 m c t y, read2 m c t y]
  rfl

theorem first_final : (dats m 0 c).arrAt 5 cfg0.N = firstOf m c := by
  refine (dats m 0 c).arrAt_eq_of_covers 5 _ (by decide +kernel) fun t hf y => ?_
  rw [after0_5]
  refine (cast_eq _ _).trans ?_
  refine (first_block m c t _).trans ?_
  refine congrArg (firstOf m c) (funext fun a => Fin.ext ?_)
  exact (win0_4.rect_emb_val t y a).trans (win0_5.rect_emb_val t y a).symm

/-- The second moment after the run, as a function of the arguments. -/
def secondOf (i : S4096x1536.Idx) : EReal := second (m ((c : Thread nD τ).loc main_arg1) i) (m ((c : Thread nD τ).loc main_arg3) i)

theorem second_block (t : Fin cfg0.N) (y : S256x1536.Idx) :
    out0_6 (F := Ideal) (iblk m c 0 t) (iblk m c 1 t) (iblk m c 2 t) (iblk m c 3 t) y = secondOf m c (((cfg0.win 4).blk t).view.emb y) := by
  refine (second_point (iblk m c 0 t) _ (iblk m c 2 t) _ y).trans ?_
  rw [read1 m c t y, read3 m c t y]
  rfl

theorem second_final : (dats m 0 c).arrAt 6 cfg0.N = secondOf m c := by
  refine (dats m 0 c).arrAt_eq_of_covers 6 _ (by decide +kernel) fun t hf y => ?_
  rw [after0_6]
  refine (cast_eq _ _).trans ?_
  refine (second_block m c t _).trans ?_
  refine congrArg (secondOf m c) (funext fun a => Fin.ext ?_)
  exact (win0_4.rect_emb_val t y a).trans (win0_6.rect_emb_val t y a).symm

/-- The kernel and the reference end with equal results. -/
theorem algebraic : Cert.algebraic_Kernel21Ideal_Reference21Ideal := by
  intro m g0 m' g' _ hagree
  refine ⟨changeOf m, firstOf m, secondOf m, ?_, ?_⟩
  · refine θ_run_mono (Cert.Kernel21Ideal.Value.run_blocks m g0) fun r h c => ?_
    obtain ⟨r0, r1, r2, ra⟩ := h c
    exact ⟨r0.trans (change_final m c), r1.trans (first_final m c), r2.trans (second_final m c), ra⟩
  · refine θ_run_mono (Cert.Reference21Ideal.Value.run m' g') fun r h c => ?_
    obtain ⟨r0, r1, r2, ra⟩ := h c
    obtain ⟨a0, a1, a2, a3⟩ := hagree c
    refine ⟨((r0.trans (Cert.Reference21Ideal.Read.val_main_v23_eq _ _ _ _)).trans (funext fun i => Ref.change_at _ _ _ _ i)).trans ?_,
      ((r1.trans (Cert.Reference21Ideal.Read.val_main_v4_eq _ _)).trans (funext fun i => Ref.first_at _ _ i)).trans ?_,
      ((r2.trans (Cert.Reference21Ideal.Read.val_main_v10_eq _ _)).trans (funext fun i => Ref.second_at _ _ i)).trans ?_, ra⟩
    · rw [a0, a1, a2, a3]; rfl
    · rw [a1, a2]; rfl
    · rw [a1, a3]; rfl

end Cert.Adam.Mod

end
-- ==== Proof.AdamInAttn.lean ====
/-
  The optimiser's step for an attention layer's weights of the projection in: kernel and reference compute the same arrays, entry by entry.
-/
module

public import proofs.«01_k».proof.Proof.AdamSpec
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Claim
public import proofs.«01_k».proof.Defs

@[expose] public section

set_option maxRecDepth 16384

noncomputable section

namespace Cert.Adam.InAttn.Ref

open Cert.Reference22Ideal Cert.Reference22Ideal.Gen Cert.Reference22Ideal.Read Idealize.ShloMosaic

variable (w g a b : (⟨S4096x2048, .f32⟩ : BufTy).Contents (Elt Ideal))

theorem first_at (i : S4096x2048.Idx) : val_main_v4 g a i = first (g i) (a i) := by
  simp only [val_main_v4_apply, val_main_v3_apply, val_main_v2_apply, val_main_v1_apply, val_main_v0_apply, val_main_cst_apply,
    val_main_cst_0_apply, Ideal.mulf_def, Ideal.addf_def, Ideal.ofBits_def]
  rfl

theorem second_at (i : S4096x2048.Idx) : val_main_v10 g b i = second (g i) (b i) := by
  simp only [val_main_v10_apply, val_main_v9_apply, val_main_v8_apply, val_main_v7_apply, val_main_v6_apply, val_main_v5_apply,
    val_main_cst_1_apply, val_main_cst_2_apply, Ideal.mulf_def, Ideal.addf_def, Ideal.ofBits_def]
  rfl

theorem change_at (i : S4096x2048.Idx) : val_main_v23 w g a b i = change (w i) (g i) (a i) (b i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, first_at, second_at,
    Ideal.mulf_def, Ideal.addf_def, Ideal.hostDivf_def, Ideal.hostUnary_sqrt_def, Ideal.ofBits_def]
  rfl

end Cert.Adam.InAttn.Ref

namespace Cert.Adam.InAttn

open Cert.Kernel22Ideal Cert.Kernel22Ideal.Gen Idealize.ShloMosaic Idealize.ShloMosaic.TcCoe Cert.Kernel22Ideal.Value

section
variable (b0 b1 b2 b3 : Vec Ideal S256x2048 .f32)

theorem change_point (y : S256x2048.Idx) : out0_4 (F := Ideal) b0 b1 b2 b3 y = change (b0 y) (b1 y) (b2 y) (b3 y) := by
  unfold out0_4
  canon_tiles x h
  obtain rfl : y = x := funext fun a => Fin.ext (by fin_cases a <;> assumption)
  open_payloads
  pointwise
  rfl

theorem first_point (y : S256x2048.Idx) : out0_5 (F := Ideal) b0 b1 b2 b3 y = first (b1 y) (b2 y) := by
  unfold out0_5
  canon_tiles x h
  obtain rfl : y = x := funext fun a => Fin.ext (by fin_cases a <;> assumption)
  open_payloads
  pointwise
  rfl

theorem second_point (y : S256x2048.Idx) : out0_6 (F := Ideal) b0 b1 b2 b3 y = second (b1 y) (b3 y) := by
  unfold out0_6
  canon_tiles x h
  obtain rfl : y = x := funext fun a => Fin.ext (by fin_cases a <;> assumption)
  open_payloads
  pointwise
  rfl

theorem gradient_point (y : S256x2048.Idx) : out0_7 (F := Ideal) b0 b1 b2 b3 y = b1 y := by
  unfold out0_7
  canon_tiles x h
  exact congrArg b1 (funext fun a => Fin.ext (by fin_cases a <;> simp_all [LoadRect.idx, Rect.toLoadRect, Rect.unit]))

end

variable (m : (ℓ : Loc nD τ sig) → Buf (Elt Ideal) ℓ) (c : Dev nD)

theorem read0 (t : Fin cfg0.N) (y : S256x2048.Idx) :
    iblk m c 0 t y = m ((c : Thread nD τ).loc main_arg0) (((cfg0.win 4).blk t).view.emb y) := by
  refine (congrFun (V_main_arg0 m c) _).trans (congrArg (m ((c : Thread nD τ).loc main_arg0)) (funext fun a => Fin.ext ?_))
  exact (win0_0.rect_emb_val t y a).trans (win0_4.rect_emb_val t y a).symm

theorem read1 (t : Fin cfg0.N) (y : S256x2048.Idx) :
    iblk m c 1 t y = m ((c : Thread nD τ).loc main_arg1) (((cfg0.win 4).blk t).view.emb y) := by
  refine (congrFun (V_main_arg1 m c) _).trans (congrArg (m ((c : Thread nD τ).loc main_arg1)) (funext fun a => Fin.ext ?_))
  exact (win0_1.rect_emb_val t y a).trans (win0_4.rect_emb_val t y a).symm

theorem read2 (t : Fin cfg0.N) (y : S256x2048.Idx) :
    iblk m c 2 t y = m ((c : Thread nD τ).loc main_arg2) (((cfg0.win 4).blk t).view.emb y) := by
  refine (congrFun (V_main_arg2 m c) _).trans (congrArg (m ((c : Thread nD τ).loc main_arg2)) (funext fun a => Fin.ext ?_))
  exact (win0_2.rect_emb_val t y a).trans (win0_4.rect_emb_val t y a).symm

theorem read3 (t : Fin cfg0.N) (y : S256x2048.Idx) :
    iblk m c 3 t y = m ((c : Thread nD τ).loc main_arg3) (((cfg0.win 4).blk t).view.emb y) := by
  refine (congrFun (V_main_arg3 m c) _).trans (congrArg (m ((c : Thread nD τ).loc main_arg3)) (funext fun a => Fin.ext ?_))
  exact (win0_3.rect_emb_val t y a).trans (win0_4.rect_emb_val t y a).symm

/-- The weights' change after the run, as a function of the arguments. -/
def changeOf (i : S4096x2048.Idx) : EReal := change (m ((c : Thread nD τ).loc main_arg0) i) (m ((c : Thread nD τ).loc main_arg1) i) (m ((c : Thread nD τ).loc main_arg2) i) (m ((c : Thread nD τ).loc main_arg3) i)

theorem change_block (t : Fin cfg0.N) (y : S256x2048.Idx) :
    out0_4 (F := Ideal) (iblk m c 0 t) (iblk m c 1 t) (iblk m c 2 t) (iblk m c 3 t) y = changeOf m c (((cfg0.win 4).blk t).view.emb y) := by
  refine (change_point _ _ _ _ y).trans ?_
  rw [read0 m c t y, read1 m c t y, read2 m c t y, read3 m c t y]
  rfl

theorem change_final : (dats m 0 c).arrAt 4 cfg0.N = changeOf m c := by
  refine (dats m 0 c).arrAt_eq_of_covers 4 _ (by decide +kernel) fun t hf y => ?_
  rw [after0_4]
  refine (cast_eq _ _).trans ?_
  refine (change_block m c t _).trans ?_
  rfl

/-- The first moment after the run, as a function of the arguments. -/
def firstOf (i : S4096x2048.Idx) : EReal := first (m ((c : Thread nD τ).loc main_arg1) i) (m ((c : Thread nD τ).loc main_arg2) i)

theorem first_block (t : Fin cfg0.N) (y : S256x2048.Idx) :
    out0_5 (F := Ideal) (iblk m c 0 t) (iblk m c 1 t) (iblk m c 2 t) (iblk m c 3 t) y = firstOf m c (((cfg0.win 4).blk t).view.emb y) := by
  refine (first_point (iblk m c 0 t) _ _ (iblk m c 3 t) y).trans ?_
  rw [read1 m c t y, read2 m c t y]
  rfl

theorem first_final : (dats m 0 c).arrAt 5 cfg0.N = firstOf m c := by
  refine (dats m 0 c).arrAt_eq_of_covers 5 _ (by decide +kernel) fun t hf y => ?_
  rw [after0_5]
  refine (cast_eq _ _).trans ?_
  refine (first_block m c t _).trans ?_
  refine congrArg (firstOf m c) (funext fun a => Fin.ext ?_)
  exact (win0_4.rect_emb_val t y a).trans (win0_5.rect_emb_val t y a).symm

/-- The second moment after the run, as a function of the arguments. -/
def secondOf (i : S4096x2048.Idx) : EReal := second (m ((c : Thread nD τ).loc main_arg1) i) (m ((c : Thread nD τ).loc main_arg3) i)

theorem second_block (t : Fin cfg0.N) (y : S256x2048.Idx) :
    out0_6 (F := Ideal) (iblk m c 0 t) (iblk m c 1 t) (iblk m c 2 t) (iblk m c 3 t) y = secondOf m c (((cfg0.win 4).blk t).view.emb y) := by
  refine (second_point (iblk m c 0 t) _ (iblk m c 2 t) _ y).trans ?_
  rw [read1 m c t y, read3 m c t y]
  rfl

theorem second_final : (dats m 0 c).arrAt 6 cfg0.N = secondOf m c := by
  refine (dats m 0 c).arrAt_eq_of_covers 6 _ (by decide +kernel) fun t hf y => ?_
  rw [after0_6]
  refine (cast_eq _ _).trans ?_
  refine (second_block m c t _).trans ?_
  refine congrArg (secondOf m c) (funext fun a => Fin.ext ?_)
  exact (win0_4.rect_emb_val t y a).trans (win0_6.rect_emb_val t y a).symm

/-- The gradient, passed on. -/
theorem gradient_final : (dats m 0 c).arrAt 7 cfg0.N = m ((c : Thread nD τ).loc main_arg1) := by
  refine (dats m 0 c).arrAt_eq_of_covers 7 _ (by decide +kernel) fun t hf y => ?_
  rw [after0_7]
  refine (cast_eq _ _).trans ?_
  refine ((gradient_point (iblk m c 0 t) _ (iblk m c 2 t) (iblk m c 3 t) _).trans (read1 m c t _)).trans ?_
  refine congrArg (m ((c : Thread nD τ).loc main_arg1)) (funext fun a => Fin.ext ?_)
  exact (win0_4.rect_emb_val t y a).trans (win0_7.rect_emb_val t y a).symm

/-- The kernel and the reference end with equal results. -/
theorem algebraic : Cert.algebraic_Kernel22Ideal_Reference22Ideal := by
  intro m g0 m' g' _ hagree
  refine ⟨changeOf m, firstOf m, secondOf m,
    fun c => m ((c : Thread nD τ).loc main_arg1), ?_, ?_⟩
  · refine θ_run_mono (Cert.Kernel22Ideal.Value.run_blocks m g0) fun r h c => ?_
    obtain ⟨r0, r1, r2, r3, ra⟩ := h c
    exact ⟨r0.trans (change_final m c), r1.trans (first_final m c), r2.trans (second_final m c), r3.trans (gradient_final m c), ra⟩
  · refine θ_run_mono (Cert.Reference22Ideal.Value.run m' g') fun r h c => ?_
    obtain ⟨r0, r1, r2, r3, ra⟩ := h c
    obtain ⟨a0, a1, a2, a3⟩ := hagree c
    refine ⟨((r0.trans (Cert.Reference22Ideal.Read.val_main_v23_eq _ _ _ _)).trans (funext fun i => Ref.change_at _ _ _ _ i)).trans ?_,
      ((r1.trans (Cert.Reference22Ideal.Read.val_main_v4_eq _ _)).trans (funext fun i => Ref.first_at _ _ i)).trans ?_,
      ((r2.trans (Cert.Reference22Ideal.Read.val_main_v10_eq _ _)).trans (funext fun i => Ref.second_at _ _ i)).trans ?_, r3.trans a1, ra⟩
    · rw [a0, a1, a2, a3]; rfl
    · rw [a1, a2]; rfl
    · rw [a1, a3]; rfl

end Cert.Adam.InAttn

end
-- ==== Proof.AdamInGate.lean ====
/-
  The optimiser's step for a gating layer's weights of the projection in: kernel and reference compute the same arrays, entry by entry.
-/
module

public import proofs.«01_k».proof.Proof.AdamSpec
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Claim
public import proofs.«01_k».proof.Defs

@[expose] public section

set_option maxRecDepth 16384

noncomputable section

namespace Cert.Adam.InGate.Ref

open Cert.Reference23Ideal Cert.Reference23Ideal.Gen Cert.Reference23Ideal.Read Idealize.ShloMosaic

variable (w g a b : (⟨S4096x1536, .f32⟩ : BufTy).Contents (Elt Ideal))

theorem first_at (i : S4096x1536.Idx) : val_main_v4 g a i = first (g i) (a i) := by
  simp only [val_main_v4_apply, val_main_v3_apply, val_main_v2_apply, val_main_v1_apply, val_main_v0_apply, val_main_cst_apply,
    val_main_cst_0_apply, Ideal.mulf_def, Ideal.addf_def, Ideal.ofBits_def]
  rfl

theorem second_at (i : S4096x1536.Idx) : val_main_v10 g b i = second (g i) (b i) := by
  simp only [val_main_v10_apply, val_main_v9_apply, val_main_v8_apply, val_main_v7_apply, val_main_v6_apply, val_main_v5_apply,
    val_main_cst_1_apply, val_main_cst_2_apply, Ideal.mulf_def, Ideal.addf_def, Ideal.ofBits_def]
  rfl

theorem change_at (i : S4096x1536.Idx) : val_main_v23 w g a b i = change (w i) (g i) (a i) (b i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, first_at, second_at,
    Ideal.mulf_def, Ideal.addf_def, Ideal.hostDivf_def, Ideal.hostUnary_sqrt_def, Ideal.ofBits_def]
  rfl

end Cert.Adam.InGate.Ref

namespace Cert.Adam.InGate

open Cert.Kernel23Ideal Cert.Kernel23Ideal.Gen Idealize.ShloMosaic Idealize.ShloMosaic.TcCoe Cert.Kernel23Ideal.Value

section
variable (b0 b1 b2 b3 : Vec Ideal S256x1536 .f32)

theorem change_point (y : S256x1536.Idx) : out0_4 (F := Ideal) b0 b1 b2 b3 y = change (b0 y) (b1 y) (b2 y) (b3 y) := by
  unfold out0_4
  canon_tiles x h
  obtain rfl : y = x := funext fun a => Fin.ext (by fin_cases a <;> assumption)
  open_payloads
  pointwise
  rfl

theorem first_point (y : S256x1536.Idx) : out0_5 (F := Ideal) b0 b1 b2 b3 y = first (b1 y) (b2 y) := by
  unfold out0_5
  canon_tiles x h
  obtain rfl : y = x := funext fun a => Fin.ext (by fin_cases a <;> assumption)
  open_payloads
  pointwise
  rfl

theorem second_point (y : S256x1536.Idx) : out0_6 (F := Ideal) b0 b1 b2 b3 y = second (b1 y) (b3 y) := by
  unfold out0_6
  canon_tiles x h
  obtain rfl : y = x := funext fun a => Fin.ext (by fin_cases a <;> assumption)
  open_payloads
  pointwise
  rfl

theorem gradient_point (y : S256x1536.Idx) : out0_7 (F := Ideal) b0 b1 b2 b3 y = b1 y := by
  unfold out0_7
  canon_tiles x h
  exact congrArg b1 (funext fun a => Fin.ext (by fin_cases a <;> simp_all [LoadRect.idx, Rect.toLoadRect, Rect.unit]))

end

variable (m : (ℓ : Loc nD τ sig) → Buf (Elt Ideal) ℓ) (c : Dev nD)

theorem read0 (t : Fin cfg0.N) (y : S256x1536.Idx) :
    iblk m c 0 t y = m ((c : Thread nD τ).loc main_arg0) (((cfg0.win 4).blk t).view.emb y) := by
  refine (congrFun (V_main_arg0 m c) _).trans (congrArg (m ((c : Thread nD τ).loc main_arg0)) (funext fun a => Fin.ext ?_))
  exact (win0_0.rect_emb_val t y a).trans (win0_4.rect_emb_val t y a).symm

theorem read1 (t : Fin cfg0.N) (y : S256x1536.Idx) :
    iblk m c 1 t y = m ((c : Thread nD τ).loc main_arg1) (((cfg0.win 4).blk t).view.emb y) := by
  refine (congrFun (V_main_arg1 m c) _).trans (congrArg (m ((c : Thread nD τ).loc main_arg1)) (funext fun a => Fin.ext ?_))
  exact (win0_1.rect_emb_val t y a).trans (win0_4.rect_emb_val t y a).symm

theorem read2 (t : Fin cfg0.N) (y : S256x1536.Idx) :
    iblk m c 2 t y = m ((c : Thread nD τ).loc main_arg2) (((cfg0.win 4).blk t).view.emb y) := by
  refine (congrFun (V_main_arg2 m c) _).trans (congrArg (m ((c : Thread nD τ).loc main_arg2)) (funext fun a => Fin.ext ?_))
  exact (win0_2.rect_emb_val t y a).trans (win0_4.rect_emb_val t y a).symm

theorem read3 (t : Fin cfg0.N) (y : S256x1536.Idx) :
    iblk m c 3 t y = m ((c : Thread nD τ).loc main_arg3) (((cfg0.win 4).blk t).view.emb y) := by
  refine (congrFun (V_main_arg3 m c) _).trans (congrArg (m ((c : Thread nD τ).loc main_arg3)) (funext fun a => Fin.ext ?_))
  exact (win0_3.rect_emb_val t y a).trans (win0_4.rect_emb_val t y a).symm

/-- The weights' change after the run, as a function of the arguments. -/
def changeOf (i : S4096x1536.Idx) : EReal := change (m ((c : Thread nD τ).loc main_arg0) i) (m ((c : Thread nD τ).loc main_arg1) i) (m ((c : Thread nD τ).loc main_arg2) i) (m ((c : Thread nD τ).loc main_arg3) i)

theorem change_block (t : Fin cfg0.N) (y : S256x1536.Idx) :
    out0_4 (F := Ideal) (iblk m c 0 t) (iblk m c 1 t) (iblk m c 2 t) (iblk m c 3 t) y = changeOf m c (((cfg0.win 4).blk t).view.emb y) := by
  refine (change_point _ _ _ _ y).trans ?_
  rw [read0 m c t y, read1 m c t y, read2 m c t y, read3 m c t y]
  rfl

theorem change_final : (dats m 0 c).arrAt 4 cfg0.N = changeOf m c := by
  refine (dats m 0 c).arrAt_eq_of_covers 4 _ (by decide +kernel) fun t hf y => ?_
  rw [after0_4]
  refine (cast_eq _ _).trans ?_
  refine (change_block m c t _).trans ?_
  rfl

/-- The first moment after the run, as a function of the arguments. -/
def firstOf (i : S4096x1536.Idx) : EReal := first (m ((c : Thread nD τ).loc main_arg1) i) (m ((c : Thread nD τ).loc main_arg2) i)

theorem first_block (t : Fin cfg0.N) (y : S256x1536.Idx) :
    out0_5 (F := Ideal) (iblk m c 0 t) (iblk m c 1 t) (iblk m c 2 t) (iblk m c 3 t) y = firstOf m c (((cfg0.win 4).blk t).view.emb y) := by
  refine (first_point (iblk m c 0 t) _ _ (iblk m c 3 t) y).trans ?_
  rw [read1 m c t y, read2 m c t y]
  rfl

theorem first_final : (dats m 0 c).arrAt 5 cfg0.N = firstOf m c := by
  refine (dats m 0 c).arrAt_eq_of_covers 5 _ (by decide +kernel) fun t hf y => ?_
  rw [after0_5]
  refine (cast_eq _ _).trans ?_
  refine (first_block m c t _).trans ?_
  refine congrArg (firstOf m c) (funext fun a => Fin.ext ?_)
  exact (win0_4.rect_emb_val t y a).trans (win0_5.rect_emb_val t y a).symm

/-- The second moment after the run, as a function of the arguments. -/
def secondOf (i : S4096x1536.Idx) : EReal := second (m ((c : Thread nD τ).loc main_arg1) i) (m ((c : Thread nD τ).loc main_arg3) i)

theorem second_block (t : Fin cfg0.N) (y : S256x1536.Idx) :
    out0_6 (F := Ideal) (iblk m c 0 t) (iblk m c 1 t) (iblk m c 2 t) (iblk m c 3 t) y = secondOf m c (((cfg0.win 4).blk t).view.emb y) := by
  refine (second_point (iblk m c 0 t) _ (iblk m c 2 t) _ y).trans ?_
  rw [read1 m c t y, read3 m c t y]
  rfl

theorem second_final : (dats m 0 c).arrAt 6 cfg0.N = secondOf m c := by
  refine (dats m 0 c).arrAt_eq_of_covers 6 _ (by decide +kernel) fun t hf y => ?_
  rw [after0_6]
  refine (cast_eq _ _).trans ?_
  refine (second_block m c t _).trans ?_
  refine congrArg (secondOf m c) (funext fun a => Fin.ext ?_)
  exact (win0_4.rect_emb_val t y a).trans (win0_6.rect_emb_val t y a).symm

/-- The gradient, passed on. -/
theorem gradient_final : (dats m 0 c).arrAt 7 cfg0.N = m ((c : Thread nD τ).loc main_arg1) := by
  refine (dats m 0 c).arrAt_eq_of_covers 7 _ (by decide +kernel) fun t hf y => ?_
  rw [after0_7]
  refine (cast_eq _ _).trans ?_
  refine ((gradient_point (iblk m c 0 t) _ (iblk m c 2 t) (iblk m c 3 t) _).trans (read1 m c t _)).trans ?_
  refine congrArg (m ((c : Thread nD τ).loc main_arg1)) (funext fun a => Fin.ext ?_)
  exact (win0_4.rect_emb_val t y a).trans (win0_7.rect_emb_val t y a).symm

/-- The kernel and the reference end with equal results. -/
theorem algebraic : Cert.algebraic_Kernel23Ideal_Reference23Ideal := by
  intro m g0 m' g' _ hagree
  refine ⟨changeOf m, firstOf m, secondOf m,
    fun c => m ((c : Thread nD τ).loc main_arg1), ?_, ?_⟩
  · refine θ_run_mono (Cert.Kernel23Ideal.Value.run_blocks m g0) fun r h c => ?_
    obtain ⟨r0, r1, r2, r3, ra⟩ := h c
    exact ⟨r0.trans (change_final m c), r1.trans (first_final m c), r2.trans (second_final m c), r3.trans (gradient_final m c), ra⟩
  · refine θ_run_mono (Cert.Reference23Ideal.Value.run m' g') fun r h c => ?_
    obtain ⟨r0, r1, r2, r3, ra⟩ := h c
    obtain ⟨a0, a1, a2, a3⟩ := hagree c
    refine ⟨((r0.trans (Cert.Reference23Ideal.Read.val_main_v23_eq _ _ _ _)).trans (funext fun i => Ref.change_at _ _ _ _ i)).trans ?_,
      ((r1.trans (Cert.Reference23Ideal.Read.val_main_v4_eq _ _)).trans (funext fun i => Ref.first_at _ _ i)).trans ?_,
      ((r2.trans (Cert.Reference23Ideal.Read.val_main_v10_eq _ _)).trans (funext fun i => Ref.second_at _ _ i)).trans ?_, r3.trans a1, ra⟩
    · rw [a0, a1, a2, a3]; rfl
    · rw [a1, a2]; rfl
    · rw [a1, a3]; rfl

end Cert.Adam.InGate

end
-- ==== Proof.AdamOut.lean ====
/-
  The optimiser's step for the weights of a projection out: kernel and reference compute the same arrays, entry by entry.
-/
module

public import proofs.«01_k».proof.Proof.AdamSpec
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Claim
public import proofs.«01_k».proof.Defs

@[expose] public section

set_option maxRecDepth 16384

noncomputable section

namespace Cert.Adam.Out.Ref

open Cert.Reference24Ideal Cert.Reference24Ideal.Gen Cert.Reference24Ideal.Read Idealize.ShloMosaic

variable (w g a b : (⟨S1024x2048, .f32⟩ : BufTy).Contents (Elt Ideal))

theorem first_at (i : S1024x2048.Idx) : val_main_v4 g a i = first (g i) (a i) := by
  simp only [val_main_v4_apply, val_main_v3_apply, val_main_v2_apply, val_main_v1_apply, val_main_v0_apply, val_main_cst_apply,
    val_main_cst_0_apply, Ideal.mulf_def, Ideal.addf_def, Ideal.ofBits_def]
  rfl

theorem second_at (i : S1024x2048.Idx) : val_main_v10 g b i = second (g i) (b i) := by
  simp only [val_main_v10_apply, val_main_v9_apply, val_main_v8_apply, val_main_v7_apply, val_main_v6_apply, val_main_v5_apply,
    val_main_cst_1_apply, val_main_cst_2_apply, Ideal.mulf_def, Ideal.addf_def, Ideal.ofBits_def]
  rfl

theorem change_at (i : S1024x2048.Idx) : val_main_v23 w g a b i = change (w i) (g i) (a i) (b i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, first_at, second_at,
    Ideal.mulf_def, Ideal.addf_def, Ideal.hostDivf_def, Ideal.hostUnary_sqrt_def, Ideal.ofBits_def]
  rfl

end Cert.Adam.Out.Ref

namespace Cert.Adam.Out

open Cert.Kernel24Ideal Cert.Kernel24Ideal.Gen Idealize.ShloMosaic Idealize.ShloMosaic.TcCoe Cert.Kernel24Ideal.Value

section
variable (b0 b1 b2 b3 : Vec Ideal S256x2048 .f32)

theorem change_point (y : S256x2048.Idx) : out0_4 (F := Ideal) b0 b1 b2 b3 y = change (b0 y) (b1 y) (b2 y) (b3 y) := by
  unfold out0_4
  canon_tiles x h
  obtain rfl : y = x := funext fun a => Fin.ext (by fin_cases a <;> assumption)
  open_payloads
  pointwise
  rfl

theorem first_point (y : S256x2048.Idx) : out0_5 (F := Ideal) b0 b1 b2 b3 y = first (b1 y) (b2 y) := by
  unfold out0_5
  canon_tiles x h
  obtain rfl : y = x := funext fun a => Fin.ext (by fin_cases a <;> assumption)
  open_payloads
  pointwise
  rfl

theorem second_point (y : S256x2048.Idx) : out0_6 (F := Ideal) b0 b1 b2 b3 y = second (b1 y) (b3 y) := by
  unfold out0_6
  canon_tiles x h
  obtain rfl : y = x := funext fun a => Fin.ext (by fin_cases a <;> assumption)
  open_payloads
  pointwise
  rfl

theorem gradient_point (y : S256x2048.Idx) : out0_7 (F := Ideal) b0 b1 b2 b3 y = b1 y := by
  unfold out0_7
  canon_tiles x h
  exact congrArg b1 (funext fun a => Fin.ext (by fin_cases a <;> simp_all [LoadRect.idx, Rect.toLoadRect, Rect.unit]))

end

variable (m : (ℓ : Loc nD τ sig) → Buf (Elt Ideal) ℓ) (c : Dev nD)

theorem read0 (t : Fin cfg0.N) (y : S256x2048.Idx) :
    iblk m c 0 t y = m ((c : Thread nD τ).loc main_arg0) (((cfg0.win 4).blk t).view.emb y) := by
  refine (congrFun (V_main_arg0 m c) _).trans (congrArg (m ((c : Thread nD τ).loc main_arg0)) (funext fun a => Fin.ext ?_))
  exact (win0_0.rect_emb_val t y a).trans (win0_4.rect_emb_val t y a).symm

theorem read1 (t : Fin cfg0.N) (y : S256x2048.Idx) :
    iblk m c 1 t y = m ((c : Thread nD τ).loc main_arg1) (((cfg0.win 4).blk t).view.emb y) := by
  refine (congrFun (V_main_arg1 m c) _).trans (congrArg (m ((c : Thread nD τ).loc main_arg1)) (funext fun a => Fin.ext ?_))
  exact (win0_1.rect_emb_val t y a).trans (win0_4.rect_emb_val t y a).symm

theorem read2 (t : Fin cfg0.N) (y : S256x2048.Idx) :
    iblk m c 2 t y = m ((c : Thread nD τ).loc main_arg2) (((cfg0.win 4).blk t).view.emb y) := by
  refine (congrFun (V_main_arg2 m c) _).trans (congrArg (m ((c : Thread nD τ).loc main_arg2)) (funext fun a => Fin.ext ?_))
  exact (win0_2.rect_emb_val t y a).trans (win0_4.rect_emb_val t y a).symm

theorem read3 (t : Fin cfg0.N) (y : S256x2048.Idx) :
    iblk m c 3 t y = m ((c : Thread nD τ).loc main_arg3) (((cfg0.win 4).blk t).view.emb y) := by
  refine (congrFun (V_main_arg3 m c) _).trans (congrArg (m ((c : Thread nD τ).loc main_arg3)) (funext fun a => Fin.ext ?_))
  exact (win0_3.rect_emb_val t y a).trans (win0_4.rect_emb_val t y a).symm

/-- The weights' change after the run, as a function of the arguments. -/
def changeOf (i : S1024x2048.Idx) : EReal := change (m ((c : Thread nD τ).loc main_arg0) i) (m ((c : Thread nD τ).loc main_arg1) i) (m ((c : Thread nD τ).loc main_arg2) i) (m ((c : Thread nD τ).loc main_arg3) i)

theorem change_block (t : Fin cfg0.N) (y : S256x2048.Idx) :
    out0_4 (F := Ideal) (iblk m c 0 t) (iblk m c 1 t) (iblk m c 2 t) (iblk m c 3 t) y = changeOf m c (((cfg0.win 4).blk t).view.emb y) := by
  refine (change_point _ _ _ _ y).trans ?_
  rw [read0 m c t y, read1 m c t y, read2 m c t y, read3 m c t y]
  rfl

theorem change_final : (dats m 0 c).arrAt 4 cfg0.N = changeOf m c := by
  refine (dats m 0 c).arrAt_eq_of_covers 4 _ (by decide +kernel) fun t hf y => ?_
  rw [after0_4]
  refine (cast_eq _ _).trans ?_
  refine (change_block m c t _).trans ?_
  rfl

/-- The first moment after the run, as a function of the arguments. -/
def firstOf (i : S1024x2048.Idx) : EReal := first (m ((c : Thread nD τ).loc main_arg1) i) (m ((c : Thread nD τ).loc main_arg2) i)

theorem first_block (t : Fin cfg0.N) (y : S256x2048.Idx) :
    out0_5 (F := Ideal) (iblk m c 0 t) (iblk m c 1 t) (iblk m c 2 t) (iblk m c 3 t) y = firstOf m c (((cfg0.win 4).blk t).view.emb y) := by
  refine (first_point (iblk m c 0 t) _ _ (iblk m c 3 t) y).trans ?_
  rw [read1 m c t y, read2 m c t y]
  rfl

theorem first_final : (dats m 0 c).arrAt 5 cfg0.N = firstOf m c := by
  refine (dats m 0 c).arrAt_eq_of_covers 5 _ (by decide +kernel) fun t hf y => ?_
  rw [after0_5]
  refine (cast_eq _ _).trans ?_
  refine (first_block m c t _).trans ?_
  refine congrArg (firstOf m c) (funext fun a => Fin.ext ?_)
  exact (win0_4.rect_emb_val t y a).trans (win0_5.rect_emb_val t y a).symm

/-- The second moment after the run, as a function of the arguments. -/
def secondOf (i : S1024x2048.Idx) : EReal := second (m ((c : Thread nD τ).loc main_arg1) i) (m ((c : Thread nD τ).loc main_arg3) i)

theorem second_block (t : Fin cfg0.N) (y : S256x2048.Idx) :
    out0_6 (F := Ideal) (iblk m c 0 t) (iblk m c 1 t) (iblk m c 2 t) (iblk m c 3 t) y = secondOf m c (((cfg0.win 4).blk t).view.emb y) := by
  refine (second_point (iblk m c 0 t) _ (iblk m c 2 t) _ y).trans ?_
  rw [read1 m c t y, read3 m c t y]
  rfl

theorem second_final : (dats m 0 c).arrAt 6 cfg0.N = secondOf m c := by
  refine (dats m 0 c).arrAt_eq_of_covers 6 _ (by decide +kernel) fun t hf y => ?_
  rw [after0_6]
  refine (cast_eq _ _).trans ?_
  refine (second_block m c t _).trans ?_
  refine congrArg (secondOf m c) (funext fun a => Fin.ext ?_)
  exact (win0_4.rect_emb_val t y a).trans (win0_6.rect_emb_val t y a).symm

/-- The gradient, passed on. -/
theorem gradient_final : (dats m 0 c).arrAt 7 cfg0.N = m ((c : Thread nD τ).loc main_arg1) := by
  refine (dats m 0 c).arrAt_eq_of_covers 7 _ (by decide +kernel) fun t hf y => ?_
  rw [after0_7]
  refine (cast_eq _ _).trans ?_
  refine ((gradient_point (iblk m c 0 t) _ (iblk m c 2 t) (iblk m c 3 t) _).trans (read1 m c t _)).trans ?_
  refine congrArg (m ((c : Thread nD τ).loc main_arg1)) (funext fun a => Fin.ext ?_)
  exact (win0_4.rect_emb_val t y a).trans (win0_7.rect_emb_val t y a).symm

/-- The kernel and the reference end with equal results. -/
theorem algebraic : Cert.algebraic_Kernel24Ideal_Reference24Ideal := by
  intro m g0 m' g' _ hagree
  refine ⟨changeOf m, firstOf m, secondOf m,
    fun c => m ((c : Thread nD τ).loc main_arg1), ?_, ?_⟩
  · refine θ_run_mono (Cert.Kernel24Ideal.Value.run_blocks m g0) fun r h c => ?_
    obtain ⟨r0, r1, r2, r3, ra⟩ := h c
    exact ⟨r0.trans (change_final m c), r1.trans (first_final m c), r2.trans (second_final m c), r3.trans (gradient_final m c), ra⟩
  · refine θ_run_mono (Cert.Reference24Ideal.Value.run m' g') fun r h c => ?_
    obtain ⟨r0, r1, r2, r3, ra⟩ := h c
    obtain ⟨a0, a1, a2, a3⟩ := hagree c
    refine ⟨((r0.trans (Cert.Reference24Ideal.Read.val_main_v23_eq _ _ _ _)).trans (funext fun i => Ref.change_at _ _ _ _ i)).trans ?_,
      ((r1.trans (Cert.Reference24Ideal.Read.val_main_v4_eq _ _)).trans (funext fun i => Ref.first_at _ _ i)).trans ?_,
      ((r2.trans (Cert.Reference24Ideal.Read.val_main_v10_eq _ _)).trans (funext fun i => Ref.second_at _ _ i)).trans ?_, r3.trans a1, ra⟩
    · rw [a0, a1, a2, a3]; rfl
    · rw [a1, a2]; rfl
    · rw [a1, a3]; rfl

end Cert.Adam.Out

end
-- ==== Proof.AdamFwd.lean ====
/-
  The optimiser's four calls: the claims under one name each.
-/
module

public import proofs.«01_k».proof.Proof.AdamMod
public import proofs.«01_k».proof.Proof.AdamInAttn
public import proofs.«01_k».proof.Proof.AdamInGate
public import proofs.«01_k».proof.Proof.AdamOut

@[expose] public section

namespace Cert.AdamFwd

theorem algebraic21 : Cert.algebraic_Kernel21Ideal_Reference21Ideal := Cert.Adam.Mod.algebraic
theorem algebraic22 : Cert.algebraic_Kernel22Ideal_Reference22Ideal := Cert.Adam.InAttn.algebraic
theorem algebraic23 : Cert.algebraic_Kernel23Ideal_Reference23Ideal := Cert.Adam.InGate.algebraic
theorem algebraic24 : Cert.algebraic_Kernel24Ideal_Reference24Ideal := Cert.Adam.Out.algebraic

end Cert.AdamFwd
-- ==== Proof.lean ====
/-
  The claim: the kernel's and the reference's frames, the named constants, and the equality of the results at the ideal instance.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Algebra
public import proofs.«01_k».proof.Proof.InDhGate
public import proofs.«01_k».proof.Proof.InDwGate
public import proofs.«01_k».proof.Proof.InDhAttn
public import proofs.«01_k».proof.Proof.InDwAttn
public import proofs.«01_k».proof.Proof.OutDy
public import proofs.«01_k».proof.Proof.OutDw
public import proofs.«01_k».proof.Proof.InFwdGate
public import proofs.«01_k».proof.Proof.InFwdAttn
public import proofs.«01_k».proof.Proof.OutFwd
public import proofs.«01_k».proof.Proof.OutFwdLast
public import proofs.«01_k».proof.Proof.NormAlgebra
public import proofs.«01_k».proof.Proof.Loss
public import proofs.«01_k».proof.Proof.ModDw
public import proofs.«01_k».proof.Proof.NormFwd
public import proofs.«01_k».proof.Proof.ModFirst
public import proofs.«01_k».proof.Proof.ModSecond
public import proofs.«01_k».proof.Proof.GateFwd
public import proofs.«01_k».proof.Proof.MixFwd
public import proofs.«01_k».proof.Proof.AdamFwd
public import Idealize.ShloMosaic.Adequacy
public import Idealize.ShloMosaic.Init

@[expose] public section

noncomputable section

namespace Cert.Proof

open Idealize.ShloMosaic

/-- The two named constants of the activation's derivative stand for the values of their names. -/
theorem preserves : Cert.preserves_Kernel_KernelIdeal :=
  ⟨IdealRules.named_const.statement Cert.KernelIdeal.κ "cubic" .f32 0x3D372713#32 ((8943 / 200000 : ℝ) : EReal) rfl,
    IdealRules.named_const.statement Cert.KernelIdeal.κ "cubic3" .f32 0x3E095D4F#32 ((26829 / 200000 : ℝ) : EReal) rfl⟩

/-- The cubic constant of the gating unit's activation stands for the value of its name. -/
theorem preserves19 : Cert.preserves_Kernel19_Kernel19Ideal :=
  IdealRules.named_const.statement Cert.Kernel19Ideal.κ "cubic" .f32 0x3D372713#32 ((8943 / 200000 : ℝ) : EReal) rfl

/-- The reference's frame: it is a line of host operations and declares no semaphore. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The frame of InDhGate's reference. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The frame of InDwGate's reference. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The frame of InDhAttn's reference. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The frame of InDwAttn's reference. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The frame of OutDy's reference. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The frame of OutDw's reference. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The frame of InFwdGate's reference. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The frame of InFwdAttn's reference. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The frame of OutFwd's reference. -/
theorem frame_reference10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The frame of OutFwdLast's reference. -/
theorem frame_reference11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- The frame of the reference of the modulated norm's gradient. -/
theorem frame_reference12 : Cert.quiescent_Reference12Ideal := fun m ρ _ =>
  (θ_run Cert.Reference12Ideal.defs _ _).mono (fun r h => ⟨fun c => (h c).2.2.2.2.2.2, sem_eq_zero_of_no_sems (by decide) r.2⟩)
    (Cert.Reference12Ideal.Value.run (F := Ideal) m ρ)

/-- The frame of the reference of the first modulated norm's gradient. -/
theorem frame_reference13 : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- The frame of the reference of the loss and its gradient. -/
theorem frame_reference14 : Cert.quiescent_Reference14Ideal := fun m ρ _ =>
  (θ_run Cert.Reference14Ideal.defs _ _).mono (fun r h => ⟨fun c => (h c).2.2.2.2.2, sem_eq_zero_of_no_sems (by decide) r.2⟩)
    (Cert.Reference14Ideal.Value.run (F := Ideal) m ρ)

/-- The frame of the reference of the modulation weights' gradient. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The frame of the reference of the modulated norm. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The frame of the reference of the first modulation projection. -/
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The frame of the reference of the second modulation projection. -/
theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The frame of the reference of the gating unit. -/
theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The frame of the reference of the attention's gate and the short convolution. -/
theorem frame_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- The frame of the reference of the optimiser's step for a modulation's weights. -/
theorem frame_reference21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

/-- The frame of the reference of the optimiser's step for an attention layer's projection in. -/
theorem frame_reference22 : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

/-- The frame of the reference of the optimiser's step for a gating layer's projection in. -/
theorem frame_reference23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The frame of the reference of the optimiser's step for a projection out. -/
theorem frame_reference24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    preserves, algebraic,
    trivial, Cert.InDhGate.algebraic,
    trivial, Cert.InDwGate.algebraic,
    trivial, Cert.InDhAttn.algebraic,
    trivial, Cert.InDwAttn.algebraic,
    trivial, Cert.OutDy.algebraic,
    trivial, Cert.OutDw.algebraic,
    trivial, Cert.InFwdGate.algebraic,
    trivial, Cert.InFwdAttn.algebraic,
    trivial, Cert.OutFwd.algebraic,
    trivial, Cert.OutFwdLast.algebraic,
    trivial, Cert.Norm.algebraic12,
    trivial, Cert.Norm.algebraic13,
    trivial, Cert.Loss.algebraic,
    trivial, Cert.ModDw.algebraic,
    trivial, Cert.NormFwd.algebraic,
    trivial, Cert.ModFirst.algebraic,
    trivial, Cert.ModSecond.algebraic,
    preserves19, Cert.GateFwd.algebraic,
    trivial, Cert.MixFwd.algebraic,
    trivial, Cert.AdamFwd.algebraic21,
    trivial, Cert.AdamFwd.algebraic22,
    trivial, Cert.AdamFwd.algebraic23,
    trivial, Cert.AdamFwd.algebraic24⟩

end Cert.Proof

end
